-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_InFirst (m : (ℓ : Loc Cert.InFirst.nD Cert.InFirst.τ Cert.InFirst.sig) → Buf (Elt Bits) ℓ) : Prop :=
  True

def Pre_InFirstIdeal (m : (ℓ : Loc Cert.InFirstIdeal.nD Cert.InFirstIdeal.τ Cert.InFirstIdeal.sig) → Buf (Elt Ideal) ℓ) : Prop :=
  True

def Pre_InFirstRefIdeal (m : (ℓ : Loc Cert.InFirstRefIdeal.nD Cert.InFirstRefIdeal.τ Cert.InFirstRefIdeal.sig) → Buf (Elt Ideal) ℓ) : Prop :=
  True

def Pre_InNext (m : (ℓ : Loc Cert.InNext.nD Cert.InNext.τ Cert.InNext.sig) → Buf (Elt Bits) ℓ) : Prop :=
  True

def Pre_InNextIdeal (m : (ℓ : Loc Cert.InNextIdeal.nD Cert.InNextIdeal.τ Cert.InNextIdeal.sig) → Buf (Elt Ideal) ℓ) : Prop :=
  True

def Pre_InNextRefIdeal (m : (ℓ : Loc Cert.InNextRefIdeal.nD Cert.InNextRefIdeal.τ Cert.InNextRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkIdeal_finite_u [hPre_finite_u : Cert.Pre_finite_u.Facts] (m : (ℓ : Loc Cert.QkIdeal.nD Cert.QkIdeal.τ Cert.QkIdeal.sig) → Buf (Elt Ideal) ℓ) : Prop :=
  ∀ c : Dev Cert.QkIdeal.nD,
    (Cert.Pre_finite_u.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4))) = (fun _ => 1#1)

def Pre_QkRefIdeal (m : (ℓ : Loc Cert.QkRefIdeal.nD Cert.QkRefIdeal.τ Cert.QkRefIdeal.sig) → Buf (Elt Ideal) ℓ) : Prop :=
  True

def Pre_QkRefIdeal_finite_u [hPre_finite_u : Cert.Pre_finite_u.Facts] (m : (ℓ : Loc Cert.QkRefIdeal.nD Cert.QkRefIdeal.τ Cert.QkRefIdeal.sig) → Buf (Elt Ideal) ℓ) : Prop :=
  ∀ c : Dev Cert.QkRefIdeal.nD,
    (Cert.Pre_finite_u.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3)) (m ((c.tc : Thread Cert.QkRefIdeal.nD Cert.QkRefIdeal.τ).loc Cert.QkRefIdeal.main_arg4))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3)
      ∧ r.2.mem ((c.tc : Thread Cert.Resid.nD Cert.Resid.τ).loc Cert.Resid.main_arg4) = m ((c.tc : Thread Cert.Resid.nD Cert.Resid.τ).loc Cert.Resid.main_arg4))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
      ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3)
      ∧ r.2.mem ((c.tc : Thread Cert.ResidRefIdeal.nD Cert.ResidRefIdeal.τ).loc Cert.ResidRefIdeal.main_arg4) = m ((c.tc : Thread Cert.ResidRefIdeal.nD Cert.ResidRefIdeal.τ).loc Cert.ResidRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15))
      ∧ r.2.sem = fun _ => 0)

def quiescent_InFirst [hInFirst : Cert.InFirst.Facts] : Prop :=
  ∀ (m : (ℓ : Loc Cert.InFirst.nD Cert.InFirst.τ Cert.InFirst.sig) → Buf (Elt Bits) ℓ) (g : Dev Cert.InFirst.nD → PrngReg), Pre_InFirst m →
    θ_run (Cert.InFirst.defs (F := Bits)) (onTc (τ := Cert.InFirst.τ) (Cert.InFirst.main (F := Bits))) ⟨m, fun _ => 0, g⟩ (fun r => (∀ c : Dev Cert.InFirst.nD,
      r.2.mem ((c.tc : Thread Cert.InFirst.nD Cert.InFirst.τ).loc Cert.InFirst.main_arg0) = m ((c.tc : Thread Cert.InFirst.nD Cert.InFirst.τ).loc Cert.InFirst.main_arg0)
      ∧ r.2.mem ((c.tc : Thread Cert.InFirst.nD Cert.InFirst.τ).loc Cert.InFirst.main_arg1) = m ((c.tc : Thread Cert.InFirst.nD Cert.InFirst.τ).loc Cert.InFirst.main_arg1)
      ∧ r.2.mem ((c.tc : Thread Cert.InFirst.nD Cert.InFirst.τ).loc Cert.InFirst.main_arg2) = m ((c.tc : Thread Cert.InFirst.nD Cert.InFirst.τ).loc Cert.InFirst.main_arg2)
      ∧ r.2.mem ((c.tc : Thread Cert.InFirst.nD Cert.InFirst.τ).loc Cert.InFirst.main_arg3) = m ((c.tc : Thread Cert.InFirst.nD Cert.InFirst.τ).loc Cert.InFirst.main_arg3))
      ∧ r.2.sem = fun _ => 0)

def quiescent_InFirstIdeal [hInFirstIdeal : Cert.InFirstIdeal.Facts] : Prop :=
  ∀ (m : (ℓ : Loc Cert.InFirstIdeal.nD Cert.InFirstIdeal.τ Cert.InFirstIdeal.sig) → Buf (Elt Ideal) ℓ) (g : Dev Cert.InFirstIdeal.nD → PrngReg), Pre_InFirstIdeal m →
    θ_run (Cert.InFirstIdeal.defs (F := Ideal)) (onTc (τ := Cert.InFirstIdeal.τ) (Cert.InFirstIdeal.main (F := Ideal))) ⟨m, fun _ => 0, g⟩ (fun r => (∀ c : Dev Cert.InFirstIdeal.nD,
      r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
      ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
      ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
      ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3))
      ∧ r.2.sem = fun _ => 0)

def quiescent_InFirstRefIdeal [hInFirstRefIdeal : Cert.InFirstRefIdeal.Facts] : Prop :=
  ∀ (m : (ℓ : Loc Cert.InFirstRefIdeal.nD Cert.InFirstRefIdeal.τ Cert.InFirstRefIdeal.sig) → Buf (Elt Ideal) ℓ) (g : Dev Cert.InFirstRefIdeal.nD → PrngReg), Pre_InFirstRefIdeal m →
    θ_run (Cert.InFirstRefIdeal.defs (F := Ideal)) (onTc (τ := Cert.InFirstRefIdeal.τ) (Cert.InFirstRefIdeal.main (F := Ideal))) ⟨m, fun _ => 0, g⟩ (fun r => (∀ c : Dev Cert.InFirstRefIdeal.nD,
      r.2.mem ((c.tc : Thread Cert.InFirstRefIdeal.nD Cert.InFirstRefIdeal.τ).loc Cert.InFirstRefIdeal.main_arg0) = m ((c.tc : Thread Cert.InFirstRefIdeal.nD Cert.InFirstRefIdeal.τ).loc Cert.InFirstRefIdeal.main_arg0)
      ∧ r.2.mem ((c.tc : Thread Cert.InFirstRefIdeal.nD Cert.InFirstRefIdeal.τ).loc Cert.InFirstRefIdeal.main_arg1) = m ((c.tc : Thread Cert.InFirstRefIdeal.nD Cert.InFirstRefIdeal.τ).loc Cert.InFirstRefIdeal.main_arg1)
      ∧ r.2.mem ((c.tc : Thread Cert.InFirstRefIdeal.nD Cert.InFirstRefIdeal.τ).loc Cert.InFirstRefIdeal.main_arg2) = m ((c.tc : Thread Cert.InFirstRefIdeal.nD Cert.InFirstRefIdeal.τ).loc Cert.InFirstRefIdeal.main_arg2)
      ∧ r.2.mem ((c.tc : Thread Cert.InFirstRefIdeal.nD Cert.InFirstRefIdeal.τ).loc Cert.InFirstRefIdeal.main_arg3) = m ((c.tc : Thread Cert.InFirstRefIdeal.nD Cert.InFirstRefIdeal.τ).loc Cert.InFirstRefIdeal.main_arg3))
      ∧ r.2.sem = fun _ => 0)

def quiescent_InNext [hInNext : Cert.InNext.Facts] : Prop :=
  ∀ (m : (ℓ : Loc Cert.InNext.nD Cert.InNext.τ Cert.InNext.sig) → Buf (Elt Bits) ℓ) (g : Dev Cert.InNext.nD → PrngReg), Pre_InNext m →
    θ_run (Cert.InNext.defs (F := Bits)) (onTc (τ := Cert.InNext.τ) (Cert.InNext.main (F := Bits))) ⟨m, fun _ => 0, g⟩ (fun r => (∀ c : Dev Cert.InNext.nD,
      r.2.mem ((c.tc : Thread Cert.InNext.nD Cert.InNext.τ).loc Cert.InNext.main_arg0) = m ((c.tc : Thread Cert.InNext.nD Cert.InNext.τ).loc Cert.InNext.main_arg0)
      ∧ r.2.mem ((c.tc : Thread Cert.InNext.nD Cert.InNext.τ).loc Cert.InNext.main_arg1) = m ((c.tc : Thread Cert.InNext.nD Cert.InNext.τ).loc Cert.InNext.main_arg1)
      ∧ r.2.mem ((c.tc : Thread Cert.InNext.nD Cert.InNext.τ).loc Cert.InNext.main_arg2) = m ((c.tc : Thread Cert.InNext.nD Cert.InNext.τ).loc Cert.InNext.main_arg2)
      ∧ r.2.mem ((c.tc : Thread Cert.InNext.nD Cert.InNext.τ).loc Cert.InNext.main_arg3) = m ((c.tc : Thread Cert.InNext.nD Cert.InNext.τ).loc Cert.InNext.main_arg3))
      ∧ r.2.sem = fun _ => 0)

def quiescent_InNextIdeal [hInNextIdeal : Cert.InNextIdeal.Facts] : Prop :=
  ∀ (m : (ℓ : Loc Cert.InNextIdeal.nD Cert.InNextIdeal.τ Cert.InNextIdeal.sig) → Buf (Elt Ideal) ℓ) (g : Dev Cert.InNextIdeal.nD → PrngReg), Pre_InNextIdeal m →
    θ_run (Cert.InNextIdeal.defs (F := Ideal)) (onTc (τ := Cert.InNextIdeal.τ) (Cert.InNextIdeal.main (F := Ideal))) ⟨m, fun _ => 0, g⟩ (fun r => (∀ c : Dev Cert.InNextIdeal.nD,
      r.2.mem ((c.tc : Thread Cert.InNextIdeal.nD Cert.InNextIdeal.τ).loc Cert.InNextIdeal.main_arg0) = m ((c.tc : Thread Cert.InNextIdeal.nD Cert.InNextIdeal.τ).loc Cert.InNextIdeal.main_arg0)
      ∧ r.2.mem ((c.tc : Thread Cert.InNextIdeal.nD Cert.InNextIdeal.τ).loc Cert.InNextIdeal.main_arg1) = m ((c.tc : Thread Cert.InNextIdeal.nD Cert.InNextIdeal.τ).loc Cert.InNextIdeal.main_arg1)
      ∧ r.2.mem ((c.tc : Thread Cert.InNextIdeal.nD Cert.InNextIdeal.τ).loc Cert.InNextIdeal.main_arg2) = m ((c.tc : Thread Cert.InNextIdeal.nD Cert.InNextIdeal.τ).loc Cert.InNextIdeal.main_arg2)
      ∧ r.2.mem ((c.tc : Thread Cert.InNextIdeal.nD Cert.InNextIdeal.τ).loc Cert.InNextIdeal.main_arg3) = m ((c.tc : Thread Cert.InNextIdeal.nD Cert.InNextIdeal.τ).loc Cert.InNextIdeal.main_arg3))
      ∧ r.2.sem = fun _ => 0)

def quiescent_InNextRefIdeal [hInNextRefIdeal : Cert.InNextRefIdeal.Facts] : Prop :=
  ∀ (m : (ℓ : Loc Cert.InNextRefIdeal.nD Cert.InNextRefIdeal.τ Cert.InNextRefIdeal.sig) → Buf (Elt Ideal) ℓ) (g : Dev Cert.InNextRefIdeal.nD → PrngReg), Pre_InNextRefIdeal m →
    θ_run (Cert.InNextRefIdeal.defs (F := Ideal)) (onTc (τ := Cert.InNextRefIdeal.τ) (Cert.InNextRefIdeal.main (F := Ideal))) ⟨m, fun _ => 0, g⟩ (fun r => (∀ c : Dev Cert.InNextRefIdeal.nD,
      r.2.mem ((c.tc : Thread Cert.InNextRefIdeal.nD Cert.InNextRefIdeal.τ).loc Cert.InNextRefIdeal.main_arg0) = m ((c.tc : Thread Cert.InNextRefIdeal.nD Cert.InNextRefIdeal.τ).loc Cert.InNextRefIdeal.main_arg0)
      ∧ r.2.mem ((c.tc : Thread Cert.InNextRefIdeal.nD Cert.InNextRefIdeal.τ).loc Cert.InNextRefIdeal.main_arg1) = m ((c.tc : Thread Cert.InNextRefIdeal.nD Cert.InNextRefIdeal.τ).loc Cert.InNextRefIdeal.main_arg1)
      ∧ r.2.mem ((c.tc : Thread Cert.InNextRefIdeal.nD Cert.InNextRefIdeal.τ).loc Cert.InNextRefIdeal.main_arg2) = m ((c.tc : Thread Cert.InNextRefIdeal.nD Cert.InNextRefIdeal.τ).loc Cert.InNextRefIdeal.main_arg2)
      ∧ r.2.mem ((c.tc : Thread Cert.InNextRefIdeal.nD Cert.InNextRefIdeal.τ).loc Cert.InNextRefIdeal.main_arg3) = m ((c.tc : Thread Cert.InNextRefIdeal.nD Cert.InNextRefIdeal.τ).loc Cert.InNextRefIdeal.main_arg3))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4))
      ∧ r.2.sem = fun _ => 0)

def quiescent_QkIdeal_pre_finite_u [hQkIdeal : Cert.QkIdeal.Facts] [hPre_finite_u : Cert.Pre_finite_u.Facts] : Prop :=
  ∀ (m : (ℓ : Loc Cert.QkIdeal.nD Cert.QkIdeal.τ Cert.QkIdeal.sig) → Buf (Elt Ideal) ℓ) (g : Dev Cert.QkIdeal.nD → PrngReg), Pre_QkIdeal_finite_u m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4))
      ∧ r.2.sem = fun _ => 0)

def quiescent_QkRefIdeal_pre_finite_u [hQkRefIdeal : Cert.QkRefIdeal.Facts] [hPre_finite_u : Cert.Pre_finite_u.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal_finite_u m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v18) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v27)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v27) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)
      ∧ m' ((c.tc : Thread Cert.ResidRefIdeal.nD Cert.ResidRefIdeal.τ).loc Cert.ResidRefIdeal.main_arg4) = m ((c.tc : Thread Cert.ResidIdeal.nD Cert.ResidIdeal.τ).loc Cert.ResidIdeal.main_arg4)) →
    ∃ (v0 : (c : Dev Cert.ResidIdeal.nD) → Buf (Elt Ideal) ((c.tc : Thread Cert.ResidIdeal.nD Cert.ResidIdeal.τ).loc Cert.ResidIdeal.main_v22)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v22) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3)
          ∧ r.2.mem ((c.tc : Thread Cert.ResidIdeal.nD Cert.ResidIdeal.τ).loc Cert.ResidIdeal.main_arg4) = m ((c.tc : Thread Cert.ResidIdeal.nD Cert.ResidIdeal.τ).loc Cert.ResidIdeal.main_arg4))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v46) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3)
          ∧ r.2.mem ((c.tc : Thread Cert.ResidRefIdeal.nD Cert.ResidRefIdeal.τ).loc Cert.ResidRefIdeal.main_arg4) = m' ((c.tc : Thread Cert.ResidRefIdeal.nD Cert.ResidRefIdeal.τ).loc Cert.ResidRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v49) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)) →
    ∃ (v0 : (c : Dev Cert.TailIdeal.nD) → Buf (Elt Ideal) ((c.tc : Thread Cert.TailIdeal.nD Cert.TailIdeal.τ).loc Cert.TailIdeal.main_v55)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v55) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v130) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15))

def preserves_InFirst_InFirstIdeal : Prop :=
  True

def algebraic_InFirstIdeal_InFirstRefIdeal [hInFirstIdeal : Cert.InFirstIdeal.Facts] [hInFirstRefIdeal : Cert.InFirstRefIdeal.Facts] : Prop :=
  ∀ (m : (ℓ : Loc Cert.InFirstIdeal.nD Cert.InFirstIdeal.τ Cert.InFirstIdeal.sig) → Buf (Elt Ideal) ℓ) (g : Dev Cert.InFirstIdeal.nD → PrngReg)
    (m' : (ℓ : Loc Cert.InFirstRefIdeal.nD Cert.InFirstRefIdeal.τ Cert.InFirstRefIdeal.sig) → Buf (Elt Ideal) ℓ) (g' : Dev Cert.InFirstRefIdeal.nD → PrngReg), Pre_InFirstIdeal m →
    (∀ c : Dev Cert.InFirstIdeal.nD,
      m' ((c.tc : Thread Cert.InFirstRefIdeal.nD Cert.InFirstRefIdeal.τ).loc Cert.InFirstRefIdeal.main_arg0) = m ((c.tc : Thread Cert.InFirstIdeal.nD Cert.InFirstIdeal.τ).loc Cert.InFirstIdeal.main_arg0)
      ∧ m' ((c.tc : Thread Cert.InFirstRefIdeal.nD Cert.InFirstRefIdeal.τ).loc Cert.InFirstRefIdeal.main_arg1) = m ((c.tc : Thread Cert.InFirstIdeal.nD Cert.InFirstIdeal.τ).loc Cert.InFirstIdeal.main_arg1)
      ∧ m' ((c.tc : Thread Cert.InFirstRefIdeal.nD Cert.InFirstRefIdeal.τ).loc Cert.InFirstRefIdeal.main_arg2) = m ((c.tc : Thread Cert.InFirstIdeal.nD Cert.InFirstIdeal.τ).loc Cert.InFirstIdeal.main_arg2)
      ∧ m' ((c.tc : Thread Cert.InFirstRefIdeal.nD Cert.InFirstRefIdeal.τ).loc Cert.InFirstRefIdeal.main_arg3) = m ((c.tc : Thread Cert.InFirstIdeal.nD Cert.InFirstIdeal.τ).loc Cert.InFirstIdeal.main_arg3)) →
    ∃ (v0 : (c : Dev Cert.InFirstIdeal.nD) → Buf (Elt Ideal) ((c.tc : Thread Cert.InFirstIdeal.nD Cert.InFirstIdeal.τ).loc Cert.InFirstIdeal.main_v3_0)) (v1 : (c : Dev Cert.InFirstIdeal.nD) → Buf (Elt Ideal) ((c.tc : Thread Cert.InFirstIdeal.nD Cert.InFirstIdeal.τ).loc Cert.InFirstIdeal.main_v3_1)) (v2 : (c : Dev Cert.InFirstIdeal.nD) → Buf (Elt Ideal) ((c.tc : Thread Cert.InFirstIdeal.nD Cert.InFirstIdeal.τ).loc Cert.InFirstIdeal.main_v3_2)) (v3 : (c : Dev Cert.InFirstIdeal.nD) → Buf (Elt Ideal) ((c.tc : Thread Cert.InFirstIdeal.nD Cert.InFirstIdeal.τ).loc Cert.InFirstIdeal.main_v3_3)) (v4 : (c : Dev Cert.InFirstIdeal.nD) → Buf (Elt Ideal) ((c.tc : Thread Cert.InFirstIdeal.nD Cert.InFirstIdeal.τ).loc Cert.InFirstIdeal.main_v3_4)) (v5 : (c : Dev Cert.InFirstIdeal.nD) → Buf (Elt Ideal) ((c.tc : Thread Cert.InFirstIdeal.nD Cert.InFirstIdeal.τ).loc Cert.InFirstIdeal.main_v3_5)) (v6 : (c : Dev Cert.InFirstIdeal.nD) → Buf (Elt Ideal) ((c.tc : Thread Cert.InFirstIdeal.nD Cert.InFirstIdeal.τ).loc Cert.InFirstIdeal.main_v3_6)),
      θ_run (Cert.InFirstIdeal.defs (F := Ideal)) (onTc (τ := Cert.InFirstIdeal.τ) (Cert.InFirstIdeal.main (F := Ideal))) ⟨m, fun _ => 0, g⟩ (fun r => ∀ c : Dev Cert.InFirstIdeal.nD,
          r.2.mem ((c.tc : Thread Cert.InFirstIdeal.nD Cert.InFirstIdeal.τ).loc Cert.InFirstIdeal.main_v3_0) = v0 c
          ∧ r.2.mem ((c.tc : Thread Cert.InFirstIdeal.nD Cert.InFirstIdeal.τ).loc Cert.InFirstIdeal.main_v3_1) = v1 c
          ∧ r.2.mem ((c.tc : Thread Cert.InFirstIdeal.nD Cert.InFirstIdeal.τ).loc Cert.InFirstIdeal.main_v3_2) = v2 c
          ∧ r.2.mem ((c.tc : Thread Cert.InFirstIdeal.nD Cert.InFirstIdeal.τ).loc Cert.InFirstIdeal.main_v3_3) = v3 c
          ∧ r.2.mem ((c.tc : Thread Cert.InFirstIdeal.nD Cert.InFirstIdeal.τ).loc Cert.InFirstIdeal.main_v3_4) = v4 c
          ∧ r.2.mem ((c.tc : Thread Cert.InFirstIdeal.nD Cert.InFirstIdeal.τ).loc Cert.InFirstIdeal.main_v3_5) = v5 c
          ∧ r.2.mem ((c.tc : Thread Cert.InFirstIdeal.nD Cert.InFirstIdeal.τ).loc Cert.InFirstIdeal.main_v3_6) = v6 c
          ∧ r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
          ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1)
          ∧ r.2.mem ((c.tc : Thread Cert.InFirstIdeal.nD Cert.InFirstIdeal.τ).loc Cert.InFirstIdeal.main_arg2) = m ((c.tc : Thread Cert.InFirstIdeal.nD Cert.InFirstIdeal.τ).loc Cert.InFirstIdeal.main_arg2)
          ∧ r.2.mem ((c.tc : Thread Cert.InFirstIdeal.nD Cert.InFirstIdeal.τ).loc Cert.InFirstIdeal.main_arg3) = m ((c.tc : Thread Cert.InFirstIdeal.nD Cert.InFirstIdeal.τ).loc Cert.InFirstIdeal.main_arg3))
      ∧ θ_run (Cert.InFirstRefIdeal.defs (F := Ideal)) (onTc (τ := Cert.InFirstRefIdeal.τ) (Cert.InFirstRefIdeal.main (F := Ideal))) ⟨m', fun _ => 0, g'⟩ (fun r => ∀ c : Dev Cert.InFirstRefIdeal.nD,
          r.2.mem ((c.tc : Thread Cert.InFirstRefIdeal.nD Cert.InFirstRefIdeal.τ).loc Cert.InFirstRefIdeal.main_v23) = v0 c
          ∧ r.2.mem ((c.tc : Thread Cert.InFirstRefIdeal.nD Cert.InFirstRefIdeal.τ).loc Cert.InFirstRefIdeal.main_v25) = v1 c
          ∧ r.2.mem ((c.tc : Thread Cert.InFirstRefIdeal.nD Cert.InFirstRefIdeal.τ).loc Cert.InFirstRefIdeal.main_v26) = v2 c
          ∧ r.2.mem ((c.tc : Thread Cert.InFirstRefIdeal.nD Cert.InFirstRefIdeal.τ).loc Cert.InFirstRefIdeal.main_v32) = v3 c
          ∧ r.2.mem ((c.tc : Thread Cert.InFirstRefIdeal.nD Cert.InFirstRefIdeal.τ).loc Cert.InFirstRefIdeal.main_v28) = v4 c
          ∧ r.2.mem ((c.tc : Thread Cert.InFirstRefIdeal.nD Cert.InFirstRefIdeal.τ).loc Cert.InFirstRefIdeal.main_v29) = v5 c
          ∧ r.2.mem ((c.tc : Thread Cert.InFirstRefIdeal.nD Cert.InFirstRefIdeal.τ).loc Cert.InFirstRefIdeal.main_v30) = v6 c
          ∧ r.2.mem ((c.tc : Thread Cert.InFirstRefIdeal.nD Cert.InFirstRefIdeal.τ).loc Cert.InFirstRefIdeal.main_arg0) = m' ((c.tc : Thread Cert.InFirstRefIdeal.nD Cert.InFirstRefIdeal.τ).loc Cert.InFirstRefIdeal.main_arg0)
          ∧ r.2.mem ((c.tc : Thread Cert.InFirstRefIdeal.nD Cert.InFirstRefIdeal.τ).loc Cert.InFirstRefIdeal.main_arg1) = m' ((c.tc : Thread Cert.InFirstRefIdeal.nD Cert.InFirstRefIdeal.τ).loc Cert.InFirstRefIdeal.main_arg1)
          ∧ r.2.mem ((c.tc : Thread Cert.InFirstRefIdeal.nD Cert.InFirstRefIdeal.τ).loc Cert.InFirstRefIdeal.main_arg2) = m' ((c.tc : Thread Cert.InFirstRefIdeal.nD Cert.InFirstRefIdeal.τ).loc Cert.InFirstRefIdeal.main_arg2)
          ∧ r.2.mem ((c.tc : Thread Cert.InFirstRefIdeal.nD Cert.InFirstRefIdeal.τ).loc Cert.InFirstRefIdeal.main_arg3) = m' ((c.tc : Thread Cert.InFirstRefIdeal.nD Cert.InFirstRefIdeal.τ).loc Cert.InFirstRefIdeal.main_arg3))

def preserves_InNext_InNextIdeal : Prop :=
  True

def algebraic_InNextIdeal_InNextRefIdeal [hInNextIdeal : Cert.InNextIdeal.Facts] [hInNextRefIdeal : Cert.InNextRefIdeal.Facts] : Prop :=
  ∀ (m : (ℓ : Loc Cert.InNextIdeal.nD Cert.InNextIdeal.τ Cert.InNextIdeal.sig) → Buf (Elt Ideal) ℓ) (g : Dev Cert.InNextIdeal.nD → PrngReg)
    (m' : (ℓ : Loc Cert.InNextRefIdeal.nD Cert.InNextRefIdeal.τ Cert.InNextRefIdeal.sig) → Buf (Elt Ideal) ℓ) (g' : Dev Cert.InNextRefIdeal.nD → PrngReg), Pre_InNextIdeal m →
    (∀ c : Dev Cert.InNextIdeal.nD,
      m' ((c.tc : Thread Cert.InNextRefIdeal.nD Cert.InNextRefIdeal.τ).loc Cert.InNextRefIdeal.main_arg0) = m ((c.tc : Thread Cert.InNextIdeal.nD Cert.InNextIdeal.τ).loc Cert.InNextIdeal.main_arg0)
      ∧ m' ((c.tc : Thread Cert.InNextRefIdeal.nD Cert.InNextRefIdeal.τ).loc Cert.InNextRefIdeal.main_arg1) = m ((c.tc : Thread Cert.InNextIdeal.nD Cert.InNextIdeal.τ).loc Cert.InNextIdeal.main_arg1)
      ∧ m' ((c.tc : Thread Cert.InNextRefIdeal.nD Cert.InNextRefIdeal.τ).loc Cert.InNextRefIdeal.main_arg2) = m ((c.tc : Thread Cert.InNextIdeal.nD Cert.InNextIdeal.τ).loc Cert.InNextIdeal.main_arg2)
      ∧ m' ((c.tc : Thread Cert.InNextRefIdeal.nD Cert.InNextRefIdeal.τ).loc Cert.InNextRefIdeal.main_arg3) = m ((c.tc : Thread Cert.InNextIdeal.nD Cert.InNextIdeal.τ).loc Cert.InNextIdeal.main_arg3)) →
    ∃ (v0 : (c : Dev Cert.InNextIdeal.nD) → Buf (Elt Ideal) ((c.tc : Thread Cert.InNextIdeal.nD Cert.InNextIdeal.τ).loc Cert.InNextIdeal.main_v3_0)) (v1 : (c : Dev Cert.InNextIdeal.nD) → Buf (Elt Ideal) ((c.tc : Thread Cert.InNextIdeal.nD Cert.InNextIdeal.τ).loc Cert.InNextIdeal.main_v3_1)) (v2 : (c : Dev Cert.InNextIdeal.nD) → Buf (Elt Ideal) ((c.tc : Thread Cert.InNextIdeal.nD Cert.InNextIdeal.τ).loc Cert.InNextIdeal.main_v3_2)) (v3 : (c : Dev Cert.InNextIdeal.nD) → Buf (Elt Ideal) ((c.tc : Thread Cert.InNextIdeal.nD Cert.InNextIdeal.τ).loc Cert.InNextIdeal.main_v3_3)) (v4 : (c : Dev Cert.InNextIdeal.nD) → Buf (Elt Ideal) ((c.tc : Thread Cert.InNextIdeal.nD Cert.InNextIdeal.τ).loc Cert.InNextIdeal.main_v3_4)) (v5 : (c : Dev Cert.InNextIdeal.nD) → Buf (Elt Ideal) ((c.tc : Thread Cert.InNextIdeal.nD Cert.InNextIdeal.τ).loc Cert.InNextIdeal.main_v3_5)) (v6 : (c : Dev Cert.InNextIdeal.nD) → Buf (Elt Ideal) ((c.tc : Thread Cert.InNextIdeal.nD Cert.InNextIdeal.τ).loc Cert.InNextIdeal.main_v3_6)),
      θ_run (Cert.InNextIdeal.defs (F := Ideal)) (onTc (τ := Cert.InNextIdeal.τ) (Cert.InNextIdeal.main (F := Ideal))) ⟨m, fun _ => 0, g⟩ (fun r => ∀ c : Dev Cert.InNextIdeal.nD,
          r.2.mem ((c.tc : Thread Cert.InNextIdeal.nD Cert.InNextIdeal.τ).loc Cert.InNextIdeal.main_v3_0) = v0 c
          ∧ r.2.mem ((c.tc : Thread Cert.InNextIdeal.nD Cert.InNextIdeal.τ).loc Cert.InNextIdeal.main_v3_1) = v1 c
          ∧ r.2.mem ((c.tc : Thread Cert.InNextIdeal.nD Cert.InNextIdeal.τ).loc Cert.InNextIdeal.main_v3_2) = v2 c
          ∧ r.2.mem ((c.tc : Thread Cert.InNextIdeal.nD Cert.InNextIdeal.τ).loc Cert.InNextIdeal.main_v3_3) = v3 c
          ∧ r.2.mem ((c.tc : Thread Cert.InNextIdeal.nD Cert.InNextIdeal.τ).loc Cert.InNextIdeal.main_v3_4) = v4 c
          ∧ r.2.mem ((c.tc : Thread Cert.InNextIdeal.nD Cert.InNextIdeal.τ).loc Cert.InNextIdeal.main_v3_5) = v5 c
          ∧ r.2.mem ((c.tc : Thread Cert.InNextIdeal.nD Cert.InNextIdeal.τ).loc Cert.InNextIdeal.main_v3_6) = v6 c
          ∧ r.2.mem ((c.tc : Thread Cert.InNextIdeal.nD Cert.InNextIdeal.τ).loc Cert.InNextIdeal.main_arg0) = m ((c.tc : Thread Cert.InNextIdeal.nD Cert.InNextIdeal.τ).loc Cert.InNextIdeal.main_arg0)
          ∧ r.2.mem ((c.tc : Thread Cert.InNextIdeal.nD Cert.InNextIdeal.τ).loc Cert.InNextIdeal.main_arg1) = m ((c.tc : Thread Cert.InNextIdeal.nD Cert.InNextIdeal.τ).loc Cert.InNextIdeal.main_arg1)
          ∧ r.2.mem ((c.tc : Thread Cert.InNextIdeal.nD Cert.InNextIdeal.τ).loc Cert.InNextIdeal.main_arg2) = m ((c.tc : Thread Cert.InNextIdeal.nD Cert.InNextIdeal.τ).loc Cert.InNextIdeal.main_arg2)
          ∧ r.2.mem ((c.tc : Thread Cert.InNextIdeal.nD Cert.InNextIdeal.τ).loc Cert.InNextIdeal.main_arg3) = m ((c.tc : Thread Cert.InNextIdeal.nD Cert.InNextIdeal.τ).loc Cert.InNextIdeal.main_arg3))
      ∧ θ_run (Cert.InNextRefIdeal.defs (F := Ideal)) (onTc (τ := Cert.InNextRefIdeal.τ) (Cert.InNextRefIdeal.main (F := Ideal))) ⟨m', fun _ => 0, g'⟩ (fun r => ∀ c : Dev Cert.InNextRefIdeal.nD,
          r.2.mem ((c.tc : Thread Cert.InNextRefIdeal.nD Cert.InNextRefIdeal.τ).loc Cert.InNextRefIdeal.main_arg0) = v0 c
          ∧ r.2.mem ((c.tc : Thread Cert.InNextRefIdeal.nD Cert.InNextRefIdeal.τ).loc Cert.InNextRefIdeal.main_v1) = v1 c
          ∧ r.2.mem ((c.tc : Thread Cert.InNextRefIdeal.nD Cert.InNextRefIdeal.τ).loc Cert.InNextRefIdeal.main_v2) = v2 c
          ∧ r.2.mem ((c.tc : Thread Cert.InNextRefIdeal.nD Cert.InNextRefIdeal.τ).loc Cert.InNextRefIdeal.main_v8) = v3 c
          ∧ r.2.mem ((c.tc : Thread Cert.InNextRefIdeal.nD Cert.InNextRefIdeal.τ).loc Cert.InNextRefIdeal.main_v4) = v4 c
          ∧ r.2.mem ((c.tc : Thread Cert.InNextRefIdeal.nD Cert.InNextRefIdeal.τ).loc Cert.InNextRefIdeal.main_v5) = v5 c
          ∧ r.2.mem ((c.tc : Thread Cert.InNextRefIdeal.nD Cert.InNextRefIdeal.τ).loc Cert.InNextRefIdeal.main_v6) = v6 c
          ∧ r.2.mem ((c.tc : Thread Cert.InNextRefIdeal.nD Cert.InNextRefIdeal.τ).loc Cert.InNextRefIdeal.main_arg0) = m' ((c.tc : Thread Cert.InNextRefIdeal.nD Cert.InNextRefIdeal.τ).loc Cert.InNextRefIdeal.main_arg0)
          ∧ r.2.mem ((c.tc : Thread Cert.InNextRefIdeal.nD Cert.InNextRefIdeal.τ).loc Cert.InNextRefIdeal.main_arg1) = m' ((c.tc : Thread Cert.InNextRefIdeal.nD Cert.InNextRefIdeal.τ).loc Cert.InNextRefIdeal.main_arg1)
          ∧ r.2.mem ((c.tc : Thread Cert.InNextRefIdeal.nD Cert.InNextRefIdeal.τ).loc Cert.InNextRefIdeal.main_arg2) = m' ((c.tc : Thread Cert.InNextRefIdeal.nD Cert.InNextRefIdeal.τ).loc Cert.InNextRefIdeal.main_arg2)
          ∧ r.2.mem ((c.tc : Thread Cert.InNextRefIdeal.nD Cert.InNextRefIdeal.τ).loc Cert.InNextRefIdeal.main_arg3) = m' ((c.tc : Thread Cert.InNextRefIdeal.nD Cert.InNextRefIdeal.τ).loc Cert.InNextRefIdeal.main_arg3))

def preserves_Qk_QkIdeal : Prop :=
  True

def algebraic_QkIdeal_QkRefIdeal_pre_finite_u [hQkIdeal : Cert.QkIdeal.Facts] [hQkRefIdeal : Cert.QkRefIdeal.Facts] [hPre_finite_u : Cert.Pre_finite_u.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal_finite_u m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)) →
    ∃ (v0 : (c : Dev Cert.QkIdeal.nD) → Buf (Elt Ideal) ((c.tc : Thread Cert.QkIdeal.nD Cert.QkIdeal.τ).loc Cert.QkIdeal.main_v63_0)) (v1 : (c : Dev Cert.QkIdeal.nD) → Buf (Elt Ideal) ((c.tc : Thread Cert.QkIdeal.nD Cert.QkIdeal.τ).loc Cert.QkIdeal.main_v63_1)) (v2 : (c : Dev Cert.QkIdeal.nD) → Buf (Elt Ideal) ((c.tc : Thread Cert.QkIdeal.nD Cert.QkIdeal.τ).loc Cert.QkIdeal.main_v63_2)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v63_0) = v0 c
          ∧ r.2.mem ((c.tc : Thread Cert.QkIdeal.nD Cert.QkIdeal.τ).loc Cert.QkIdeal.main_v63_1) = v1 c
          ∧ r.2.mem ((c.tc : Thread Cert.QkIdeal.nD Cert.QkIdeal.τ).loc Cert.QkIdeal.main_v63_2) = v2 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v139) = v0 c
          ∧ r.2.mem ((c.tc : Thread Cert.QkRefIdeal.nD Cert.QkRefIdeal.τ).loc Cert.QkRefIdeal.main_v141) = v1 c
          ∧ r.2.mem ((c.tc : Thread Cert.QkRefIdeal.nD Cert.QkRefIdeal.τ).loc Cert.QkRefIdeal.main_v143) = v2 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hResid : Cert.Resid.Facts) (hResidIdeal : Cert.ResidIdeal.Facts) (hResidRefIdeal : Cert.ResidRefIdeal.Facts) (hMerge : Cert.Merge.Facts) (hMergeIdeal : Cert.MergeIdeal.Facts) (hMergeRefIdeal : Cert.MergeRefIdeal.Facts) (hTail : Cert.Tail.Facts) (hTailIdeal : Cert.TailIdeal.Facts) (hTailRefIdeal : Cert.TailRefIdeal.Facts) (hInFirst : Cert.InFirst.Facts) (hInFirstIdeal : Cert.InFirstIdeal.Facts) (hInFirstRefIdeal : Cert.InFirstRefIdeal.Facts) (hInNext : Cert.InNext.Facts) (hInNextIdeal : Cert.InNextIdeal.Facts) (hInNextRefIdeal : Cert.InNextRefIdeal.Facts) (hQk : Cert.Qk.Facts) (hQkIdeal : Cert.QkIdeal.Facts) (hQkRefIdeal : Cert.QkRefIdeal.Facts) (hPre_finite_qk : Cert.Pre_finite_qk.Facts) (hPre_finite_u : Cert.Pre_finite_u.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Resid (hResid := hResid)
    ∧ quiescent_ResidIdeal (hResidIdeal := hResidIdeal)
    ∧ quiescent_ResidRefIdeal (hResidRefIdeal := hResidRefIdeal)
    ∧ quiescent_Merge (hMerge := hMerge)
    ∧ quiescent_MergeIdeal (hMergeIdeal := hMergeIdeal)
    ∧ quiescent_MergeRefIdeal (hMergeRefIdeal := hMergeRefIdeal)
    ∧ quiescent_Tail (hTail := hTail)
    ∧ quiescent_TailIdeal (hTailIdeal := hTailIdeal)
    ∧ quiescent_TailRefIdeal (hTailRefIdeal := hTailRefIdeal)
    ∧ quiescent_InFirst (hInFirst := hInFirst)
    ∧ quiescent_InFirstIdeal (hInFirstIdeal := hInFirstIdeal)
    ∧ quiescent_InFirstRefIdeal (hInFirstRefIdeal := hInFirstRefIdeal)
    ∧ quiescent_InNext (hInNext := hInNext)
    ∧ quiescent_InNextIdeal (hInNextIdeal := hInNextIdeal)
    ∧ quiescent_InNextRefIdeal (hInNextRefIdeal := hInNextRefIdeal)
    ∧ quiescent_Qk (hQk := hQk)
    ∧ quiescent_QkIdeal (hQkIdeal := hQkIdeal)
    ∧ quiescent_QkIdeal_pre_finite_u (hQkIdeal := hQkIdeal) (hPre_finite_u := hPre_finite_u)
    ∧ quiescent_QkRefIdeal (hQkRefIdeal := hQkRefIdeal)
    ∧ quiescent_QkRefIdeal_pre_finite_u (hQkRefIdeal := hQkRefIdeal) (hPre_finite_u := hPre_finite_u)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Resid_ResidIdeal
    ∧ algebraic_ResidIdeal_ResidRefIdeal (hResidIdeal := hResidIdeal) (hResidRefIdeal := hResidRefIdeal)
    ∧ preserves_Merge_MergeIdeal
    ∧ algebraic_MergeIdeal_MergeRefIdeal (hMergeIdeal := hMergeIdeal) (hMergeRefIdeal := hMergeRefIdeal)
    ∧ preserves_Tail_TailIdeal
    ∧ algebraic_TailIdeal_TailRefIdeal (hTailIdeal := hTailIdeal) (hTailRefIdeal := hTailRefIdeal)
    ∧ preserves_InFirst_InFirstIdeal
    ∧ algebraic_InFirstIdeal_InFirstRefIdeal (hInFirstIdeal := hInFirstIdeal) (hInFirstRefIdeal := hInFirstRefIdeal)
    ∧ preserves_InNext_InNextIdeal
    ∧ algebraic_InNextIdeal_InNextRefIdeal (hInNextIdeal := hInNextIdeal) (hInNextRefIdeal := hInNextRefIdeal)
    ∧ preserves_Qk_QkIdeal
    ∧ algebraic_QkIdeal_QkRefIdeal_pre_finite_u (hQkIdeal := hQkIdeal) (hQkRefIdeal := hQkRefIdeal) (hPre_finite_u := hPre_finite_u)
-- ==== Pre_finite_qk.lean ====
abbrev S8x4x4096x64 : Shape := ⟨4, ![8, 4, 4096, 64]⟩
abbrev S8x2x4096x64 : Shape := ⟨4, ![8, 2, 4096, 64]⟩
abbrev S_ : Shape := ⟨0, ![]⟩

class Facts : Prop where
  bitsLt_bf16_f32 : FTy.bits .bf16 < FTy.bits .f32
  bcast_S_S8x4x4096x64 : S_.BroadcastsInDim S8x4x4096x64 (![] : Fin 0 → Fin S8x4x4096x64.rank)
  reducesTo_S8x4x4096x64_S_d0_1_2_3 : S8x4x4096x64.ReducesTo [0, 1, 2, 3] S_
  h_S_ : 0 < S_.numel
  bcast_S_S8x2x4096x64 : S_.BroadcastsInDim S8x2x4096x64 (![] : Fin 0 → Fin S8x2x4096x64.rank)
  reducesTo_S8x2x4096x64_S_d0_1_2_3 : S8x2x4096x64.ReducesTo [0, 1, 2, 3] S_

variable [Facts]

def fn {F : FTy → Type} [FloatOps F] (main_arg0 : FVec F S8x4x4096x64 .bf16) (main_arg1 : FVec F S8x2x4096x64 .bf16) (main_arg2 : FVec F S8x2x4096x64 .bf16) : IVec S_ 1 :=
  let main_v0 : FVec F S8x4x4096x64 .f32 := (extf .f32 · bitsLt_bf16_f32) main_arg0
  let main_v1 : FVec F S8x4x4096x64 .f32 := Host.absf main_v0
  let main_cst : FVec F S_ .f32 := constant S_ .f32 0x7F800000#32
  let main_v2 : FVec F S8x4x4096x64 .f32 := broadcastInDim S8x4x4096x64 ![] bcast_S_S8x4x4096x64 main_cst
  let main_v3 : IVec S8x4x4096x64 1 := cmpf .olt main_v1 main_v2
  let main_c : IVec S_ 1 := constantI S_ 1 1#1
  let main_v4 : IVec S_ 1 := (fun x v => Host.reduce IntOp.andi x v reducesTo_S8x4x4096x64_S_d0_1_2_3 h_S_) main_v3 main_c
  let main_v5 : FVec F S8x2x4096x64 .f32 := (extf .f32 · bitsLt_bf16_f32) main_arg1
  let main_v6 : FVec F S8x2x4096x64 .f32 := Host.absf main_v5
  let main_cst_0 : FVec F S_ .f32 := constant S_ .f32 0x7F800000#32
  let main_v7 : FVec F S8x2x4096x64 .f32 := broadcastInDim S8x2x4096x64 ![] bcast_S_S8x2x4096x64 main_cst_0
  let main_v8 : IVec S8x2x4096x64 1 := cmpf .olt main_v6 main_v7
  let main_c_1 : IVec S_ 1 := constantI S_ 1 1#1
  let main_v9 : IVec S_ 1 := (fun x v => Host.reduce IntOp.andi x v reducesTo_S8x2x4096x64_S_d0_1_2_3 h_S_) main_v8 main_c_1
  let main_v10 : IVec S_ 1 := andi main_v4 main_v9
  main_v10
-- ==== Pre_finite_u.lean ====
abbrev S8x4096x256 : Shape := ⟨3, ![8, 4096, 256]⟩
abbrev S8x4096x128 : Shape := ⟨3, ![8, 4096, 128]⟩
abbrev S64 : Shape := ⟨1, ![64]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x256 .f32) (main_arg1 : FVec F S8x4096x128 .f32) (main_arg2 : FVec F S8x4096x128 .f32) (main_arg3 : FVec F S64 .f32) (main_arg4 : FVec F S64 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Attn.lean ====
abbrev S8x4x4096x64 : Shape := ⟨4, ![8, 4, 4096, 64]⟩
abbrev S8x2x4096x64 : Shape := ⟨4, ![8, 2, 4096, 64]⟩
abbrev S8x2x2x4096x64 : Shape := ⟨5, ![8, 2, 2, 4096, 64]⟩
abbrev S8x4096x256 : Shape := ⟨3, ![8, 4096, 256]⟩
abbrev S1x1x2x128x64 : Shape := ⟨5, ![1, 1, 2, 128, 64]⟩
abbrev S1x1x4096x64 : Shape := ⟨4, ![1, 1, 4096, 64]⟩
abbrev S1x128x128 : Shape := ⟨3, ![1, 128, 128]⟩
abbrev S2x128x64 : Shape := ⟨3, ![2, 128, 64]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S128x64 : Shape := ⟨2, ![128, 64]⟩
abbrev S1x128x64 : Shape := ⟨3, ![1, 128, 64]⟩

abbrev nBuf : Space → Nat
  | .hbm => 5
  | .vmem => 8
  | .smem => 0
  | _ => 0

abbrev bufTy : (tb : Table) → Fin (tcTables nBuf tb) → BufTy
  | .hbm, ⟨0, _⟩ => ⟨S8x4x4096x64, .bf16⟩
  | .hbm, ⟨1, _⟩ => ⟨S8x2x4096x64, .bf16⟩
  | .hbm, ⟨2, _⟩ => ⟨S8x2x4096x64, .bf16⟩
  | .hbm, ⟨3, _⟩ => ⟨S8x2x2x4096x64, .bf16⟩
  | .hbm, ⟨4, _⟩ => ⟨S8x4096x256, .f32⟩
  | .local _ .vmem, ⟨0, _⟩ => ⟨S1x1x2x128x64, .bf16⟩
  | .local _ .vmem, ⟨1, _⟩ => ⟨S1x1x2x128x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S1x128x128, .f32⟩
  | .local _ .vmem, ⟨7, _⟩ => ⟨S1x128x128, .f32⟩
  | _, _ => ⟨S8x4x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x4x4096x64 : Shape := ⟨4, ![8, 4, 4096, 64]⟩
abbrev S8x2x4096x64 : Shape := ⟨4, ![8, 2, 4096, 64]⟩
abbrev S8x2x2x4096x64 : Shape := ⟨5, ![8, 2, 2, 4096, 64]⟩
abbrev S8x2x2x4096x4096 : Shape := ⟨5, ![8, 2, 2, 4096, 4096]⟩
abbrev S_ : Shape := ⟨0, ![]⟩
abbrev S8x2x2x4096 : Shape := ⟨4, ![8, 2, 2, 4096]⟩
abbrev S8x2x2x4096x1 : Shape := ⟨5, ![8, 2, 2, 4096, 1]⟩
abbrev S8x2x64x2x4096 : Shape := ⟨5, ![8, 2, 64, 2, 4096]⟩
abbrev S8x4096x2x2x64 : Shape := ⟨5, ![8, 4096, 2, 2, 64]⟩
abbrev S8x4096x256 : Shape := ⟨3, ![8, 4096, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x4x4096x64, .bf16⟩
  | .hbm, ⟨1, _⟩ => ⟨S8x2x4096x64, .bf16⟩
  | .hbm, ⟨2, _⟩ => ⟨S8x2x4096x64, .bf16⟩
  | .hbm, ⟨3, _⟩ => ⟨S8x4x4096x64, .f32⟩
  | .hbm, ⟨4, _⟩ => ⟨S8x2x2x4096x64, .f32⟩
  | .hbm, ⟨5, _⟩ => ⟨S8x2x4096x64, .f32⟩
  | .hbm, ⟨6, _⟩ => ⟨S8x2x4096x64, .f32⟩
  | .hbm, ⟨7, _⟩ => ⟨S8x2x2x4096x4096, .f32⟩
  | .hbm, ⟨8, _⟩ => ⟨S_, .f32⟩
  | .hbm, ⟨9, _⟩ => ⟨S8x2x2x4096, .f32⟩
  | .hbm, ⟨10, _⟩ => ⟨S_, .f32⟩
  | .hbm, ⟨11, _⟩ => ⟨S8x2x2x4096, .f32⟩
  | .hbm, ⟨12, _⟩ => ⟨S8x2x2x4096, .f32⟩
  | .hbm, ⟨13, _⟩ => ⟨S8x2x2x4096x1, .f32⟩
  | .hbm, ⟨14, _⟩ => ⟨S8x2x2x4096x4096, .f32⟩
  | .hbm, ⟨15, _⟩ => ⟨S8x2x2x4096x4096, .f32⟩
  | .hbm, ⟨16, _⟩ => ⟨S8x2x2x4096x4096, .f32⟩
  | .hbm, ⟨17, _⟩ => ⟨S_, .f32⟩
  | .hbm, ⟨18, _⟩ => ⟨S8x2x2x4096, .f32⟩
  | .hbm, ⟨19, _⟩ => ⟨S8x2x2x4096x1, .f32⟩
  | .hbm, ⟨20, _⟩ => ⟨S8x2x2x4096x4096, .f32⟩
  | .hbm, ⟨21, _⟩ => ⟨S8x2x2x4096x4096, .f32⟩
  | .hbm, ⟨22, _⟩ => ⟨S8x2x64x2x4096, .f32⟩
  | .hbm, ⟨23, _⟩ => ⟨S8x4096x2x2x64, .f32⟩
  | .hbm, ⟨24, _⟩ => ⟨S8x4096x256, .f32⟩
  | _, _ => ⟨S8x4x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Ffn.lean ====
abbrev S8x4096x1024 : Shape := ⟨3, ![8, 4096, 1024]⟩
abbrev S1024x16 : Shape := ⟨2, ![1024, 16]⟩
abbrev S16 : Shape := ⟨1, ![16]⟩
abbrev S16x1024x1024 : Shape := ⟨3, ![16, 1024, 1024]⟩
abbrev S8x4096x16 : Shape := ⟨3, ![8, 4096, 16]⟩
abbrev S1x1x16 : Shape := ⟨3, ![1, 1, 16]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8x16x512x1 : Shape := ⟨4, ![8, 16, 512, 1]⟩
abbrev S8x16x512x1024 : Shape := ⟨4, ![8, 16, 512, 1024]⟩
abbrev S1x1x512x1024 : Shape := ⟨4, ![1, 1, 512, 1024]⟩
abbrev S1x1x512x1 : Shape := ⟨4, ![1, 1, 512, 1]⟩
abbrev S1x1024x1024 : Shape := ⟨3, ![1, 1024, 1024]⟩
abbrev S512x1024 : Shape := ⟨2, ![512, 1024]⟩
abbrev S1024x1024 : Shape := ⟨2, ![1024, 1024]⟩
abbrev S512x1 : Shape := ⟨2, ![512, 1]⟩

abbrev nBuf : Space → Nat
  | .hbm => 41
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S16x1024x1024, .bf16⟩
  | .hbm, ⟨7, _⟩ => ⟨S16x1024x1024, .bf16⟩
  | .hbm, ⟨8, _⟩ => ⟨S16x1024x1024, .bf16⟩
  | .hbm, ⟨9, _⟩ => ⟨S8x4096x16, .f32⟩
  | .hbm, ⟨10, _⟩ => ⟨S1x1x16, .f32⟩
  | .hbm, ⟨11, _⟩ => ⟨S8x4096x16, .f32⟩
  | .hbm, ⟨12, _⟩ => ⟨S8x4096x16, .f32⟩
  | .hbm, ⟨13, _⟩ => ⟨S_, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S8x4096, .f32⟩
  | .hbm, ⟨18, _⟩ => ⟨S8x4096x1, .f32⟩
  | .hbm, ⟨19, _⟩ => ⟨S8x4096x16, .f32⟩
  | .hbm, ⟨20, _⟩ => ⟨S8x4096x16, .f32⟩
  | .hbm, ⟨21, _⟩ => ⟨S8x4096x16, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x16, .f32⟩
  | .hbm, ⟨26, _⟩ => ⟨S8x4096x16, .f32⟩
  | .hbm, ⟨27, _⟩ => ⟨S8x16x4096, .f32⟩
  | .hbm, ⟨28, _⟩ => ⟨S8x16x512, .f32⟩
  | .hbm, ⟨29, _⟩ => ⟨S8x16x512, .i32⟩
  | .hbm, ⟨30, _⟩ => ⟨S_, .i32⟩
  | .hbm, ⟨31, _⟩ => ⟨S8x16x512, .i32⟩
  | .hbm, ⟨32, _⟩ => ⟨S8x16x512, .i1⟩
  | .hbm, ⟨33, _⟩ => ⟨S_, .i32⟩
  | .hbm, ⟨34, _⟩ => ⟨S8x16x512, .i32⟩
  | .hbm, ⟨35, _⟩ => ⟨S8x16x512, .i32⟩
  | .hbm, ⟨36, _⟩ => ⟨S8x16x512, .i32⟩
  | .hbm, ⟨37, _⟩ => ⟨S8x16x512x1, .i32⟩
  | .hbm, ⟨38, _⟩ => ⟨S8x16x512x1024, .f32⟩
  | .hbm, ⟨39, _⟩ => ⟨S8x16x512x1, .f32⟩
  | .hbm, ⟨40, _⟩ => ⟨S8x16x512x1024, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x1x512x1, .f32⟩
  | .local _ .vmem, ⟨3, _⟩ => ⟨S1x1x512x1, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x512x1024, .f32⟩
  | .local _ .vmem, ⟨11, _⟩ => ⟨S1x1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8x4096x1024 : Shape := ⟨3, ![8, 4096, 1024]⟩
abbrev S1024x16 : Shape := ⟨2, ![1024, 16]⟩
abbrev S16 : Shape := ⟨1, ![16]⟩
abbrev S16x1024x1024 : Shape := ⟨3, ![16, 1024, 1024]⟩
abbrev S8x4096x16 : Shape := ⟨3, ![8, 4096, 16]⟩
abbrev S1x1x16 : Shape := ⟨3, ![1, 1, 16]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8x16x512x1 : Shape := ⟨4, ![8, 16, 512, 1]⟩
abbrev S8x16x512x1024 : Shape := ⟨4, ![8, 16, 512, 1024]⟩
abbrev S16x1024x8x512 : Shape := ⟨4, ![16, 1024, 8, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x16, .f32⟩
  | .hbm, ⟨2, _⟩ => ⟨S16, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S8x4096x16, .f32⟩
  | .hbm, ⟨7, _⟩ => ⟨S1x1x16, .f32⟩
  | .hbm, ⟨8, _⟩ => ⟨S8x4096x16, .f32⟩
  | .hbm, ⟨9, _⟩ => ⟨S8x4096x16, .f32⟩
  | .hbm, ⟨10, _⟩ => ⟨S_, .f32⟩
  | .hbm, ⟨11, _⟩ => ⟨S8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096x1, .f32⟩
  | .hbm, ⟨16, _⟩ => ⟨S8x4096x16, .f32⟩
  | .hbm, ⟨17, _⟩ => ⟨S8x4096x16, .f32⟩
  | .hbm, ⟨18, _⟩ => ⟨S8x4096x16, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x16, .f32⟩
  | .hbm, ⟨23, _⟩ => ⟨S8x4096x16, .f32⟩
  | .hbm, ⟨24, _⟩ => ⟨S8x16x4096, .f32⟩
  | .hbm, ⟨25, _⟩ => ⟨S8x16x512, .f32⟩
  | .hbm, ⟨26, _⟩ => ⟨S8x16x512, .i32⟩
  | .hbm, ⟨27, _⟩ => ⟨S_, .i32⟩
  | .hbm, ⟨28, _⟩ => ⟨S8x16x512, .i32⟩
  | .hbm, ⟨29, _⟩ => ⟨S8x16x512, .i1⟩
  | .hbm, ⟨30, _⟩ => ⟨S_, .i32⟩
  | .hbm, ⟨31, _⟩ => ⟨S8x16x512, .i32⟩
  | .hbm, ⟨32, _⟩ => ⟨S8x16x512, .i32⟩
  | .hbm, ⟨33, _⟩ => ⟨S8x16x512, .i32⟩
  | .hbm, ⟨34, _⟩ => ⟨S8x16x512x1, .i32⟩
  | .hbm, ⟨35, _⟩ => ⟨S8x16x512x1024, .f32⟩
  | .hbm, ⟨36, _⟩ => ⟨S16x1024x8x512, .f32⟩
  | .hbm, ⟨37, _⟩ => ⟨S8x16x512x1024, .f32⟩
  | .hbm, ⟨38, _⟩ => ⟨S8x16x512x1024, .f32⟩
  | .hbm, ⟨39, _⟩ => ⟨S8x16x512x1024, .f32⟩
  | .hbm, ⟨40, _⟩ => ⟨S_, .f32⟩
  | .hbm, ⟨41, _⟩ => ⟨S8x16x512x1024, .f32⟩
  | .hbm, ⟨42, _⟩ => ⟨S8x16x512x1024, .f32⟩
  | .hbm, ⟨43, _⟩ => ⟨S_, .f32⟩
  | .hbm, ⟨44, _⟩ => ⟨S8x16x512x1024, .f32⟩
  | .hbm, ⟨45, _⟩ => ⟨S8x16x512x1024, .f32⟩
  | .hbm, ⟨46, _⟩ => ⟨S8x16x512x1024, .f32⟩
  | .hbm, ⟨47, _⟩ => ⟨S16x1024x8x512, .f32⟩
  | .hbm, ⟨48, _⟩ => ⟨S8x16x512x1024, .f32⟩
  | .hbm, ⟨49, _⟩ => ⟨S8x16x512x1024, .f32⟩
  | .hbm, ⟨50, _⟩ => ⟨S16x1024x8x512, .f32⟩
  | .hbm, ⟨51, _⟩ => ⟨S8x16x512x1024, .f32⟩
  | .hbm, ⟨52, _⟩ => ⟨S8x16x512x1, .f32⟩
  | .hbm, ⟨53, _⟩ => ⟨S8x16x512x1024, .f32⟩
  | .hbm, ⟨54, _⟩ => ⟨S8x16x512x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Resid.lean ====
abbrev S8x4096x1024 : Shape := ⟨3, ![8, 4096, 1024]⟩
abbrev S8x16x512x1024 : Shape := ⟨4, ![8, 16, 512, 1024]⟩
abbrev S8x16x512 : Shape := ⟨3, ![8, 16, 512]⟩
abbrev S1024 : Shape := ⟨1, ![1024]⟩
abbrev S_ : Shape := ⟨0, ![]⟩
abbrev S8 : Shape := ⟨1, ![8]⟩
abbrev S8x1 : Shape := ⟨2, ![8, 1]⟩
abbrev S8x8192 : Shape := ⟨2, ![8, 8192]⟩
abbrev S8x8192x1024 : Shape := ⟨3, ![8, 8192, 1024]⟩
abbrev S8x8192x1 : Shape := ⟨3, ![8, 8192, 1]⟩
abbrev S8x8192x2 : Shape := ⟨3, ![8, 8192, 2]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x16x512x1024, .f32⟩
  | .hbm, ⟨2, _⟩ => ⟨S8x16x512, .i32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x4096x1024, .f32⟩
  | .hbm, ⟨7, _⟩ => ⟨S8, .i32⟩
  | .hbm, ⟨8, _⟩ => ⟨S8x1, .i32⟩
  | .hbm, ⟨9, _⟩ => ⟨S8x8192, .i32⟩
  | .hbm, ⟨10, _⟩ => ⟨S8x8192x1024, .f32⟩
  | .hbm, ⟨11, _⟩ => ⟨S_, .i32⟩
  | .hbm, ⟨12, _⟩ => ⟨S8x1, .i32⟩
  | .hbm, ⟨13, _⟩ => ⟨S8x1, .i1⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x1, .i32⟩
  | .hbm, ⟨18, _⟩ => ⟨S_, .i32⟩
  | .hbm, ⟨19, _⟩ => ⟨S8x8192, .i32⟩
  | .hbm, ⟨20, _⟩ => ⟨S8x8192, .i1⟩
  | .hbm, ⟨21, _⟩ => ⟨S_, .i32⟩
  | .hbm, ⟨22, _⟩ => ⟨S8x8192, .i32⟩
  | .hbm, ⟨23, _⟩ => ⟨S8x8192, .i32⟩
  | .hbm, ⟨24, _⟩ => ⟨S8x8192, .i32⟩
  | .hbm, ⟨25, _⟩ => ⟨S8x8192, .i32⟩
  | .hbm, ⟨26, _⟩ => ⟨S8x8192x1, .i32⟩
  | .hbm, ⟨27, _⟩ => ⟨S8x8192x1, .i32⟩
  | .hbm, ⟨28, _⟩ => ⟨S8x8192x2, .i32⟩
  | .hbm, ⟨29, _⟩ => ⟨S8x4096x1024, .f32⟩
  | .hbm, ⟨30, _⟩ => ⟨S1x1024, .f32⟩
  | .hbm, ⟨31, _⟩ => ⟨S1x1024, .f32⟩
  | .hbm, ⟨32, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ResidRefIdeal.lean ====
abbrev S8x4096x1024 : Shape := ⟨3, ![8, 4096, 1024]⟩
abbrev S8x16x512x1024 : Shape := ⟨4, ![8, 16, 512, 1024]⟩
abbrev S8x16x512 : Shape := ⟨3, ![8, 16, 512]⟩
abbrev S1024 : Shape := ⟨1, ![1024]⟩
abbrev S_ : Shape := ⟨0, ![]⟩
abbrev S8 : Shape := ⟨1, ![8]⟩
abbrev S8x1 : Shape := ⟨2, ![8, 1]⟩
abbrev S8x8192 : Shape := ⟨2, ![8, 8192]⟩
abbrev S8x8192x1024 : Shape := ⟨3, ![8, 8192, 1024]⟩
abbrev S8x8192x1 : Shape := ⟨3, ![8, 8192, 1]⟩
abbrev S8x8192x2 : Shape := ⟨3, ![8, 8192, 2]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x16x512x1024, .f32⟩
  | .hbm, ⟨2, _⟩ => ⟨S8x16x512, .i32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x4096x1024, .f32⟩
  | .hbm, ⟨7, _⟩ => ⟨S8, .i32⟩
  | .hbm, ⟨8, _⟩ => ⟨S8x1, .i32⟩
  | .hbm, ⟨9, _⟩ => ⟨S8x8192, .i32⟩
  | .hbm, ⟨10, _⟩ => ⟨S8x8192x1024, .f32⟩
  | .hbm, ⟨11, _⟩ => ⟨S_, .i32⟩
  | .hbm, ⟨12, _⟩ => ⟨S8x1, .i32⟩
  | .hbm, ⟨13, _⟩ => ⟨S8x1, .i1⟩
  | .hbm, ⟨14, _⟩ => ⟨S_, .i32⟩
  | .hbm, ⟨15, _⟩ => ⟨S8x1, .i32⟩
  | .hbm, ⟨16, _⟩ => ⟨S8x1, .i32⟩
  | .hbm, ⟨17, _⟩ => ⟨S8x1, .i32⟩
  | .hbm, ⟨18, _⟩ => ⟨S_, .i32⟩
  | .hbm, ⟨19, _⟩ => ⟨S8x8192, .i32⟩
  | .hbm, ⟨20, _⟩ => ⟨S8x8192, .i1⟩
  | .hbm, ⟨21, _⟩ => ⟨S_, .i32⟩
  | .hbm, ⟨22, _⟩ => ⟨S8x8192, .i32⟩
  | .hbm, ⟨23, _⟩ => ⟨S8x8192, .i32⟩
  | .hbm, ⟨24, _⟩ => ⟨S8x8192, .i32⟩
  | .hbm, ⟨25, _⟩ => ⟨S8x8192, .i32⟩
  | .hbm, ⟨26, _⟩ => ⟨S8x8192x1, .i32⟩
  | .hbm, ⟨27, _⟩ => ⟨S8x8192x1, .i32⟩
  | .hbm, ⟨28, _⟩ => ⟨S8x8192x2, .i32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S1x1x1024, .f32⟩
  | .hbm, ⟨61, _⟩ => ⟨S8x4096x1024, .f32⟩
  | .hbm, ⟨62, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Merge.lean ====
abbrev S8x4096x256 : Shape := ⟨3, ![8, 4096, 256]⟩
abbrev S4096x2048 : Shape := ⟨2, ![4096, 2048]⟩
abbrev S8x4096x1024 : Shape := ⟨3, ![8, 4096, 1024]⟩
abbrev S1024 : Shape := ⟨1, ![1024]⟩
abbrev S1024x1024 : Shape := ⟨2, ![1024, 1024]⟩
abbrev S1x1024 : Shape := ⟨2, ![1, 1024]⟩
abbrev S1x512x256 : Shape := ⟨3, ![1, 512, 256]⟩
abbrev S512x256 : Shape := ⟨2, ![512, 256]⟩
abbrev S1x512x1024 : Shape := ⟨3, ![1, 512, 1024]⟩
abbrev S512 : Shape := ⟨1, ![512]⟩
abbrev S512x1 : Shape := ⟨2, ![512, 1]⟩
abbrev S1x256 : Shape := ⟨2, ![1, 256]⟩
abbrev S512x1024 : Shape := ⟨2, ![512, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S4096x2048, .f32⟩
  | .hbm, ⟨3, _⟩ => ⟨S8x4096x256, .f32⟩
  | .hbm, ⟨4, _⟩ => ⟨S8x4096x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8x4096x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8x4096x256 : Shape := ⟨3, ![8, 4096, 256]⟩
abbrev S4096x2048 : Shape := ⟨2, ![4096, 2048]⟩
abbrev S8x4096x1024 : Shape := ⟨3, ![8, 4096, 1024]⟩
abbrev S1024 : Shape := ⟨1, ![1024]⟩
abbrev S1024x1024 : Shape := ⟨2, ![1024, 1024]⟩
abbrev S4096x8x256 : Shape := ⟨3, ![4096, 8, 256]⟩
abbrev S8x4096x1x256 : Shape := ⟨4, ![8, 4096, 1, 256]⟩
abbrev S8x4096x4x256 : Shape := ⟨4, ![8, 4096, 4, 256]⟩
abbrev S4x256 : Shape := ⟨2, ![4, 256]⟩
abbrev S_ : Shape := ⟨0, ![]⟩
abbrev S8x4096x4 : Shape := ⟨3, ![8, 4096, 4]⟩
abbrev S8x4096x4x1 : Shape := ⟨4, ![8, 4096, 4, 1]⟩
abbrev S1x1x4x256 : Shape := ⟨4, ![1, 1, 4, 256]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S4096x2048, .f32⟩
  | .hbm, ⟨3, _⟩ => ⟨S8x4096x256, .f32⟩
  | .hbm, ⟨4, _⟩ => ⟨S8x4096x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x8x256, .f32⟩
  | .hbm, ⟨10, _⟩ => ⟨S8x4096x256, .f32⟩
  | .hbm, ⟨11, _⟩ => ⟨S8x4096x1x256, .f32⟩
  | .hbm, ⟨12, _⟩ => ⟨S8x4096x1x256, .f32⟩
  | .hbm, ⟨13, _⟩ => ⟨S8x4096x1x256, .f32⟩
  | .hbm, ⟨14, _⟩ => ⟨S8x4096x1x256, .f32⟩
  | .hbm, ⟨15, _⟩ => ⟨S8x4096x4x256, .f32⟩
  | .hbm, ⟨16, _⟩ => ⟨S4x256, .f32⟩
  | .hbm, ⟨17, _⟩ => ⟨S8x4096x4x256, .f32⟩
  | .hbm, ⟨18, _⟩ => ⟨S_, .f32⟩
  | .hbm, ⟨19, _⟩ => ⟨S8x4096x4, .f32⟩
  | .hbm, ⟨20, _⟩ => ⟨S8x4096x4x1, .f32⟩
  | .hbm, ⟨21, _⟩ => ⟨S_, .f32⟩
  | .hbm, ⟨22, _⟩ => ⟨S8x4096x4x1, .f32⟩
  | .hbm, ⟨23, _⟩ => ⟨S8x4096x4x1, .f32⟩
  | .hbm, ⟨24, _⟩ => ⟨S_, .f32⟩
  | .hbm, ⟨25, _⟩ => ⟨S8x4096x4x1, .f32⟩
  | .hbm, ⟨26, _⟩ => ⟨S8x4096x4x1, .f32⟩
  | .hbm, ⟨27, _⟩ => ⟨S8x4096x4x1, .f32⟩
  | .hbm, ⟨28, _⟩ => ⟨S8x4096x4x256, .f32⟩
  | .hbm, ⟨29, _⟩ => ⟨S8x4096x4x256, .f32⟩
  | .hbm, ⟨30, _⟩ => ⟨S1x1x4x256, .f32⟩
  | .hbm, ⟨31, _⟩ => ⟨S8x4096x4x256, .f32⟩
  | .hbm, ⟨32, _⟩ => ⟨S8x4096x4x256, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Tail.lean ====
abbrev S8x4096x256 : Shape := ⟨3, ![8, 4096, 256]⟩
abbrev S4096x2048 : Shape := ⟨2, ![4096, 2048]⟩
abbrev S8x4096x1024 : Shape := ⟨3, ![8, 4096, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S16x1024x1024 : Shape := ⟨3, ![16, 1024, 1024]⟩
abbrev S1x1024 : Shape := ⟨2, ![1, 1024]⟩
abbrev S1x512x256 : Shape := ⟨3, ![1, 512, 256]⟩
abbrev S512x256 : Shape := ⟨2, ![512, 256]⟩
abbrev S1x512x1024 : Shape := ⟨3, ![1, 512, 1024]⟩
abbrev S512 : Shape := ⟨1, ![512]⟩
abbrev S512x1 : Shape := ⟨2, ![512, 1]⟩
abbrev S1x256 : Shape := ⟨2, ![1, 256]⟩
abbrev S512x1024 : Shape := ⟨2, ![512, 1024]⟩
abbrev S8x4096x16 : Shape := ⟨3, ![8, 4096, 16]⟩
abbrev S1x1x16 : Shape := ⟨3, ![1, 1, 16]⟩
abbrev S_ : Shape := ⟨0, ![]⟩
abbrev S8x4096 : Shape := ⟨2, ![8, 4096]⟩
abbrev S8x4096x1 : Shape := ⟨3, ![8, 4096, 1]⟩
abbrev S8x16x4096 : Shape := ⟨3, ![8, 16, 4096]⟩
abbrev S8x16x512 : Shape := ⟨3, ![8, 16, 512]⟩
abbrev S8x16x512x1 : Shape := ⟨4, ![8, 16, 512, 1]⟩
abbrev S8x16x512x1024 : Shape := ⟨4, ![8, 16, 512, 1024]⟩
abbrev S1x1x512x1024 : Shape := ⟨4, ![1, 1, 512, 1024]⟩
abbrev S1x1x512x1 : Shape := ⟨4, ![1, 1, 512, 1]⟩
abbrev S1x1024x1024 : Shape := ⟨3, ![1, 1024, 1024]⟩
abbrev S8 : Shape := ⟨1, ![8]⟩
abbrev S8x1 : Shape := ⟨2, ![8, 1]⟩
abbrev S8x8192 : Shape := ⟨2, ![8, 8192]⟩
abbrev S8x8192x1024 : Shape := ⟨3, ![8, 8192, 1024]⟩
abbrev S8x8192x1 : Shape := ⟨3, ![8, 8192, 1]⟩
abbrev S8x8192x2 : Shape := ⟨3, ![8, 8192, 2]⟩

abbrev nBuf : Space → Nat
  | .hbm => 84
  | .vmem => 36
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S4096x2048, .f32⟩
  | .hbm, ⟨3, _⟩ => ⟨S8x4096x256, .f32⟩
  | .hbm, ⟨4, _⟩ => ⟨S8x4096x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x16, .f32⟩
  | .hbm, ⟨10, _⟩ => ⟨S16, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S1024, .f32⟩
  | .hbm, ⟨15, _⟩ => ⟨S1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8x4096x1024, .f32⟩
  | .hbm, ⟨21, _⟩ => ⟨S16x1024x1024, .bf16⟩
  | .hbm, ⟨22, _⟩ => ⟨S16x1024x1024, .bf16⟩
  | .hbm, ⟨23, _⟩ => ⟨S16x1024x1024, .bf16⟩
  | .hbm, ⟨24, _⟩ => ⟨S8x4096x16, .f32⟩
  | .hbm, ⟨25, _⟩ => ⟨S1x1x16, .f32⟩
  | .hbm, ⟨26, _⟩ => ⟨S8x4096x16, .f32⟩
  | .hbm, ⟨27, _⟩ => ⟨S8x4096x16, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x16, .f32⟩
  | .hbm, ⟨35, _⟩ => ⟨S8x4096x16, .f32⟩
  | .hbm, ⟨36, _⟩ => ⟨S8x4096x16, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x16, .f32⟩
  | .hbm, ⟨41, _⟩ => ⟨S8x4096x16, .f32⟩
  | .hbm, ⟨42, _⟩ => ⟨S8x16x4096, .f32⟩
  | .hbm, ⟨43, _⟩ => ⟨S8x16x512, .f32⟩
  | .hbm, ⟨44, _⟩ => ⟨S8x16x512, .i32⟩
  | .hbm, ⟨45, _⟩ => ⟨S_, .i32⟩
  | .hbm, ⟨46, _⟩ => ⟨S8x16x512, .i32⟩
  | .hbm, ⟨47, _⟩ => ⟨S8x16x512, .i1⟩
  | .hbm, ⟨48, _⟩ => ⟨S_, .i32⟩
  | .hbm, ⟨49, _⟩ => ⟨S8x16x512, .i32⟩
  | .hbm, ⟨50, _⟩ => ⟨S8x16x512, .i32⟩
  | .hbm, ⟨51, _⟩ => ⟨S8x16x512, .i32⟩
  | .hbm, ⟨52, _⟩ => ⟨S8x16x512x1, .i32⟩
  | .hbm, ⟨53, _⟩ => ⟨S8x16x512x1024, .f32⟩
  | .hbm, ⟨54, _⟩ => ⟨S8x16x512x1, .f32⟩
  | .hbm, ⟨55, _⟩ => ⟨S8x16x512x1024, .f32⟩
  | .hbm, ⟨56, _⟩ => ⟨S_, .f32⟩
  | .hbm, ⟨57, _⟩ => ⟨S8x4096x1024, .f32⟩
  | .hbm, ⟨58, _⟩ => ⟨S8, .i32⟩
  | .hbm, ⟨59, _⟩ => ⟨S8x1, .i32⟩
  | .hbm, ⟨60, _⟩ => ⟨S8x8192, .i32⟩
  | .hbm, ⟨61, _⟩ => ⟨S8x8192x1024, .f32⟩
  | .hbm, ⟨62, _⟩ => ⟨S_, .i32⟩
  | .hbm, ⟨63, _⟩ => ⟨S8x1, .i32⟩
  | .hbm, ⟨64, _⟩ => ⟨S8x1, .i1⟩
  | .hbm, ⟨65, _⟩ => ⟨S_, .i32⟩
  | .hbm, ⟨66, _⟩ => ⟨S8x1, .i32⟩
  | .hbm, ⟨67, _⟩ => ⟨S8x1, .i32⟩
  | .hbm, ⟨68, _⟩ => ⟨S8x1, .i32⟩
  | .hbm, ⟨69, _⟩ => ⟨S_, .i32⟩
  | .hbm, ⟨70, _⟩ => ⟨S8x8192, .i32⟩
  | .hbm, ⟨71, _⟩ => ⟨S8x8192, .i1⟩
  | .hbm, ⟨72, _⟩ => ⟨S_, .i32⟩
  | .hbm, ⟨73, _⟩ => ⟨S8x8192, .i32⟩
  | .hbm, ⟨74, _⟩ => ⟨S8x8192, .i32⟩
  | .hbm, ⟨75, _⟩ => ⟨S8x8192, .i32⟩
  | .hbm, ⟨76, _⟩ => ⟨S8x8192, .i32⟩
  | .hbm, ⟨77, _⟩ => ⟨S8x8192x1, .i32⟩
  | .hbm, ⟨78, _⟩ => ⟨S8x8192x1, .i32⟩
  | .hbm, ⟨79, _⟩ => ⟨S8x8192x2, .i32⟩
  | .hbm, ⟨80, _⟩ => ⟨S8x4096x1024, .f32⟩
  | .hbm, ⟨81, _⟩ => ⟨S1x1024, .f32⟩
  | .hbm, ⟨82, _⟩ => ⟨S1x1024, .f32⟩
  | .hbm, ⟨83, _⟩ => ⟨S8x4096x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x1024, .f32⟩
  | .local _ .vmem, ⟨9, _⟩ => ⟨S1x512x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1x512x1024, .f32⟩
  | .local _ .vmem, ⟨17, _⟩ => ⟨S1x1x512x1024, .f32⟩
  | .local _ .vmem, ⟨18, _⟩ => ⟨S1x1x512x1, .f32⟩
  | .local _ .vmem, ⟨19, _⟩ => ⟨S1x1x512x1, .f32⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S1x1024x1024, .bf16⟩
  | .local _ .vmem, ⟨24, _⟩ => ⟨S1x1024x1024, .bf16⟩
  | .local _ .vmem, ⟨25, _⟩ => ⟨S1x1024x1024, .bf16⟩
  | .local _ .vmem, ⟨26, _⟩ => ⟨S1x1x512x1024, .f32⟩
  | .local _ .vmem, ⟨27, _⟩ => ⟨S1x1x512x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x512x1024, .f32⟩
  | .local _ .vmem, ⟨31, _⟩ => ⟨S1x512x1024, .f32⟩
  | .local _ .vmem, ⟨32, _⟩ => ⟨S1x1024, .f32⟩
  | .local _ .vmem, ⟨33, _⟩ => ⟨S1x1024, .f32⟩
  | .local _ .vmem, ⟨34, _⟩ => ⟨S1x512x1024, .f32⟩
  | .local _ .vmem, ⟨35, _⟩ => ⟨S1x512x1024, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_values : Ref sig .tc := ⟨.hbm, 43, rfl⟩
abbrev main_indices : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_6 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== TailRefIdeal.lean ====
abbrev S8x4096x256 : Shape := ⟨3, ![8, 4096, 256]⟩
abbrev S4096x2048 : Shape := ⟨2, ![4096, 2048]⟩
abbrev S8x4096x1024 : Shape := ⟨3, ![8, 4096, 1024]⟩
abbrev S1024 : Shape := ⟨1, ![1024]⟩
abbrev S1024x1024 : Shape := ⟨2, ![1024, 1024]⟩
abbrev S1024x16 : Shape := ⟨2, ![1024, 16]⟩
abbrev S16 : Shape := ⟨1, ![16]⟩
abbrev S16x1024x1024 : Shape := ⟨3, ![16, 1024, 1024]⟩
abbrev S4096x8x256 : Shape := ⟨3, ![4096, 8, 256]⟩
abbrev S8x4096x1x256 : Shape := ⟨4, ![8, 4096, 1, 256]⟩
abbrev S8x4096x4x256 : Shape := ⟨4, ![8, 4096, 4, 256]⟩
abbrev S4x256 : Shape := ⟨2, ![4, 256]⟩
abbrev S_ : Shape := ⟨0, ![]⟩
abbrev S8x4096x4 : Shape := ⟨3, ![8, 4096, 4]⟩
abbrev S8x4096x4x1 : Shape := ⟨4, ![8, 4096, 4, 1]⟩
abbrev S1x1x4x256 : Shape := ⟨4, ![1, 1, 4, 256]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16 : Shape := ⟨3, ![8, 4096, 16]⟩
abbrev S1x1x16 : Shape := ⟨3, ![1, 1, 16]⟩
abbrev S8x16x4096 : Shape := ⟨3, ![8, 16, 4096]⟩
abbrev S8x16x512 : Shape := ⟨3, ![8, 16, 512]⟩
abbrev S8x16x512x1 : Shape := ⟨4, ![8, 16, 512, 1]⟩
abbrev S8x16x512x1024 : Shape := ⟨4, ![8, 16, 512, 1024]⟩
abbrev S16x1024x8x512 : Shape := ⟨4, ![16, 1024, 8, 512]⟩
abbrev S8 : Shape := ⟨1, ![8]⟩
abbrev S8x1 : Shape := ⟨2, ![8, 1]⟩
abbrev S8x8192 : Shape := ⟨2, ![8, 8192]⟩
abbrev S8x8192x1024 : Shape := ⟨3, ![8, 8192, 1024]⟩
abbrev S8x8192x1 : Shape := ⟨3, ![8, 8192, 1]⟩
abbrev S8x8192x2 : Shape := ⟨3, ![8, 8192, 2]⟩

abbrev nBuf : Space → Nat
  | .hbm => 182
  | .vmem => 0
  | .smem => 0
  | _ => 0

abbrev hbmTy0_0 (i : Nat) : BufTy := match i % 128 with
  | 0 => ⟨S8x4096x256, .f32⟩
  | 1 => ⟨S8x4096x256, .f32⟩
  | 2 => ⟨S4096x2048, .f32⟩
  | 3 => ⟨S8x4096x256, .f32⟩
  | 4 => ⟨S8x4096x1024, .f32⟩
  | 5 => ⟨S1024, .f32⟩
  | 6 => ⟨S1024x1024, .f32⟩
  | 7 => ⟨S1024, .f32⟩
  | 8 => ⟨S1024, .f32⟩
  | 9 => ⟨S1024x16, .f32⟩
  | 10 => ⟨S16, .f32⟩
  | 11 => ⟨S16x1024x1024, .f32⟩
  | 12 => ⟨S16x1024x1024, .f32⟩
  | 13 => ⟨S16x1024x1024, .f32⟩
  | 14 => ⟨S1024, .f32⟩
  | 15 => ⟨S1024, .f32⟩
  | 16 => ⟨S4096x8x256, .f32⟩
  | 17 => ⟨S8x4096x256, .f32⟩
  | 18 => ⟨S8x4096x1x256, .f32⟩
  | 19 => ⟨S8x4096x1x256, .f32⟩
  | 20 => ⟨S8x4096x1x256, .f32⟩
  | 21 => ⟨S8x4096x1x256, .f32⟩
  | 22 => ⟨S8x4096x4x256, .f32⟩
  | 23 => ⟨S4x256, .f32⟩
  | 24 => ⟨S8x4096x4x256, .f32⟩
  | 25 => ⟨S_, .f32⟩
  | 26 => ⟨S8x4096x4, .f32⟩
  | 27 => ⟨S8x4096x4x1, .f32⟩
  | 28 => ⟨S_, .f32⟩
  | 29 => ⟨S8x4096x4x1, .f32⟩
  | 30 => ⟨S8x4096x4x1, .f32⟩
  | 31 => ⟨S_, .f32⟩
  | 32 => ⟨S8x4096x4x1, .f32⟩
  | 33 => ⟨S8x4096x4x1, .f32⟩
  | 34 => ⟨S8x4096x4x1, .f32⟩
  | 35 => ⟨S8x4096x4x256, .f32⟩
  | 36 => ⟨S8x4096x4x256, .f32⟩
  | 37 => ⟨S1x1x4x256, .f32⟩
  | 38 => ⟨S8x4096x4x256, .f32⟩
  | 39 => ⟨S8x4096x4x256, .f32⟩
  | 40 => ⟨S8x4096x1024, .f32⟩
  | 41 => ⟨S_, .f32⟩
  | 42 => ⟨S8x4096x1024, .f32⟩
  | 43 => ⟨S8x4096x1024, .f32⟩
  | 44 => ⟨S8x4096x1024, .f32⟩
  | 45 => ⟨S8x4096x1024, .f32⟩
  | 46 => ⟨S_, .f32⟩
  | 47 => ⟨S8x4096, .f32⟩
  | 48 => ⟨S8x4096x1, .f32⟩
  | 49 => ⟨S_, .f32⟩
  | 50 => ⟨S8x4096x1, .f32⟩
  | 51 => ⟨S8x4096x1, .f32⟩
  | 52 => ⟨S8x4096x1024, .f32⟩
  | 53 => ⟨S8x4096x1024, .f32⟩
  | 54 => ⟨S8x4096x1024, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S8x4096x1024, .f32⟩
  | 62 => ⟨S8x4096x1024, .f32⟩
  | 63 => ⟨S_, .f32⟩
  | 64 => ⟨S8x4096x1, .f32⟩
  | 65 => ⟨S8x4096x1, .f32⟩
  | 66 => ⟨S8x4096x1, .f32⟩
  | 67 => ⟨S8x4096x1024, .f32⟩
  | 68 => ⟨S8x4096x1024, .f32⟩
  | 69 => ⟨S1x1x1024, .f32⟩
  | 70 => ⟨S8x4096x1024, .f32⟩
  | 71 => ⟨S8x4096x1024, .f32⟩
  | 72 => ⟨S1x1x1024, .f32⟩
  | 73 => ⟨S8x4096x1024, .f32⟩
  | 74 => ⟨S8x4096x1024, .f32⟩
  | 75 => ⟨S8x4096x16, .f32⟩
  | 76 => ⟨S1x1x16, .f32⟩
  | 77 => ⟨S8x4096x16, .f32⟩
  | 78 => ⟨S8x4096x16, .f32⟩
  | 79 => ⟨S_, .f32⟩
  | 80 => ⟨S8x4096, .f32⟩
  | 81 => ⟨S_, .f32⟩
  | 82 => ⟨S8x4096, .f32⟩
  | 83 => ⟨S8x4096, .f32⟩
  | 84 => ⟨S8x4096x1, .f32⟩
  | 85 => ⟨S8x4096x16, .f32⟩
  | 86 => ⟨S8x4096x16, .f32⟩
  | 87 => ⟨S8x4096x16, .f32⟩
  | 88 => ⟨S_, .f32⟩
  | 89 => ⟨S8x4096, .f32⟩
  | 90 => ⟨S8x4096x1, .f32⟩
  | 91 => ⟨S8x4096x16, .f32⟩
  | 92 => ⟨S8x4096x16, .f32⟩
  | 93 => ⟨S8x16x4096, .f32⟩
  | 94 => ⟨S8x16x512, .f32⟩
  | 95 => ⟨S8x16x512, .i32⟩
  | 96 => ⟨S_, .i32⟩
  | 97 => ⟨S8x16x512, .i32⟩
  | 98 => ⟨S8x16x512, .i1⟩
  | 99 => ⟨S_, .i32⟩
  | 100 => ⟨S8x16x512, .i32⟩
  | 101 => ⟨S8x16x512, .i32⟩
  | 102 => ⟨S8x16x512, .i32⟩
  | 103 => ⟨S8x16x512x1, .i32⟩
  | 104 => ⟨S8x16x512x1024, .f32⟩
  | 105 => ⟨S16x1024x8x512, .f32⟩
  | 106 => ⟨S8x16x512x1024, .f32⟩
  | 107 => ⟨S8x16x512x1024, .f32⟩
  | 108 => ⟨S8x16x512x1024, .f32⟩
  | 109 => ⟨S_, .f32⟩
  | 110 => ⟨S8x16x512x1024, .f32⟩
  | 111 => ⟨S8x16x512x1024, .f32⟩
  | 112 => ⟨S_, .f32⟩
  | 113 => ⟨S8x16x512x1024, .f32⟩
  | 114 => ⟨S8x16x512x1024, .f32⟩
  | 115 => ⟨S8x16x512x1024, .f32⟩
  | 116 => ⟨S16x1024x8x512, .f32⟩
  | 117 => ⟨S8x16x512x1024, .f32⟩
  | 118 => ⟨S8x16x512x1024, .f32⟩
  | 119 => ⟨S16x1024x8x512, .f32⟩
  | 120 => ⟨S8x16x512x1024, .f32⟩
  | 121 => ⟨S8x16x512x1, .f32⟩
  | 122 => ⟨S8x16x512x1024, .f32⟩
  | 123 => ⟨S8x16x512x1024, .f32⟩
  | 124 => ⟨S_, .f32⟩
  | 125 => ⟨S8x4096x1024, .f32⟩
  | 126 => ⟨S8, .i32⟩
  | 127 => ⟨S8x1, .i32⟩
  | _ => ⟨S8x4096x256, .f32⟩

abbrev hbmTy0_1 (i : Nat) : BufTy := match i % 128 with
  | 0 => ⟨S8x8192, .i32⟩
  | 1 => ⟨S8x8192x1024, .f32⟩
  | 2 => ⟨S_, .i32⟩
  | 3 => ⟨S8x1, .i32⟩
  | 4 => ⟨S8x1, .i1⟩
  | 5 => ⟨S_, .i32⟩
  | 6 => ⟨S8x1, .i32⟩
  | 7 => ⟨S8x1, .i32⟩
  | 8 => ⟨S8x1, .i32⟩
  | 9 => ⟨S_, .i32⟩
  | 10 => ⟨S8x8192, .i32⟩
  | 11 => ⟨S8x8192, .i1⟩
  | 12 => ⟨S_, .i32⟩
  | 13 => ⟨S8x8192, .i32⟩
  | 14 => ⟨S8x8192, .i32⟩
  | 15 => ⟨S8x8192, .i32⟩
  | 16 => ⟨S8x8192, .i32⟩
  | 17 => ⟨S8x8192x1, .i32⟩
  | 18 => ⟨S8x8192x1, .i32⟩
  | 19 => ⟨S8x8192x2, .i32⟩
  | 20 => ⟨S8x4096x1024, .f32⟩
  | 21 => ⟨S_, .f32⟩
  | 22 => ⟨S8x4096x1024, .f32⟩
  | 23 => ⟨S8x4096x1024, .f32⟩
  | 24 => ⟨S8x4096x1024, .f32⟩
  | 25 => ⟨S_, .f32⟩
  | 26 => ⟨S8x4096, .f32⟩
  | 27 => ⟨S8x4096x1, .f32⟩
  | 28 => ⟨S_, .f32⟩
  | 29 => ⟨S8x4096x1, .f32⟩
  | 30 => ⟨S8x4096x1, .f32⟩
  | 31 => ⟨S8x4096x1024, .f32⟩
  | 32 => ⟨S8x4096x1024, .f32⟩
  | 33 => ⟨S8x4096x1024, .f32⟩
  | 34 => ⟨S_, .f32⟩
  | 35 => ⟨S8x4096, .f32⟩
  | 36 => ⟨S8x4096x1, .f32⟩
  | 37 => ⟨S_, .f32⟩
  | 38 => ⟨S8x4096x1, .f32⟩
  | 39 => ⟨S8x4096x1, .f32⟩
  | 40 => ⟨S8x4096x1024, .f32⟩
  | 41 => ⟨S8x4096x1024, .f32⟩
  | 42 => ⟨S_, .f32⟩
  | 43 => ⟨S8x4096x1, .f32⟩
  | 44 => ⟨S8x4096x1, .f32⟩
  | 45 => ⟨S8x4096x1, .f32⟩
  | 46 => ⟨S8x4096x1024, .f32⟩
  | 47 => ⟨S8x4096x1024, .f32⟩
  | 48 => ⟨S1x1x1024, .f32⟩
  | 49 => ⟨S8x4096x1024, .f32⟩
  | 50 => ⟨S8x4096x1024, .f32⟩
  | 51 => ⟨S1x1x1024, .f32⟩
  | 52 => ⟨S8x4096x1024, .f32⟩
  | 53 => ⟨S8x4096x1024, .f32⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_values : Ref sig .tc := ⟨.hbm, 94, rfl⟩
abbrev main_indices : Ref sig .tc := ⟨.hbm, 95, rfl⟩
abbrev main_c : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_12 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_13 : Ref sig .tc := ⟨.hbm, 130, rfl⟩
abbrev main_v89 : Ref sig .tc := ⟨.hbm, 131, rfl⟩
abbrev main_v90 : Ref sig .tc := ⟨.hbm, 132, rfl⟩
abbrev main_c_14 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_15 : Ref sig .tc := ⟨.hbm, 137, rfl⟩
abbrev main_v94 : Ref sig .tc := ⟨.hbm, 138, rfl⟩
abbrev main_v95 : Ref sig .tc := ⟨.hbm, 139, rfl⟩
abbrev main_c_16 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_17 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_18 : Ref sig .tc := ⟨.hbm, 153, rfl⟩
abbrev main_v107 : Ref sig .tc := ⟨.hbm, 154, rfl⟩
abbrev main_v108 : Ref sig .tc := ⟨.hbm, 155, rfl⟩
abbrev main_cst_19 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_20 : Ref sig .tc := ⟨.hbm, 162, rfl⟩
abbrev main_v114 : Ref sig .tc := ⟨.hbm, 163, rfl⟩
abbrev main_v115 : Ref sig .tc := ⟨.hbm, 164, rfl⟩
abbrev main_cst_21 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_22 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩

abbrev nD : Nat := 1
abbrev τ : Topo := Topo.v7x

variable {F : FTy → Type} [FloatOps F]
-- ==== InFirst.lean ====
abbrev S8x4096x1024 : Shape := ⟨3, ![8, 4096, 1024]⟩
abbrev S1024 : Shape := ⟨1, ![1024]⟩
abbrev S1024x2048 : Shape := ⟨2, ![1024, 2048]⟩
abbrev S1x1024 : Shape := ⟨2, ![1, 1024]⟩
abbrev S8x4096x512 : Shape := ⟨3, ![8, 4096, 512]⟩
abbrev S8x4096x768 : Shape := ⟨3, ![8, 4096, 768]⟩
abbrev S4096x2048 : Shape := ⟨2, ![4096, 2048]⟩
abbrev S8x4096x256 : Shape := ⟨3, ![8, 4096, 256]⟩
abbrev S8x4096x128 : Shape := ⟨3, ![8, 4096, 128]⟩
abbrev S1x512x1024 : Shape := ⟨3, ![1, 512, 1024]⟩
abbrev S1x512x512 : Shape := ⟨3, ![1, 512, 512]⟩
abbrev S1x512x768 : Shape := ⟨3, ![1, 512, 768]⟩
abbrev S512x256 : Shape := ⟨2, ![512, 256]⟩
abbrev S1x512x256 : Shape := ⟨3, ![1, 512, 256]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S512x768 : Shape := ⟨2, ![512, 768]⟩
abbrev S512x128 : Shape := ⟨2, ![512, 128]⟩

abbrev nBuf : Space → Nat
  | .hbm => 14
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S1x1024, .f32⟩
  | .hbm, ⟨7, _⟩ => ⟨S8x4096x1024, .f32⟩
  | .hbm, ⟨8, _⟩ => ⟨S8x4096x512, .f32⟩
  | .hbm, ⟨9, _⟩ => ⟨S8x4096x768, .f32⟩
  | .hbm, ⟨10, _⟩ => ⟨S4096x2048, .f32⟩
  | .hbm, ⟨11, _⟩ => ⟨S8x4096x256, .f32⟩
  | .hbm, ⟨12, _⟩ => ⟨S8x4096x128, .f32⟩
  | .hbm, ⟨13, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x512x1024, .f32⟩
  | .local _ .vmem, ⟨6, _⟩ => ⟨S1x512x1024, .f32⟩
  | .local _ .vmem, ⟨7, _⟩ => ⟨S1x512x512, .f32⟩
  | .local _ .vmem, ⟨8, _⟩ => ⟨S1x512x512, .f32⟩
  | .local _ .vmem, ⟨9, _⟩ => ⟨S1x512x768, .f32⟩
  | .local _ .vmem, ⟨10, _⟩ => ⟨S1x512x768, .f32⟩
  | .local _ .vmem, ⟨11, _⟩ => ⟨S512x256, .f32⟩
  | .local _ .vmem, ⟨12, _⟩ => ⟨S512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InFirstRefIdeal.lean ====
abbrev S8x4096x1024 : Shape := ⟨3, ![8, 4096, 1024]⟩
abbrev S1024 : Shape := ⟨1, ![1024]⟩
abbrev S1024x2048 : Shape := ⟨2, ![1024, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x512 : Shape := ⟨3, ![8, 4096, 512]⟩
abbrev S8x4096x768 : Shape := ⟨3, ![8, 4096, 768]⟩
abbrev S8x4096x256 : Shape := ⟨3, ![8, 4096, 256]⟩
abbrev S8x4096x128 : Shape := ⟨3, ![8, 4096, 128]⟩
abbrev S4096x8x256 : Shape := ⟨3, ![4096, 8, 256]⟩
abbrev S4096x2048 : Shape := ⟨2, ![4096, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x4096x2048, .f32⟩
  | .hbm, ⟨34, _⟩ => ⟨S8x4096x512, .f32⟩
  | .hbm, ⟨35, _⟩ => ⟨S8x4096x768, .f32⟩
  | .hbm, ⟨36, _⟩ => ⟨S8x4096x256, .f32⟩
  | .hbm, ⟨37, _⟩ => ⟨S8x4096x256, .f32⟩
  | .hbm, ⟨38, _⟩ => ⟨S8x4096x128, .f32⟩
  | .hbm, ⟨39, _⟩ => ⟨S8x4096x128, .f32⟩
  | .hbm, ⟨40, _⟩ => ⟨S4096x8x256, .f32⟩
  | .hbm, ⟨41, _⟩ => ⟨S4096x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== InNext.lean ====
abbrev S8x4096x1024 : Shape := ⟨3, ![8, 4096, 1024]⟩
abbrev S1024 : Shape := ⟨1, ![1024]⟩
abbrev S1024x2048 : Shape := ⟨2, ![1024, 2048]⟩
abbrev S1x1024 : Shape := ⟨2, ![1, 1024]⟩
abbrev S8x4096x512 : Shape := ⟨3, ![8, 4096, 512]⟩
abbrev S8x4096x768 : Shape := ⟨3, ![8, 4096, 768]⟩
abbrev S4096x2048 : Shape := ⟨2, ![4096, 2048]⟩
abbrev S8x4096x256 : Shape := ⟨3, ![8, 4096, 256]⟩
abbrev S8x4096x128 : Shape := ⟨3, ![8, 4096, 128]⟩
abbrev S1x512x1024 : Shape := ⟨3, ![1, 512, 1024]⟩
abbrev S1x512x512 : Shape := ⟨3, ![1, 512, 512]⟩
abbrev S1x512x768 : Shape := ⟨3, ![1, 512, 768]⟩
abbrev S512x256 : Shape := ⟨2, ![512, 256]⟩
abbrev S1x512x256 : Shape := ⟨3, ![1, 512, 256]⟩
abbrev S1x512x128 : Shape := ⟨3, ![1, 512, 128]⟩
abbrev S512x1024 : Shape := ⟨2, ![512, 1024]⟩
abbrev S512x2048 : Shape := ⟨2, ![512, 2048]⟩
abbrev S512x512 : Shape := ⟨2, ![512, 512]⟩
abbrev S512x768 : Shape := ⟨2, ![512, 768]⟩
abbrev S512x128 : Shape := ⟨2, ![512, 128]⟩

abbrev nBuf : Space → Nat
  | .hbm => 14
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S1x1024, .f32⟩
  | .hbm, ⟨7, _⟩ => ⟨S8x4096x1024, .f32⟩
  | .hbm, ⟨8, _⟩ => ⟨S8x4096x512, .f32⟩
  | .hbm, ⟨9, _⟩ => ⟨S8x4096x768, .f32⟩
  | .hbm, ⟨10, _⟩ => ⟨S4096x2048, .f32⟩
  | .hbm, ⟨11, _⟩ => ⟨S8x4096x256, .f32⟩
  | .hbm, ⟨12, _⟩ => ⟨S8x4096x128, .f32⟩
  | .hbm, ⟨13, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x512x1024, .f32⟩
  | .local _ .vmem, ⟨6, _⟩ => ⟨S1x512x1024, .f32⟩
  | .local _ .vmem, ⟨7, _⟩ => ⟨S1x512x512, .f32⟩
  | .local _ .vmem, ⟨8, _⟩ => ⟨S1x512x512, .f32⟩
  | .local _ .vmem, ⟨9, _⟩ => ⟨S1x512x768, .f32⟩
  | .local _ .vmem, ⟨10, _⟩ => ⟨S1x512x768, .f32⟩
  | .local _ .vmem, ⟨11, _⟩ => ⟨S512x256, .f32⟩
  | .local _ .vmem, ⟨12, _⟩ => ⟨S512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InNextRefIdeal.lean ====
abbrev S8x4096x1024 : Shape := ⟨3, ![8, 4096, 1024]⟩
abbrev S1024 : Shape := ⟨1, ![1024]⟩
abbrev S1024x2048 : Shape := ⟨2, ![1024, 2048]⟩
abbrev S8x4096x2048 : Shape := ⟨3, ![8, 4096, 2048]⟩
abbrev S8x4096x512 : Shape := ⟨3, ![8, 4096, 512]⟩
abbrev S8x4096x768 : Shape := ⟨3, ![8, 4096, 768]⟩
abbrev S8x4096x256 : Shape := ⟨3, ![8, 4096, 256]⟩
abbrev S8x4096x128 : Shape := ⟨3, ![8, 4096, 128]⟩
abbrev S4096x8x256 : Shape := ⟨3, ![4096, 8, 256]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S8x4096x2048, .f32⟩
  | .hbm, ⟨5, _⟩ => ⟨S8x4096x512, .f32⟩
  | .hbm, ⟨6, _⟩ => ⟨S8x4096x768, .f32⟩
  | .hbm, ⟨7, _⟩ => ⟨S8x4096x256, .f32⟩
  | .hbm, ⟨8, _⟩ => ⟨S8x4096x256, .f32⟩
  | .hbm, ⟨9, _⟩ => ⟨S8x4096x128, .f32⟩
  | .hbm, ⟨10, _⟩ => ⟨S8x4096x128, .f32⟩
  | .hbm, ⟨11, _⟩ => ⟨S4096x8x256, .f32⟩
  | .hbm, ⟨12, _⟩ => ⟨S4096x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Qk.lean ====
abbrev S8x4096x256 : Shape := ⟨3, ![8, 4096, 256]⟩
abbrev S8x4096x128 : Shape := ⟨3, ![8, 4096, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x64 : Shape := ⟨2, ![4, 64]⟩
abbrev S8x4x4096x64 : Shape := ⟨4, ![8, 4, 4096, 64]⟩
abbrev S8x2x4096x64 : Shape := ⟨4, ![8, 2, 4096, 64]⟩
abbrev S1x512x256 : Shape := ⟨3, ![1, 512, 256]⟩
abbrev S1x512x128 : Shape := ⟨3, ![1, 512, 128]⟩
abbrev S512x256 : Shape := ⟨2, ![512, 256]⟩
abbrev S1x4x512x64 : Shape := ⟨4, ![1, 4, 512, 64]⟩
abbrev S1x2x512x64 : Shape := ⟨4, ![1, 2, 512, 64]⟩
abbrev S512x128 : Shape := ⟨2, ![512, 128]⟩
abbrev S1x128 : Shape := ⟨2, ![1, 128]⟩
abbrev S128x128 : Shape := ⟨2, ![128, 128]⟩
abbrev S512x64 : Shape := ⟨2, ![512, 64]⟩
abbrev S1x1x512x64 : Shape := ⟨4, ![1, 1, 512, 64]⟩

abbrev nBuf : Space → Nat
  | .hbm => 109
  | .vmem => 19
  | .smem => 0
  | _ => 0

abbrev bufTy : (tb : Table) → Fin (tcTables nBuf tb) → BufTy
  | .hbm, ⟨0, _⟩ => ⟨S8x4096x256, .f32⟩
  | .hbm, ⟨1, _⟩ => ⟨S8x4096x128, .f32⟩
  | .hbm, ⟨2, _⟩ => ⟨S8x4096x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S64, .f32⟩
  | .hbm, ⟨9, _⟩ => ⟨S1x64, .f32⟩
  | .hbm, ⟨10, _⟩ => ⟨S64x64, .f32⟩
  | .hbm, ⟨11, _⟩ => ⟨S4096, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x1, .f32⟩
  | .hbm, ⟨32, _⟩ => ⟨S1x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x64, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x64, .f32⟩
  | .hbm, ⟨48, _⟩ => ⟨S1x4096x1x64, .f32⟩
  | .hbm, ⟨49, _⟩ => ⟨S1x4096x4x64, .f32⟩
  | .hbm, ⟨50, _⟩ => ⟨S4096x256, .f32⟩
  | .hbm, ⟨51, _⟩ => ⟨S1x4096x1x64, .f32⟩
  | .hbm, ⟨52, _⟩ => ⟨S1x4096x4x64, .f32⟩
  | .hbm, ⟨53, _⟩ => ⟨S4096x256, .f32⟩
  | .hbm, ⟨54, _⟩ => ⟨S256, .i32⟩
  | .hbm, ⟨55, _⟩ => ⟨S256x1, .i32⟩
  | .hbm, ⟨56, _⟩ => ⟨S_, .i32⟩
  | .hbm, ⟨57, _⟩ => ⟨S_, .i32⟩
  | .hbm, ⟨58, _⟩ => ⟨S256x1, .i32⟩
  | .hbm, ⟨59, _⟩ => ⟨S256x1, .i32⟩
  | .hbm, ⟨60, _⟩ => ⟨S256x1, .i32⟩
  | .hbm, ⟨61, _⟩ => ⟨S_, .i32⟩
  | .hbm, ⟨62, _⟩ => ⟨S256x1, .i32⟩
  | .hbm, ⟨63, _⟩ => ⟨S256x1, .i1⟩
  | .hbm, ⟨64, _⟩ => ⟨S256x1, .i32⟩
  | .hbm, ⟨65, _⟩ => ⟨S256x1, .i32⟩
  | .hbm, ⟨66, _⟩ => ⟨S_, .i32⟩
  | .hbm, ⟨67, _⟩ => ⟨S256x1, .i32⟩
  | .hbm, ⟨68, _⟩ => ⟨S256x1, .i1⟩
  | .hbm, ⟨69, _⟩ => ⟨S256x1, .i1⟩
  | .hbm, ⟨70, _⟩ => ⟨S_, .i32⟩
  | .hbm, ⟨71, _⟩ => ⟨S256x1, .i32⟩
  | .hbm, ⟨72, _⟩ => ⟨S256x1, .i32⟩
  | .hbm, ⟨73, _⟩ => ⟨S256x1, .i32⟩
  | .hbm, ⟨74, _⟩ => ⟨S256, .i32⟩
  | .hbm, ⟨75, _⟩ => ⟨S1x256, .i32⟩
  | .hbm, ⟨76, _⟩ => ⟨S_, .i32⟩
  | .hbm, ⟨77, _⟩ => ⟨S_, .i32⟩
  | .hbm, ⟨78, _⟩ => ⟨S1x256, .i32⟩
  | .hbm, ⟨79, _⟩ => ⟨S1x256, .i32⟩
  | .hbm, ⟨80, _⟩ => ⟨S1x256, .i32⟩
  | .hbm, ⟨81, _⟩ => ⟨S_, .i32⟩
  | .hbm, ⟨82, _⟩ => ⟨S1x256, .i32⟩
  | .hbm, ⟨83, _⟩ => ⟨S1x256, .i1⟩
  | .hbm, ⟨84, _⟩ => ⟨S1x256, .i32⟩
  | .hbm, ⟨85, _⟩ => ⟨S1x256, .i32⟩
  | .hbm, ⟨86, _⟩ => ⟨S_, .i32⟩
  | .hbm, ⟨87, _⟩ => ⟨S1x256, .i32⟩
  | .hbm, ⟨88, _⟩ => ⟨S1x256, .i1⟩
  | .hbm, ⟨89, _⟩ => ⟨S1x256, .i1⟩
  | .hbm, ⟨90, _⟩ => ⟨S_, .i32⟩
  | .hbm, ⟨91, _⟩ => ⟨S1x256, .i32⟩
  | .hbm, ⟨92, _⟩ => ⟨S1x256, .i32⟩
  | .hbm, ⟨93, _⟩ => ⟨S1x256, .i32⟩
  | .hbm, ⟨94, _⟩ => ⟨S256x256, .i32⟩
  | .hbm, ⟨95, _⟩ => ⟨S256x256, .i32⟩
  | .hbm, ⟨96, _⟩ => ⟨S256x256, .i1⟩
  | .hbm, ⟨97, _⟩ => ⟨S256x256, .bf16⟩
  | .hbm, ⟨98, _⟩ => ⟨S1x64, .f32⟩
  | .hbm, ⟨99, _⟩ => ⟨S4x64, .f32⟩
  | .hbm, ⟨100, _⟩ => ⟨S256, .f32⟩
  | .hbm, ⟨101, _⟩ => ⟨S1x256, .f32⟩
  | .hbm, ⟨102, _⟩ => ⟨S1x64, .f32⟩
  | .hbm, ⟨103, _⟩ => ⟨S4x64, .f32⟩
  | .hbm, ⟨104, _⟩ => ⟨S256, .f32⟩
  | .hbm, ⟨105, _⟩ => ⟨S1x256, .f32⟩
  | .hbm, ⟨106, _⟩ => ⟨S8x4x4096x64, .bf16⟩
  | .hbm, ⟨107, _⟩ => ⟨S8x2x4096x64, .bf16⟩
  | .hbm, ⟨108, _⟩ => ⟨S8x2x4096x64, .bf16⟩
  | .local _ .vmem, ⟨0, _⟩ => ⟨S1x512x256, .f32⟩
  | .local _ .vmem, ⟨1, _⟩ => ⟨S1x512x256, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S256x256, .bf16⟩
  | .local _ .vmem, ⟨13, _⟩ => ⟨S1x4x512x64, .bf16⟩
  | .local _ .vmem, ⟨14, _⟩ => ⟨S1x4x512x64, .bf16⟩
  | .local _ .vmem, ⟨15, _⟩ => ⟨S1x2x512x64, .bf16⟩
  | .local _ .vmem, ⟨16, _⟩ => ⟨S1x2x512x64, .bf16⟩
  | .local _ .vmem, ⟨17, _⟩ => ⟨S1x2x512x64, .bf16⟩
  | .local _ .vmem, ⟨18, _⟩ => ⟨S1x2x512x64, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_3 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63_0 : Ref sig .tc := ⟨.hbm, 106, rfl⟩
abbrev main_v63_1 : Ref sig .tc := ⟨.hbm, 107, rfl⟩
abbrev main_v63_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QkRefIdeal.lean ====
abbrev S8x4096x256 : Shape := ⟨3, ![8, 4096, 256]⟩
abbrev S8x4096x128 : Shape := ⟨3, ![8, 4096, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S8x4096x4x64 : Shape := ⟨4, ![8, 4096, 4, 64]⟩
abbrev S8x4096x2x64 : Shape := ⟨4, ![8, 4096, 2, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x4x32 : Shape := ⟨4, ![8, 4096, 4, 32]⟩
abbrev S8x4096x4x16 : Shape := ⟨4, ![8, 4096, 4, 16]⟩
abbrev S1x4096x1x16 : Shape := ⟨4, ![1, 4096, 1, 16]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x2x16 : Shape := ⟨4, ![8, 4096, 2, 16]⟩
abbrev S8x4x4096x64 : Shape := ⟨4, ![8, 4, 4096, 64]⟩
abbrev S8x2x4096x64 : Shape := ⟨4, ![8, 2, 4096, 64]⟩

abbrev nBuf : Space → Nat
  | .hbm => 160
  | .vmem => 0
  | .smem => 0
  | _ => 0

abbrev hbmTy0_0 (i : Nat) : BufTy := match i % 128 with
  | 0 => ⟨S8x4096x256, .f32⟩
  | 1 => ⟨S8x4096x128, .f32⟩
  | 2 => ⟨S8x4096x128, .f32⟩
  | 3 => ⟨S64, .f32⟩
  | 4 => ⟨S64, .f32⟩
  | 5 => ⟨S64, .f32⟩
  | 6 => ⟨S64x64, .f32⟩
  | 7 => ⟨S4096, .f32⟩
  | 8 => ⟨S64, .f32⟩
  | 9 => ⟨S1x64, .f32⟩
  | 10 => ⟨S64x64, .f32⟩
  | 11 => ⟨S4096, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4096x1, .f32⟩
  | 27 => ⟨S1x16, .f32⟩
  | 28 => ⟨S4096x16, .f32⟩
  | 29 => ⟨S4096x16, .f32⟩
  | 30 => ⟨S4096x16, .f32⟩
  | 31 => ⟨S4096x1x16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x1x16, .f32⟩
  | 38 => ⟨S4096x1x16, .f32⟩
  | 39 => ⟨S4096x1x16, .f32⟩
  | 40 => ⟨S4096x1x16, .f32⟩
  | 41 => ⟨S4096x1x16, .f32⟩
  | 42 => ⟨S8x4096x4x64, .f32⟩
  | 43 => ⟨S8x4096x2x64, .f32⟩
  | 44 => ⟨S8x4096x2x64, .f32⟩
  | 45 => ⟨S8x4096x4x64, .f32⟩
  | 46 => ⟨S_, .f32⟩
  | 47 => ⟨S8x4096x4, .f32⟩
  | 48 => ⟨S8x4096x4x1, .f32⟩
  | 49 => ⟨S_, .f32⟩
  | 50 => ⟨S8x4096x4x1, .f32⟩
  | 51 => ⟨S8x4096x4x1, .f32⟩
  | 52 => ⟨S_, .f32⟩
  | 53 => ⟨S8x4096x4x1, .f32⟩
  | 54 => ⟨S8x4096x4x1, .f32⟩
  | 55 => ⟨S8x4096x4x1, .f32⟩
  | 56 => ⟨S8x4096x4x64, .f32⟩
  | 57 => ⟨S8x4096x4x64, .f32⟩
  | 58 => ⟨S1x1x1x64, .f32⟩
  | 59 => ⟨S8x4096x4x64, .f32⟩
  | 60 => ⟨S8x4096x4x64, .f32⟩
  | 61 => ⟨S8x4096x4x32, .f32⟩
  | 62 => ⟨S8x4096x4x16, .f32⟩
  | 63 => ⟨S8x4096x4x16, .f32⟩
  | 64 => ⟨S1x4096x1x16, .f32⟩
  | 65 => ⟨S8x4096x4x16, .f32⟩
  | 66 => ⟨S8x4096x4x16, .f32⟩
  | 67 => ⟨S1x4096x1x16, .f32⟩
  | 68 => ⟨S8x4096x4x16, .f32⟩
  | 69 => ⟨S8x4096x4x16, .f32⟩
  | 70 => ⟨S8x4096x4x16, .f32⟩
  | 71 => ⟨S1x4096x1x16, .f32⟩
  | 72 => ⟨S8x4096x4x16, .f32⟩
  | 73 => ⟨S8x4096x4x16, .f32⟩
  | 74 => ⟨S1x4096x1x16, .f32⟩
  | 75 => ⟨S8x4096x4x16, .f32⟩
  | 76 => ⟨S8x4096x4x16, .f32⟩
  | 77 => ⟨S8x4096x4x16, .f32⟩
  | 78 => ⟨S8x4096x4x32, .f32⟩
  | 79 => ⟨S8x4096x4x32, .f32⟩
  | 80 => ⟨S8x4096x4x16, .f32⟩
  | 81 => ⟨S8x4096x4x16, .f32⟩
  | 82 => ⟨S1x4096x1x16, .f32⟩
  | 83 => ⟨S8x4096x4x16, .f32⟩
  | 84 => ⟨S8x4096x4x16, .f32⟩
  | 85 => ⟨S1x4096x1x16, .f32⟩
  | 86 => ⟨S8x4096x4x16, .f32⟩
  | 87 => ⟨S8x4096x4x16, .f32⟩
  | 88 => ⟨S8x4096x4x16, .f32⟩
  | 89 => ⟨S1x4096x1x16, .f32⟩
  | 90 => ⟨S8x4096x4x16, .f32⟩
  | 91 => ⟨S8x4096x4x16, .f32⟩
  | 92 => ⟨S1x4096x1x16, .f32⟩
  | 93 => ⟨S8x4096x4x16, .f32⟩
  | 94 => ⟨S8x4096x4x16, .f32⟩
  | 95 => ⟨S8x4096x4x16, .f32⟩
  | 96 => ⟨S8x4096x4x32, .f32⟩
  | 97 => ⟨S8x4096x4x64, .f32⟩
  | 98 => ⟨S_, .f32⟩
  | 99 => ⟨S8x4096x4x64, .f32⟩
  | 100 => ⟨S8x4096x4x64, .f32⟩
  | 101 => ⟨S8x4096x2x64, .f32⟩
  | 102 => ⟨S_, .f32⟩
  | 103 => ⟨S8x4096x2, .f32⟩
  | 104 => ⟨S8x4096x2x1, .f32⟩
  | 105 => ⟨S_, .f32⟩
  | 106 => ⟨S8x4096x2x1, .f32⟩
  | 107 => ⟨S8x4096x2x1, .f32⟩
  | 108 => ⟨S_, .f32⟩
  | 109 => ⟨S8x4096x2x1, .f32⟩
  | 110 => ⟨S8x4096x2x1, .f32⟩
  | 111 => ⟨S8x4096x2x1, .f32⟩
  | 112 => ⟨S8x4096x2x64, .f32⟩
  | 113 => ⟨S8x4096x2x64, .f32⟩
  | 114 => ⟨S1x1x1x64, .f32⟩
  | 115 => ⟨S8x4096x2x64, .f32⟩
  | 116 => ⟨S8x4096x2x64, .f32⟩
  | 117 => ⟨S8x4096x2x32, .f32⟩
  | 118 => ⟨S8x4096x2x16, .f32⟩
  | 119 => ⟨S8x4096x2x16, .f32⟩
  | 120 => ⟨S1x4096x1x16, .f32⟩
  | 121 => ⟨S8x4096x2x16, .f32⟩
  | 122 => ⟨S8x4096x2x16, .f32⟩
  | 123 => ⟨S1x4096x1x16, .f32⟩
  | 124 => ⟨S8x4096x2x16, .f32⟩
  | 125 => ⟨S8x4096x2x16, .f32⟩
  | 126 => ⟨S8x4096x2x16, .f32⟩
  | 127 => ⟨S1x4096x1x16, .f32⟩
  | _ => ⟨S8x4096x256, .f32⟩

abbrev hbmTy0_1 (i : Nat) : BufTy := match i % 128 with
  | 0 => ⟨S8x4096x2x16, .f32⟩
  | 1 => ⟨S8x4096x2x16, .f32⟩
  | 2 => ⟨S1x4096x1x16, .f32⟩
  | 3 => ⟨S8x4096x2x16, .f32⟩
  | 4 => ⟨S8x4096x2x16, .f32⟩
  | 5 => ⟨S8x4096x2x16, .f32⟩
  | 6 => ⟨S8x4096x2x32, .f32⟩
  | 7 => ⟨S8x4096x2x32, .f32⟩
  | 8 => ⟨S8x4096x2x16, .f32⟩
  | 9 => ⟨S8x4096x2x16, .f32⟩
  | 10 => ⟨S1x4096x1x16, .f32⟩
  | 11 => ⟨S8x4096x2x16, .f32⟩
  | 12 => ⟨S8x4096x2x16, .f32⟩
  | 13 => ⟨S1x4096x1x16, .f32⟩
  | 14 => ⟨S8x4096x2x16, .f32⟩
  | 15 => ⟨S8x4096x2x16, .f32⟩
  | 16 => ⟨S8x4096x2x16, .f32⟩
  | 17 => ⟨S1x4096x1x16, .f32⟩
  | 18 => ⟨S8x4096x2x16, .f32⟩
  | 19 => ⟨S8x4096x2x16, .f32⟩
  | 20 => ⟨S1x4096x1x16, .f32⟩
  | 21 => ⟨S8x4096x2x16, .f32⟩
  | 22 => ⟨S8x4096x2x16, .f32⟩
  | 23 => ⟨S8x4096x2x16, .f32⟩
  | 24 => ⟨S8x4096x2x32, .f32⟩
  | 25 => ⟨S8x4096x2x64, .f32⟩
  | 26 => ⟨S8x4x4096x64, .f32⟩
  | 27 => ⟨S8x4x4096x64, .bf16⟩
  | 28 => ⟨S8x2x4096x64, .f32⟩
  | 29 => ⟨S8x2x4096x64, .bf16⟩
  | 30 => ⟨S8x2x4096x64, .f32⟩
  | 31 => ⟨S8x2x4096x64, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_6 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_7 : Ref sig .tc := ⟨.hbm, 102, rfl⟩
abbrev main_v89 : Ref sig .tc := ⟨.hbm, 103, rfl⟩
abbrev main_v90 : Ref sig .tc := ⟨.hbm, 104, rfl⟩
abbrev main_cst_8 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩

abbrev nD : Nat := 1
abbrev τ : Topo := Topo.v7x

variable {F : FTy → Type} [FloatOps F]
-- ==== Proof.AttnMath.lean ====
/- The mathematics of one attention output: the softmax's division taken out of the weighted sum. Over the extended reals
   the weights are divided first by the reference and the finished sum is divided once by the kernel; the two agree whenever
   every score is a real number. -/
module

public import Idealize.ShloMosaic.Lib.Pointwise
public import Idealize.ShloMosaic.Lib.IdealHost

@[expose] public section

noncomputable section

namespace Cert.AttnMath

open Idealize.ShloMosaic
open scoped BigOperators

/-- A sum times a real factor that is not negative is the sum of the products. -/
theorem sum_mul_real {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- A sum of real numbers is the real sum. -/
theorem sum_coe {ι : Type} (t : Finset ι) (f : ι → ℝ) : ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

/-- The largest of finitely many real numbers, folded from minus infinity, is a real number. -/
theorem max_real {n : ℕ} (hn : 0 < n) (s : Fin n → EReal) (hs : ∀ j, ∃ x : ℝ, s j = x) :
    ∃ x : ℝ, Finset.univ.fold max (⊥ : EReal) s = x := by
  obtain ⟨i, -, hi⟩ := Finset.exists_mem_eq_sup (Finset.univ : Finset (Fin n)) ⟨⟨0, hn⟩, Finset.mem_univ _⟩ s
  obtain ⟨x, hx⟩ := hs i
  exact ⟨x, (show Finset.univ.fold max (⊥ : EReal) s = Finset.univ.sup s from rfl).trans (hi.trans hx)⟩

/-- THE SOFTMAX IDENTITY: with real scores `s`, the weighted sum of the values `v` (any extended reals) divided once by
    the weights' sum is the sum of the values by the divided weights. -/
theorem softmax_div {n : ℕ} (hn : 0 < n) (s v : Fin n → EReal) (hs : ∀ j, ∃ x : ℝ, s j = x) (M : EReal)
    (hM : M = Finset.univ.fold max (⊥ : EReal) s) :
    Ideal.div (∑ j, Ideal.exp (s j - M) * v j) (∑ j, Ideal.exp (s j - M))
      = ∑ j, v j * Ideal.div (Ideal.exp (s j - M)) (∑ j, Ideal.exp (s j - M)) := by
  obtain ⟨μ, hμ⟩ := max_real hn s hs
  choose σ hσ using hs
  have he : ∀ j, Ideal.exp (s j - M) = ((Real.exp (σ j - μ) : ℝ) : EReal) := fun j => by
    rw [hM, hμ, hσ j, ← EReal.coe_sub]; rfl
  have hL : ∑ j, Ideal.exp (s j - M) = ((∑ j, Real.exp (σ j - μ) : ℝ) : EReal) := by
    rw [← sum_coe]; exact Finset.sum_congr rfl fun j _ => he j
  have hpos : 0 < ∑ j, Real.exp (σ j - μ) :=
    Finset.sum_pos (fun j _ => Real.exp_pos _) ⟨⟨0, hn⟩, Finset.mem_univ _⟩
  have hne : ∑ j, Ideal.exp (s j - M) ≠ 0 := by
    rw [hL]; exact fun h => hpos.ne' (EReal.coe_eq_zero.mp h)
  have hdiv : ∀ x : EReal, Ideal.div x (∑ j, Ideal.exp (s j - M)) = x * (((∑ j, Real.exp (σ j - μ))⁻¹ : ℝ) : EReal) := fun x => by
    unfold Ideal.div; rw [if_neg hne, hL, EReal.coe_inv]
  simp only [hdiv]
  rw [sum_mul_real _ _ _ (inv_nonneg.mpr hpos.le)]
  refine Finset.sum_congr rfl fun j _ => ?_
  rw [mul_comm (Ideal.exp (s j - M)) (v j), mul_assoc]

/-- A sum of products of real numbers is a real number. -/
theorem dot_real {n : ℕ} (a b : Fin n → EReal) (ha : ∀ j, ∃ x : ℝ, a j = x) (hb : ∀ j, ∃ x : ℝ, b j = x) :
    ∃ x : ℝ, ∑ j, a j * b j = x := by
  choose α hα using ha
  choose β hβ using hb
  refine ⟨∑ j, α j * β j, ?_⟩
  rw [← sum_coe]
  exact Finset.sum_congr rfl fun j _ => by rw [hα, hβ, EReal.coe_mul]

end Cert.AttnMath

end
-- ==== Proof.AttnRef.lean ====
/- What the plain attention computes, entry by entry: at batch `b`, token `t` and lane `d` (head `d / 64`, lane `d % 64` of
   it; key-value head `d / 128`) the softmax of the scores of the query against every key, applied to the values — and, for
   finite queries and keys, the same with the division done once, after the weighted sum. -/
module

public import proofs.«01_k».proof.Proof.Gen.AttnRefIdeal.Run
public import proofs.«01_k».proof.Pre_finite_qk
public import proofs.«01_k».proof.Proof.AttnMath
public import Idealize.ShloMosaic.Lib.ReduceAll

@[expose] public section

set_option maxRecDepth 16384

noncomputable section

namespace Cert.AttnRefIdeal.Hand

open Cert.AttnRefIdeal Cert.AttnRefIdeal.Gen Idealize.ShloMosaic

variable (q : FVec Ideal S8x4x4096x64 .bf16) (k v : FVec Ideal S8x2x4096x64 .bf16)

/-- Every query's score against every key of its head. -/
def scores : FVec Ideal S8x2x2x4096x4096 .f32 :=
  Host.dotGeneral dot_S8x2x2x4096x64_S8x2x4096x64_S8x2x2x4096x4096_4_3_23_2_01_01 none
    (shapeCast S8x2x2x4096x64 (extf .f32 q bitsLt_bf16_f32) shapeCasts_S8x4x4096x64_S8x2x2x4096x64)
    (extf .f32 k bitsLt_bf16_f32)

/-- Each row's largest score. -/
def rowMax : FVec Ideal S8x2x2x4096 .f32 :=
  Host.reduce FloatOps.maximumf (scores q k) (constant (F := Ideal) S_ .f32 0xFF800000#32)
    reducesTo_S8x2x2x4096x4096_S8x2x2x4096_d4 h_S_

/-- From scores `S` and their row maxima `R`: exp of each score less its row's maximum. -/
def weightsOf (S : FVec Ideal S8x2x2x4096x4096 .f32) (R : FVec Ideal S8x2x2x4096 .f32) : FVec Ideal S8x2x2x4096x4096 .f32 :=
  Host.exp (subf S
    (broadcastInDim S8x2x2x4096x4096 ![0, 1, 2, 3, 4] bcast_S8x2x2x4096x1_S8x2x2x4096x4096_0_1_2_3_4
      (broadcastInDim S8x2x2x4096x1 ![0, 1, 2, 3] bcast_S8x2x2x4096_S8x2x2x4096x1_0_1_2_3
        (maximumf (broadcastInDim S8x2x2x4096 ![] bcast_S_S8x2x2x4096 (constant S_ .f32 0xFF800000#32)) R))))

/-- The weights before they are divided. -/
def weights : FVec Ideal S8x2x2x4096x4096 .f32 := weightsOf (scores q k) (rowMax q k)

/-- The reference's result. -/
def REF : FVec Ideal S8x4096x256 .f32 :=
  shapeCast S8x4096x256
    (transpose S8x4096x2x2x64 [0, 4, 1, 3, 2]
      (Host.dotGeneral dot_S8x2x4096x64_S8x2x2x4096x4096_S8x2x64x2x4096_2_4_3_23_01_01 none (extf .f32 v bitsLt_bf16_f32)
        (Host.divf (weights q k)
          (broadcastInDim S8x2x2x4096x4096 ![0, 1, 2, 3, 4] bcast_S8x2x2x4096x1_S8x2x2x4096x4096_0_1_2_3_4
            (broadcastInDim S8x2x2x4096x1 ![0, 1, 2, 3] bcast_S8x2x2x4096_S8x2x2x4096x1_0_1_2_3
              (Host.reduceAdd (weights q k) (constant S_ .f32 0x00000000#32)
                reducesTo_S8x2x2x4096x4096_S8x2x2x4096_d4 h_S_)))))
      transposes_S8x2x64x2x4096_S8x4096x2x2x64_0_4_1_3_2)
    shapeCasts_S8x4096x2x2x64_S8x4096x256

/-- The score of token `t` of head `h` against key `j`, at batch `b`. -/
def score (b : Fin 8) (h : Fin 4) (g : Fin 2) (t j : Fin 4096) : EReal := ∑ x : Fin 64, q (ix4 b h t x) * k (ix4 b g j x)

/-- The pattern of the maximum's start is minus infinity. -/
theorem neg_inf : Ideal.ofBits .f32 0xFF800000#32 = (⊥ : EReal) := by simp [Ideal.ofBits, Ideal.ieee]

/-- The largest score of a row. -/
def top (b : Fin 8) (h : Fin 4) (g : Fin 2) (t : Fin 4096) : EReal := Finset.univ.fold max (⊥ : EReal) (score q k b h g t)

theorem scores_apply (b : Fin 8) (h : Fin 4) (g r : Fin 2) (t j : Fin 4096) (hh : g.val * 2 + r.val = h.val) :
    scores q k (ix5 b g r t j) = score q k b h g t j := by
  pointwise [scores]
  simp only [hh, Fin.eta]
  rfl

theorem rowMax_apply (b : Fin 8) (h : Fin 4) (g r : Fin 2) (t : Fin 4096) (hh : g.val * 2 + r.val = h.val) :
    rowMax q k (ix4 b g r t) = top q k b h g t := by
  pointwise [rowMax]
  rw [neg_inf]
  simp only [scores_apply q k b h g r t _ hh]
  rfl

theorem weightsOf_apply (S : FVec Ideal S8x2x2x4096x4096 .f32) (R : FVec Ideal S8x2x2x4096 .f32) (b : Fin 8) (g r : Fin 2)
    (t j : Fin 4096) : weightsOf S R (ix5 b g r t j) = Ideal.exp (S (ix5 b g r t j) - R (ix4 b g r t)) := by
  pointwise [weightsOf]
  rw [neg_inf, max_eq_right bot_le]

theorem weights_apply (b : Fin 8) (h : Fin 4) (g r : Fin 2) (t j : Fin 4096) (hh : g.val * 2 + r.val = h.val) :
    weights q k (ix5 b g r t j) = Ideal.exp (score q k b h g t j - top q k b h g t) := by
  rw [weights, weightsOf_apply, rowMax_apply q k b h g r t hh, scores_apply q k b h g r t j hh]

/-- The reference at an entry. -/
theorem REF_apply (i : S8x4096x256.Idx) (b : Fin 8) (t : Fin 4096) (h : Fin 4) (g : Fin 2) (l : Fin 64)
    (hb : (i 0).val = b.val) (ht : (i 1).val = t.val) (hh : h.val = (i 2).val / 64) (hg : g.val = (i 2).val / 128)
    (hl : l.val = (i 2).val % 64) :
    REF q k v i = ∑ j : Fin 4096, v (ix4 b g j l) * Ideal.div (Ideal.exp (score q k b h g t j - top q k b h g t))
      (∑ j : Fin 4096, Ideal.exp (score q k b h g t j - top q k b h g t)) := by
  have e0 : i 0 = b := Fin.ext hb
  have e1 : i 1 = t := Fin.ext ht
  have i2 : (i 2).val < 256 := (i 2).isLt
  have hd : g.val * 2 + (⟨(i 2).val / 64 % 2, by omega⟩ : Fin 2).val = h.val := by show g.val * 2 + (i 2).val / 64 % 2 = _; omega
  pointwise [REF]
  simp only [← hg, ← hl, e0, e1, Fin.eta, weights_apply q k b h g _ t _ hd]

/-- Finite queries and keys have real scores. -/
theorem score_real (hq : ∀ i, ∃ x : ℝ, q i = x) (hk : ∀ i, ∃ x : ℝ, k i = x) (b : Fin 8) (h : Fin 4) (g : Fin 2) (t j : Fin 4096) :
    ∃ x : ℝ, score q k b h g t j = x :=
  AttnMath.dot_real _ _ (fun _ => hq _) (fun _ => hk _)

/-- The reference at an entry, for finite queries and keys: the weighted sum divided once. -/
theorem REF_apply_of_finite (hq : ∀ i, ∃ x : ℝ, q i = x) (hk : ∀ i, ∃ x : ℝ, k i = x)
    (i : S8x4096x256.Idx) (b : Fin 8) (t : Fin 4096) (h : Fin 4) (g : Fin 2) (l : Fin 64)
    (hb : (i 0).val = b.val) (ht : (i 1).val = t.val) (hh : h.val = (i 2).val / 64) (hg : g.val = (i 2).val / 128)
    (hl : l.val = (i 2).val % 64) :
    REF q k v i = Ideal.div (∑ j : Fin 4096, Ideal.exp (score q k b h g t j - top q k b h g t) * v (ix4 b g j l))
      (∑ j : Fin 4096, Ideal.exp (score q k b h g t j - top q k b h g t)) := by
  rw [REF_apply q k v i b t h g l hb ht hh hg hl]
  exact (AttnMath.softmax_div (by decide) (score q k b h g t) (fun j => v (ix4 b g j l))
    (score_real q k hq hk b h g t) (top q k b h g t) rfl).symm

/-- An extended real whose absolute value is below plus infinity is a real number. -/
theorem real_of_abs_lt (x : EReal) (h : BitVec.ofBool (decide (FloatOps.absf (F := Ideal) (φ := .f32) x < Ideal.ofBits FTy.f32 0x7F800000#32)) = 1#1) :
    ∃ r : ℝ, x = r := by
  have e : Ideal.ofBits FTy.f32 0x7F800000#32 = (⊤ : EReal) := by simp [Ideal.ofBits, Ideal.ieee]
  rw [e] at h
  have hlt : FloatOps.absf (F := Ideal) (φ := .f32) x < (⊤ : EReal) := by
    by_contra hc
    rw [decide_eq_false hc] at h
    exact absurd h (by decide)
  induction x using EReal.rec with
  | bot => exact absurd hlt (by simp [FloatOps.absf])
  | top => exact absurd hlt (by simp [FloatOps.absf])
  | coe r => exact ⟨r, rfl⟩

/-- Every entry of an array is a real number. -/
def AllReal {s : Shape} {φ : FTy} (a : FVec Ideal s φ) : Prop := ∀ i, ∃ x : ℝ, a i = x

/-- The precondition says that every query and every key is a real number. -/
theorem finite_of_pre [Cert.Pre_finite_qk.Facts] (h : Cert.Pre_finite_qk.fn (F := Ideal) q k v = fun _ => 1#1) :
    AllReal q ∧ AllReal k := by
  have h0 := congrFun h ix0
  unfold Cert.Pre_finite_qk.fn at h0
  haveI : Subsingleton Cert.Pre_finite_qk.S_.Idx := ⟨fun a b => funext fun x => x.elim0⟩
  obtain ⟨ha, hb⟩ := IntOp.andi_eq_one.mp h0
  exact ⟨fun i => real_of_abs_lt _ (Host.reduce_andi_all _ _ _ _ _ ha i), fun i => real_of_abs_lt _ (Host.reduce_andi_all _ _ _ _ _ hb i)⟩

end Cert.AttnRefIdeal.Hand

end
-- ==== Proof.AttnBlock.lean ====
/- What the attention kernel computes at one grid point, from its blocks of queries, keys and values, entry by entry. -/
module

public import proofs.«01_k».proof.Proof.Gen.AttnIdeal.Value
public import proofs.«01_k».proof.Proof.AttnRef

@[expose] public section

set_option maxRecDepth 16384

noncomputable section

namespace Cert.AttnIdeal.Hand

open Cert.AttnIdeal Cert.AttnIdeal.Gen Idealize.ShloMosaic

variable (x0 : Vec Ideal S1x1x2x128x64 .bf16) (x1 x2 : Vec Ideal S1x1x4096x64 .bf16)

/-- The score of the block's query `r` of head `h` against key `j`. -/
def bscore (h : Fin 2) (r : Fin 128) (j : Fin 4096) : EReal := ∑ x : Fin 64, x0 (ix5 0 0 h r x) * x1 (ix4 0 0 j x)

/-- The largest score of the block's row. -/
def btop (h : Fin 2) (r : Fin 128) : EReal := Finset.univ.fold max (⊥ : EReal) (bscore x0 x1 h r)

/-- The softmax of the block's row, applied to the values and divided once. -/
def bsoft (h : Fin 2) (r : Fin 128) (l : Fin 64) : EReal :=
  Ideal.div (∑ j : Fin 4096, Ideal.exp (bscore x0 x1 h r j - btop x0 x1 h r) * x2 (ix4 0 0 j l))
    (∑ j : Fin 4096, Ideal.exp (bscore x0 x1 h r j - btop x0 x1 h r))

/-- The block's product, its two heads stacked: row `128 * h + r` is head `h`'s query `r`. -/
theorem pay1_apply (R : Fin 256) (h : Fin 2) (r : Fin 128) (l : Fin 64) (hh : R.val / 128 = h.val) (hr : R.val % 128 = r.val) :
    k0_pay1 x0 x1 x2 (ix2 R l) = bsoft x0 x1 x2 h r l := by
  pointwise [k0_pay1]
  rw [AttnRefIdeal.Hand.neg_inf]
  simp only [hh, hr, Fin.eta]
  rfl

/-- The first store: head 0. -/
theorem pay2_apply (y : S1x128x64.Idx) : k0_pay2 x0 x1 x2 y = bsoft x0 x1 x2 0 (y 1) (y 2) := by
  have h : k0_pay2 x0 x1 x2 y = k0_pay1 x0 x1 x2 (ix2 ⟨(y 1).val, by have : (y 1).val < 128 := (y 1).isLt; omega⟩ (y 2)) := by
    pointwise [k0_pay2]
  rw [h]
  have : (y 1).val < 128 := (y 1).isLt
  exact pay1_apply x0 x1 x2 _ 0 (y 1) (y 2) (by show (y 1).val / 128 = 0; omega) (by show (y 1).val % 128 = _; omega)

/-- The second store: head 1. -/
theorem pay3_apply (y : S1x128x64.Idx) : k0_pay3 x0 x1 x2 y = bsoft x0 x1 x2 1 (y 1) (y 2) := by
  have h : k0_pay3 x0 x1 x2 y = k0_pay1 x0 x1 x2 (ix2 ⟨128 + (y 1).val, by have : (y 1).val < 128 := (y 1).isLt; omega⟩ (y 2)) := by
    pointwise [k0_pay3]
  rw [h]
  have : (y 1).val < 128 := (y 1).isLt
  exact pay1_apply x0 x1 x2 _ 1 (y 1) (y 2) (by show (128 + (y 1).val) / 128 = 1; omega) (by show (128 + (y 1).val) % 128 = _; omega)

end Cert.AttnIdeal.Hand

end
-- ==== Proof.AttnOut.lean ====
/- The attention kernel's result array: every entry, from the queries, keys and values it was launched on, is the softmax
   of the scores of its row, applied to the values and divided once. -/
module

public import proofs.«01_k».proof.Proof.AttnBlock
public import Idealize.ShloMosaic.Lib.Pipeline.ValueKit
public import Idealize.ShloMosaic.Lib.Pipeline.Covers

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- A grid coordinate is small, so its 32-bit word is itself. -/
theorem word (i : grid0.Coords) (a : Fin 3) : (BitVec.ofNat 32 (i a).val).toNat = (i a).val := by
  have h : ∀ a : Fin 3, grid0.bound a ≤ 32 := by decide
  have := (i a).isLt
  have := h a
  rw [BitVec.toNat_ofNat]
  exact Nat.mod_eq_of_lt (by omega)

/-- The queries' block, key-value head and 128-row block. -/
theorem idx_q (i : grid0.Coords) : cc0_transform_0 i = ![(i 0).val, (i 1).val, 0, (i 2).val, 0] := by
  simp only [cc0_transform_0, word]; rfl

theorem idx_k (i : grid0.Coords) : cc0_transform_1 i = ![(i 0).val, (i 1).val, 0, 0] := by
  simp only [cc0_transform_1, word]; rfl

theorem idx_v (i : grid0.Coords) : cc0_transform_2 i = ![(i 0).val, (i 1).val, 0, 0] := by
  simp only [cc0_transform_2, word]; rfl

theorem idx_o (i : grid0.Coords) : cc0_transform_3 i = ![(i 0).val, (i 2).val, (i 1).val] := by
  simp only [cc0_transform_3, word]

/-- The output blocks cover the result array. -/
theorem covers : (cfg0.win 3).Covers :=
  (cfg0.win 3).covers_of_indexMap_surj rfl (by decide) fun β => by
    have h0 : (β 0).val < 8 := (β 0).isLt
    have h1 : (β 1).val < 32 := (β 1).isLt
    have h2 : (β 2).val < 2 := (β 2).isLt
    let i : grid0.Coords := fun a => match a with
      | 0 => (⟨(β 0).val, h0⟩ : Fin 8)
      | 1 => (⟨(β 2).val, h2⟩ : Fin 2)
      | 2 => (⟨(β 1).val, h1⟩ : Fin 32)
    refine ⟨i, fun a => ?_⟩
    have e : (cfg0.win 3).indexMap i = ![(i 0).val, (i 2).val, (i 1).val] := idx_o i
    rw [e]
    match a with
    | 0 => rfl
    | 1 => rfl
    | 2 => rfl

/-- The four windows' block indices at a point. -/
theorem idx (t : Fin grid0.N) : win0_0.index t = ![(grid0.coords t 0).val, (grid0.coords t 1).val, 0, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val] :=
  ⟨idx_q _, idx_k _, idx_v _, idx_o _⟩

theorem read_k (c : Dev nD) (t : Fin cfg0.N) (b : Fin 8) (g : Fin 2) (hb : b.val = (grid0.coords t 0).val) (hg : g.val = (grid0.coords t 1).val)
    (j : Fin 4096) (x : Fin 64) : iblk m c 1 t (ix4 0 0 j x) = m ((c : Thread nD τ).loc main_arg1) (ix4 b g j x) := by
  blk_ext [iblk, V, idx t]

theorem read_v (c : Dev nD) (t : Fin cfg0.N) (b : Fin 8) (g : Fin 2) (hb : b.val = (grid0.coords t 0).val) (hg : g.val = (grid0.coords t 1).val)
    (j : Fin 4096) (x : Fin 64) : iblk m c 2 t (ix4 0 0 j x) = m ((c : Thread nD τ).loc main_arg2) (ix4 b g j x) := by
  blk_ext [iblk, V, idx t]

theorem read_q (c : Dev nD) (t : Fin cfg0.N) (b : Fin 8) (h : Fin 4) (T : Fin 4096) (e : Fin 2) (r : Fin 128)
    (hb : b.val = (grid0.coords t 0).val) (hh : h.val = 2 * (grid0.coords t 1).val + e.val) (hT : T.val = 128 * (grid0.coords t 2).val + r.val)
    (x : Fin 64) : iblk m c 0 t (ix5 0 0 e r x) = m ((c : Thread nD τ).loc main_arg0) (ix4 b h T x) := by
  blk_simp [iblk]
  entry_read
  pointwise
  blk_ext [idx t]

/-- One block's softmax is the reference's entry: head `e` of the point's pair, query `r`, lane `l` of the block stand at
    head `h`, token `i 1`, lane `l` of the array. -/
theorem block_eq (c : Dev nD) (hq : AttnRefIdeal.Hand.AllReal (s := S8x4x4096x64) (φ := .bf16) (m ((c : Thread nD τ).loc main_arg0)))
    (hk : AttnRefIdeal.Hand.AllReal (s := S8x2x4096x64) (φ := .bf16) (m ((c : Thread nD τ).loc main_arg1))) (t : Fin cfg0.N) (e : Fin 2) (r : Fin 128) (l : Fin 64)
    (i : S8x4096x256.Idx) (h0 : (grid0.coords t 0).val = (i 0).val) (h1 : (grid0.coords t 2).val * 128 + r.val = (i 1).val)
    (h2 : (grid0.coords t 1).val * 128 + 64 * e.val + l.val = (i 2).val) :
    bsoft (iblk m c 0 t) (iblk m c 1 t) (iblk m c 2 t) e r l
      = AttnRefIdeal.Hand.REF (m ((c : Thread nD τ).loc main_arg0)) (m ((c : Thread nD τ).loc main_arg1))
          (m ((c : Thread nD τ).loc main_arg2)) i := by
  have b0 : (i 0).val < 8 := (i 0).isLt
  have b1 : (i 1).val < 4096 := (i 1).isLt
  have b2 : (i 2).val < 256 := (i 2).isLt
  have be : e.val < 2 := e.isLt
  have bl : l.val < 64 := l.isLt
  have br : r.val < 128 := r.isLt
  let b : Fin 8 := ⟨(i 0).val, b0⟩
  let T : Fin 4096 := ⟨(i 1).val, b1⟩
  let h : Fin 4 := ⟨(i 2).val / 64, by omega⟩
  let g : Fin 2 := ⟨(i 2).val / 128, by omega⟩
  have hb : b.val = (grid0.coords t 0).val := h0.symm
  have hg : g.val = (grid0.coords t 1).val := by show (i 2).val / 128 = _; omega
  have hh : h.val = 2 * (grid0.coords t 1).val + e.val := by show (i 2).val / 64 = _; omega
  have hT : T.val = 128 * (grid0.coords t 2).val + r.val := by show (i 1).val = _; omega
  have hl : l.val = (i 2).val % 64 := by omega
  have es : bscore (iblk m c 0 t) (iblk m c 1 t) e r
      = AttnRefIdeal.Hand.score (m ((c : Thread nD τ).loc main_arg0)) (m ((c : Thread nD τ).loc main_arg1)) b h g T := by
    funext j
    unfold bscore AttnRefIdeal.Hand.score
    exact Finset.sum_congr rfl fun x _ => by rw [read_q m c t b h T e r hb hh hT x, read_k m c t b g hb hg j x]
  rw [AttnRefIdeal.Hand.REF_apply_of_finite _ _ _ hq hk i b T h g l rfl rfl rfl rfl hl]
  unfold bsoft btop
  rw [es]
  simp only [read_v m c t b g hb hg]
  rfl

/-- The kernel's result array, for finite queries and keys, is the reference's. -/
theorem out (c : Dev nD) (hq : AttnRefIdeal.Hand.AllReal (s := S8x4x4096x64) (φ := .bf16) (m ((c : Thread nD τ).loc main_arg0)))
    (hk : AttnRefIdeal.Hand.AllReal (s := S8x2x4096x64) (φ := .bf16) (m ((c : Thread nD τ).loc main_arg1))) :
    (dats m 0 c).arrAt 3 cfg0.N
      = AttnRefIdeal.Hand.REF (m ((c : Thread nD τ).loc main_arg0)) (m ((c : Thread nD τ).loc main_arg1))
          (m ((c : Thread nD τ).loc main_arg2)) := by
  refine (dats m 0 c).arrAt_eq_of_covers 3 _ covers fun t hf y => ?_
  blk_simp
  rw [after0_3]
  frame_out
  canon_tiles x h
  all_goals
    generalize hi : ((View.whole main_v1).slice (win0_3.rect t)).emb y = i
    have e0 := congrArg (fun i => (i 0).val) hi
    have e1 := congrArg (fun i => (i 1).val) hi
    have e2 := congrArg (fun i => (i 2).val) hi
    blk_simp [idx t] at e0 e1 e2
  · rw [pay3_apply]
    exact block_eq m c hq hk t 1 (x 1) (x 2) i (by omega) (by omega) (by simp; omega)
  · rw [pay2_apply]
    exact block_eq m c hq hk t 0 (x 1) (x 2) i (by omega) (by omega) (by simp; omega)

end Cert.AttnIdeal.Hand

end
-- ==== Proof.AttnClaims.lean ====
/- The claims about the attention call: its frames, and that its result is the plain attention's. -/
module

public import proofs.«01_k».proof.Defs
public import proofs.«01_k».proof.Proof.AttnOut
public import proofs.«01_k».proof.Proof.Gen.Attn.Frame
public import proofs.«01_k».proof.Proof.Gen.AttnIdeal.Frame
public import proofs.«01_k».proof.Proof.Gen.Pre_finite_qk
public import Idealize.ShloMosaic.Adequacy
public import Idealize.ShloMosaic.Init

@[expose] public section

set_option maxRecDepth 16384

noncomputable section

namespace Cert.Proof.AttnClaims

open Idealize.ShloMosaic Idealize.SL.Sem

/-- The kernel runs, word for word and ideally, and leaves its arguments as they were. -/
theorem frame_p : Cert.quiescent_Attn := fun m ρ _ => Cert.Attn.Gen.frame m ρ
theorem frame_pi : Cert.quiescent_AttnIdeal := fun m ρ _ => Cert.AttnIdeal.Gen.frame m ρ
theorem frame_pi_pre : Cert.quiescent_AttnIdeal_pre_finite_qk := fun m ρ _ => Cert.AttnIdeal.Gen.frame m ρ

/-- The reference runs and leaves its arguments as they were; it has no semaphore. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
theorem frame_ri_pre : Cert.quiescent_AttnRefIdeal_pre_finite_qk := fun m ρ _ => frame_ri m ρ trivial

/-- Nothing was rewritten between the kernel and its ideal form. -/
theorem preserves : Cert.preserves_Attn_AttnIdeal := trivial

/-- For finite queries and keys, and any values, the kernel's result is the plain attention's. -/
theorem algebraic : Cert.algebraic_AttnIdeal_AttnRefIdeal_pre_finite_qk := by
  intro m ρ m' ρ' hpre hagree
  have hfin := fun c => AttnRefIdeal.Hand.finite_of_pre _ _ _ (hpre c)
  refine ⟨fun c => AttnRefIdeal.Hand.REF (m ((c.tc : Thread Cert.AttnIdeal.nD Cert.AttnIdeal.τ).loc Cert.AttnIdeal.main_arg0))
    (m ((c.tc : Thread Cert.AttnIdeal.nD Cert.AttnIdeal.τ).loc Cert.AttnIdeal.main_arg1))
    (m ((c.tc : Thread Cert.AttnIdeal.nD Cert.AttnIdeal.τ).loc Cert.AttnIdeal.main_arg2)), ?_, ?_⟩
  · exact (θ_run Cert.AttnIdeal.defs _ _).mono
      (fun _ h c => ⟨(h c).1.trans (AttnIdeal.Hand.out m c (hfin c).1 (hfin c).2), (h c).2⟩)
      (Cert.AttnIdeal.Value.run_blocks (F := Ideal) m ρ)
  · refine (θ_run Cert.AttnRefIdeal.defs _ _).mono (fun _ h c => ⟨(h c).1.trans ?_, (h c).2⟩)
      (Cert.AttnRefIdeal.Value.run (F := Ideal) m' ρ')
    rw [(hagree c).1, (hagree c).2.1, (hagree c).2.2]
    rfl

end Cert.Proof.AttnClaims

end
-- ==== Proof.FfnRef.lean ====
/- What the plain expert layer computes, entry by entry: the gated hidden layer of the tokens each expert took, its down
   projection, and the token's gate times it. Which tokens an expert takes (softmax, top-k, gather) is the same text on both
   sides and stays closed. -/
module

public import proofs.«01_k».proof.Proof.Gen.FfnRefIdeal.Run
public import Idealize.ShloMosaic.Lib.Pointwise

@[expose] public section

set_option maxRecDepth 16384

noncomputable section

namespace Cert.FfnRefIdeal.Hand

open Cert.FfnRefIdeal Cert.FfnRefIdeal.Gen Idealize.ShloMosaic

variable (h : FVec Ideal S8x4096x1024 .f32) (rw : FVec Ideal S1024x16 .f32) (rb : FVec Ideal S16 .f32)
  (wg wu wd : FVec Ideal S16x1024x1024 .f32) (xs : FVec Ideal S8x16x512x1024 .f32) (gt : FVec Ideal S8x16x512 .f32)

/-- The router's logits. -/
def logits : FVec Ideal S8x4096x16 .f32 :=
  addf (Host.dotGeneral dot_S8x4096x1024_S1024x16_S8x4096x16_2_0_01_1_n_n none h rw)
    (broadcastInDim S8x4096x16 ![0, 1, 2] bcast_S1x1x16_S8x4096x16_0_1_2 (broadcastInDim S1x1x16 ![2] bcast_S16_S1x1x16_2 rb))

/-- exp of each logit less its token's largest. -/
def expShifted (l : FVec Ideal S8x4096x16 .f32) : FVec Ideal S8x4096x16 .f32 :=
  Host.exp (subf l (broadcastInDim S8x4096x16 ![0, 1, 2] bcast_S8x4096x1_S8x4096x16_0_1_2
    (broadcastInDim S8x4096x1 ![0, 1] bcast_S8x4096_S8x4096x1_0_1
      (maximumf (broadcastInDim S8x4096 ![] bcast_S_S8x4096 (constant S_ .f32 0xFF800000#32))
        (Host.reduce FloatOps.maximumf l (constant S_ .f32 0xFF800000#32) reducesTo_S8x4096x16_S8x4096_d2 h_S_)))))

/-- A row softmax from the shifted exponentials. -/
def normalised (e : FVec Ideal S8x4096x16 .f32) : FVec Ideal S8x4096x16 .f32 :=
  Host.divf e (broadcastInDim S8x4096x16 ![0, 1, 2] bcast_S8x4096x1_S8x4096x16_0_1_2
    (broadcastInDim S8x4096x1 ![0, 1] bcast_S8x4096_S8x4096x1_0_1
      (Host.reduceAdd e (constant S_ .f32 0x00000000#32) reducesTo_S8x4096x16_S8x4096_d2 h_S_)))

/-- The experts' picks: gates and token indices. -/
def picks : FVec Ideal S8x16x512 .f32 × IVec S8x16x512 32 :=
  Host.topK S8x16x512 2 (FloatOps.cmpfTotal .gt)
    (transpose S8x16x4096 [0, 2, 1] (normalised (expShifted (logits h rw rb))) transposes_S8x4096x16_S8x16x4096_0_2_1)
    sliceFits_S8x16x4096_S8x16x512

/-- The picked tokens' rows, from the indices. -/
def rowsAt (idx : IVec S8x16x512 32) : FVec Ideal S8x16x512x1024 .f32 :=
  Host.gather gather_S8x4096x1024_S8x16x512x1_S8x16x512x1024_3_1_0_0_1_3_111024 h
    (broadcastInDim S8x16x512x1 ![0, 1, 2] bcast_S8x16x512_S8x16x512x1_0_1_2
      (select (cmpi .slt idx (broadcastInDim S8x16x512 ![] bcast_S_S8x16x512 (constantI S_ 32 0#32)))
        (addi idx (broadcastInDim S8x16x512 ![] bcast_S_S8x16x512 (constantI S_ 32 4096#32))) idx))

/-- The product of the tokens' rows and an expert's matrix. -/
def proj (w : FVec Ideal S16x1024x1024 .f32) (x : FVec Ideal S8x16x512x1024 .f32) : FVec Ideal S8x16x512x1024 .f32 :=
  transpose S8x16x512x1024 [2, 0, 3, 1] (Host.dotGeneral dot_S16x1024x1024_S8x16x512x1024_S16x1024x8x512_1_3_2_02_0_1 none w x)
    transposes_S16x1024x8x512_S8x16x512x1024_2_0_3_1

/-- `a · 1 / (1 + exp (−a))`, times the up projection. -/
def gated (a u : FVec Ideal S8x16x512x1024 .f32) : FVec Ideal S8x16x512x1024 .f32 :=
  mulf (mulf a (Host.divf (broadcastInDim S8x16x512x1024 ![] bcast_S_S8x16x512x1024 (constant S_ .f32 0x3F800000#32))
    (addf (broadcastInDim S8x16x512x1024 ![] bcast_S_S8x16x512x1024 (constant S_ .f32 0x3F800000#32)) (Host.exp (Host.negf a))))) u

/-- The result, from the down projection and the gates. -/
def scaled (y : FVec Ideal S8x16x512x1024 .f32) : FVec Ideal S8x16x512x1024 .f32 :=
  mulf y (broadcastInDim S8x16x512x1024 ![0, 1, 2, 3] bcast_S8x16x512x1_S8x16x512x1024_0_1_2_3
    (broadcastInDim S8x16x512x1 ![0, 1, 2] bcast_S8x16x512_S8x16x512x1_0_1_2 gt))

/-- The whole expert layer on picked rows and gates. -/
def experts : FVec Ideal S8x16x512x1024 .f32 := scaled gt (proj wd (gated (proj wg xs) (proj wu xs)))

/-- The reference's result. -/
def REF : FVec Ideal S8x16x512x1024 .f32 := experts wg wu wd (rowsAt h (picks h rw rb).2) (picks h rw rb).1

theorem proj_apply (w : FVec Ideal S16x1024x1024 .f32) (x : FVec Ideal S8x16x512x1024 .f32) (b : Fin 8) (e : Fin 16) (c : Fin 512)
    (f : Fin 1024) : proj w x (ix4 b e c f) = ∑ d : Fin 1024, w (ix3 e d f) * x (ix4 b e c d) := by
  pointwise [proj]

theorem gated_apply (a u : FVec Ideal S8x16x512x1024 .f32) (i : S8x16x512x1024.Idx) :
    gated a u i = a i * Ideal.div 1 (1 + Ideal.exp (-(a i))) * u i := by
  pointwise [gated]

theorem scaled_apply (y : FVec Ideal S8x16x512x1024 .f32) (b : Fin 8) (e : Fin 16) (c : Fin 512) (d : Fin 1024) :
    scaled gt y (ix4 b e c d) = y (ix4 b e c d) * gt (ix3 b e c) := by
  pointwise [scaled]

/-- The hidden layer at an entry. -/
def hidden (b : Fin 8) (e : Fin 16) (c : Fin 512) (f : Fin 1024) : EReal :=
  (∑ d : Fin 1024, xs (ix4 b e c d) * wg (ix3 e d f)) *
    Ideal.div 1 (1 + Ideal.exp (-(∑ d : Fin 1024, xs (ix4 b e c d) * wg (ix3 e d f)))) *
    (∑ d : Fin 1024, xs (ix4 b e c d) * wu (ix3 e d f))

/-- The expert layer at an entry. -/
theorem experts_apply (b : Fin 8) (e : Fin 16) (c : Fin 512) (d : Fin 1024) :
    experts wg wu wd xs gt (ix4 b e c d) = (∑ f : Fin 1024, hidden wg wu xs b e c f * wd (ix3 e f d)) * gt (ix3 b e c) := by
  simp only [experts, scaled_apply, proj_apply, gated_apply, hidden, mul_comm (wd _), mul_comm (wg _), mul_comm (wu _)]

end Cert.FfnRefIdeal.Hand

end
-- ==== Proof.FfnOut.lean ====
/- What the experts' kernel computes at one grid point, and its result array: the expert layer of the tokens picked. -/
module

public import proofs.«01_k».proof.Proof.FfnRef
public import proofs.«01_k».proof.Proof.Gen.FfnIdeal.Value
public import Idealize.ShloMosaic.Lib.Pipeline.ValueKit
public import Idealize.ShloMosaic.Lib.Pipeline.Covers

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

/-- One block's result at an entry. -/
theorem pay_apply (x : Vec Ideal S1x1x512x1024 .f32) (wg wu wd : Vec Ideal S1x1024x1024 .bf16) (g : Vec Ideal S1x1x512x1 .f32)
    (c : Fin 512) (d : Fin 1024) : k0_pay1 x wg wu wd g (ix4 0 0 c d)
      = (∑ f : Fin 1024, (∑ k : Fin 1024, x (ix4 0 0 c k) * wg (ix3 0 k f)) *
          Ideal.div 1 (1 + Ideal.exp (-(∑ k : Fin 1024, x (ix4 0 0 c k) * wg (ix3 0 k f)))) *
          (∑ k : Fin 1024, x (ix4 0 0 c k) * wu (ix3 0 k f)) * wd (ix3 0 f d)) * g (ix4 0 0 c 0) := by
  pointwise [k0_pay1]
  rfl

variable (m : (ℓ : Loc nD τ sig) → Buf (Elt Ideal) ℓ)

/-- The windows' block indices at a point: expert the first coordinate, batch the second. -/
theorem idx : ∀ t : Fin grid0.N, win0_0.index t = ![(grid0.coords t 1).val, (grid0.coords t 0).val, 0, 0]
    ∧ win0_1.index t = ![(grid0.coords t 1).val, (grid0.coords t 0).val, 0, 0]
    ∧ win0_2.index t = ![(grid0.coords t 0).val, 0, 0] ∧ win0_3.index t = ![(grid0.coords t 0).val, 0, 0]
    ∧ win0_4.index t = ![(grid0.coords t 0).val, 0, 0]
    ∧ win0_5.index t = ![(grid0.coords t 1).val, (grid0.coords t 0).val, 0, 0] := by decide +kernel

theorem covers : (cfg0.win 5).Covers := by decide +kernel

/-- The picks of the launch's tokens and router. -/
def picks (c : Dev nD) : FVec Ideal S8x16x512 .f32 × IVec S8x16x512 32 :=
  FfnRefIdeal.Hand.picks (m ((c : Thread nD τ).loc main_arg0)) (m ((c : Thread nD τ).loc main_arg1)) (m ((c : Thread nD τ).loc main_arg2))

/-- The region's first operand is the picked rows. -/
theorem entry_x (c : Dev nD) : V m c main_v25 = FfnRefIdeal.Hand.rowsAt (m ((c : Thread nD τ).loc main_arg0)) (picks m c).2 := by
  entry_read
  rfl

/-- Its second operand is the gates, in a column. -/
theorem entry_g (c : Dev nD) (i : S8x16x512x1.Idx) : V m c main_v26 i = (picks m c).1 (ix3 (i 0) (i 1) (i 2)) := by
  have e : V m c main_v26 = broadcastInDim S8x16x512x1 ![0, 1, 2] bcast_S8x16x512_S8x16x512x1_0_1_2 (picks m c).1 := by
    entry_read
    rfl
  rw [e]
  generalize (picks m c).1 = p
  pointwise

/-- The weights reach the region rounded; ideally they are as they were. -/
theorem entry_wg (c : Dev nD) (i : S16x1024x1024.Idx) : V m c main_v0 i = m ((c : Thread nD τ).loc main_arg3) i := by
  entry_read
  rfl
theorem entry_wu (c : Dev nD) (i : S16x1024x1024.Idx) : V m c main_v1 i = m ((c : Thread nD τ).loc main_arg4) i := by
  entry_read
  rfl
theorem entry_wd (c : Dev nD) (i : S16x1024x1024.Idx) : V m c main_v2 i = m ((c : Thread nD τ).loc main_arg5) i := by
  entry_read
  rfl

section Reads

variable (c : Dev nD) (t : Fin cfg0.N) (b : Fin 8) (e : Fin 16) (hb : b.val = (grid0.coords t 1).val) (he : e.val = (grid0.coords t 0).val)
include hb he

theorem read_x (r : Fin 512) (k : Fin 1024) : iblk m c 0 t (ix4 0 0 r k) = (FfnRefIdeal.Hand.rowsAt (m ((c : Thread nD τ).loc main_arg0)) (picks m c).2) (ix4 b e r k) := by
  refine Eq.trans (b := V m c main_v25 (ix4 b e r k)) ?_ (congrFun (entry_x m c) _)
  blk_ext [iblk, idx t]
theorem read_g (r : Fin 512) : iblk m c 1 t (ix4 0 0 r 0) = (picks m c).1 (ix3 b e r) := by
  refine Eq.trans (b := V m c main_v26 (ix4 b e r 0)) ?_ (entry_g m c _)
  blk_ext [iblk, idx t]
omit hb in
theorem read_wg (k f : Fin 1024) : iblk m c 2 t (ix3 0 k f) = m ((c : Thread nD τ).loc main_arg3) (ix3 e k f) := by
  refine Eq.trans (b := V m c main_v0 (ix3 e k f)) ?_ (entry_wg m c _)
  blk_ext [iblk, idx t]
omit hb in
theorem read_wu (k f : Fin 1024) : iblk m c 3 t (ix3 0 k f) = m ((c : Thread nD τ).loc main_arg4) (ix3 e k f) := by
  refine Eq.trans (b := V m c main_v1 (ix3 e k f)) ?_ (entry_wu m c _)
  blk_ext [iblk, idx t]
omit hb in
theorem read_wd (k f : Fin 1024) : iblk m c 4 t (ix3 0 k f) = m ((c : Thread nD τ).loc main_arg5) (ix3 e k f) := by
  refine Eq.trans (b := V m c main_v2 (ix3 e k f)) ?_ (entry_wd m c _)
  blk_ext [iblk, idx t]

end Reads

/-- The reference's result on the launch's arguments. -/
abbrev target (c : Dev nD) : FVec Ideal S8x16x512x1024 .f32 :=
  FfnRefIdeal.Hand.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- One block's entry is the reference's, at the point's batch and expert. -/
theorem block_eq (c : Dev nD) (t : Fin cfg0.N) (y : S1x1x512x1024.Idx) (i : S8x16x512x1024.Idx)
    (h0 : (grid0.coords t 1).val = (i 0).val) (h1 : (grid0.coords t 0).val = (i 1).val) (h2 : (y 2).val = (i 2).val)
    (h3 : (y 3).val = (i 3).val) :
    k0_pay1 (iblk m c 0 t) (iblk m c 2 t) (iblk m c 3 t) (iblk m c 4 t) (iblk m c 1 t) y = target m c i := by
  idx_vars y
  idx_vars i
  obtain rfl : y0 = 0 := Subsingleton.elim _ _
  obtain rfl : y1 = 0 := Subsingleton.elim _ _
  obtain rfl : y2 = i2 := Fin.ext h2
  obtain rfl : y3 = i3 := Fin.ext h3
  have hb : i0.val = (grid0.coords t 1).val := h0.symm
  have he : i1.val = (grid0.coords t 0).val := h1.symm
  rw [pay_apply, target, FfnRefIdeal.Hand.REF, FfnRefIdeal.Hand.experts_apply]
  simp only [read_x m c t i0 i1 hb he, read_g m c t i0 i1 hb he, read_wg m c t i1 he, read_wu m c t i1 he, read_wd m c t i1 he]
  rfl

/-- The kernel's result array is the reference's. -/
theorem out (c : Dev nD) : (dats m 0 c).arrAt 5 cfg0.N = target m c := by
  refine (dats m 0 c).arrAt_eq_of_covers 5 _ covers fun t hf y => ?_
  blk_simp
  rw [after0_5]
  frame_out
  generalize hi : ((View.whole main_v27).slice (win0_5.rect t)).emb y = i
  have e0 := congrArg (fun i => (i 0).val) hi
  have e1 := congrArg (fun i => (i 1).val) hi
  have e2 := congrArg (fun i => (i 2).val) hi
  have e3 := congrArg (fun i => (i 3).val) hi
  blk_simp [idx t] at e0 e1 e2 e3
  exact block_eq m c t y i e0 e1 e2 e3

end Cert.FfnIdeal.Hand

end
-- ==== Proof.FfnClaims.lean ====
/- The claims about the experts' call: its frames, and that its result is the plain expert layer's. -/
module

public import proofs.«01_k».proof.Defs
public import proofs.«01_k».proof.Proof.FfnOut
public import proofs.«01_k».proof.Proof.Gen.Ffn.Frame
public import proofs.«01_k».proof.Proof.Gen.FfnIdeal.Frame
public import Idealize.ShloMosaic.Adequacy
public import Idealize.ShloMosaic.Init

@[expose] public section

set_option maxRecDepth 16384

noncomputable section

namespace Cert.Proof.FfnClaims

open Idealize.ShloMosaic Idealize.SL.Sem

/-- The kernel runs, word for word and ideally, and leaves its arguments as they were. -/
theorem frame_p : Cert.quiescent_Ffn := fun m ρ _ => Cert.Ffn.Gen.frame m ρ
theorem frame_pi : Cert.quiescent_FfnIdeal := fun m ρ _ => Cert.FfnIdeal.Gen.frame m ρ

/-- The reference runs and leaves its arguments as they were; it has no semaphore. -/
theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Nothing was rewritten between the kernel and its ideal form. -/
theorem preserves : Cert.preserves_Ffn_FfnIdeal := trivial

/-- The kernel's result is the plain expert layer's, whatever the arguments. -/
theorem algebraic : Cert.algebraic_FfnIdeal_FfnRefIdeal := by
  intro m ρ m' ρ' _ hagree
  refine ⟨fun c => FfnIdeal.Hand.target m c, ?_, ?_⟩
  · exact (θ_run Cert.FfnIdeal.defs _ _).mono (fun _ h c => ⟨(h c).1.trans (FfnIdeal.Hand.out m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4, h5⟩ := hagree c
    show _ = FfnIdeal.Hand.target m c
    unfold FfnIdeal.Hand.target
    rw [← h0, ← h1, ← h2, ← h3, ← h4, ← h5]
    rfl

end Cert.Proof.FfnClaims

end
-- ==== Proof.LayerNorm.lean ====
/- Layer normalisation of a row of 1024: the row's formula, and the plain array text of it read entry by entry. -/
module

public import proofs.«01_k».proof.Proof.Gen.ResidRefIdeal.Run
public import Idealize.ShloMosaic.Lib.Pointwise

@[expose] public section

set_option maxRecDepth 16384

noncomputable section

namespace Cert.Proof.LayerNorm

open Cert.ResidRefIdeal Cert.ResidRefIdeal.Gen Idealize.ShloMosaic

/-- The row length, as the text's 1024. -/
def width : EReal := Ideal.ofBits .f32 0x44800000#32
/-- The text's 1e-5. -/
def eps : EReal := Ideal.ofBits .f32 0x3727C5AC#32

/-- A row's mean. -/
def mean (y : Fin 1024 → EReal) : EReal := Ideal.div (∑ k, y k) width

/-- Layer normalisation of a row `y` with gain `g` and shift `b`, at one column. -/
def row (y : Fin 1024 → EReal) (g b : EReal) (d : Fin 1024) : EReal :=
  (y d - mean y) * Ideal.rsqrt (Ideal.div (∑ k, (y k - mean y) * (y k - mean y)) width + eps) * g + b

/-- The array of row means, in a column. -/
def means (x : FVec Ideal S8x4096x1024 .f32) : FVec Ideal S8x4096x1 .f32 :=
  Host.divf (broadcastInDim S8x4096x1 ![0, 1] bcast_S8x4096_S8x4096x1_0_1
      (Host.reduceAdd x (constant S_ .f32 0x00000000#32) reducesTo_S8x4096x1024_S8x4096_d2 h_S_))
    (broadcastInDim S8x4096x1 ![] bcast_S_S8x4096x1 (constant S_ .f32 0x44800000#32))

/-- The rows less their means. -/
def centred (x : FVec Ideal S8x4096x1024 .f32) : FVec Ideal S8x4096x1024 .f32 :=
  subf x (broadcastInDim S8x4096x1024 ![0, 1, 2] bcast_S8x4096x1_S8x4096x1024_0_1_2 (means x))

/-- Centred rows over the root of their mean square. -/
def scaled (c : FVec Ideal S8x4096x1024 .f32) : FVec Ideal S8x4096x1024 .f32 :=
  mulf c (broadcastInDim S8x4096x1024 ![0, 1, 2] bcast_S8x4096x1_S8x4096x1024_0_1_2
    (Host.rsqrt (addf (means (mulf c c)) (broadcastInDim S8x4096x1 ![] bcast_S_S8x4096x1 (constant S_ .f32 0x3727C5AC#32)))))

/-- The plain text's layer normalisation of an array's rows. -/
def array (x : FVec Ideal S8x4096x1024 .f32) (g b : FVec Ideal S1024 .f32) : FVec Ideal S8x4096x1024 .f32 :=
  addf (mulf (scaled (centred x))
      (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))

/-- The column of means at a row. -/
theorem means_apply (x : FVec Ideal S8x4096x1024 .f32) (i : Fin 8) (r : Fin 4096) :
    means x (ix3 i r 0) = Ideal.div (∑ k : Fin 1024, x (ix3 i r k)) width := by
  pointwise [means]
  rfl

theorem centred_apply (x : FVec Ideal S8x4096x1024 .f32) (i : Fin 8) (r : Fin 4096) (d : Fin 1024) :
    centred x (ix3 i r d) = x (ix3 i r d) - mean fun k => x (ix3 i r k) := by
  rw [centred]
  have e := means_apply x i r
  generalize means x = s at e ⊢
  pointwise
  rw [e]
  rfl

theorem scaled_apply (c : FVec Ideal S8x4096x1024 .f32) (i : Fin 8) (r : Fin 4096) (d : Fin 1024) :
    scaled c (ix3 i r d)
      = c (ix3 i r d) * Ideal.rsqrt (Ideal.div (∑ k : Fin 1024, c (ix3 i r k) * c (ix3 i r k)) width + eps) := by
  rw [scaled]
  have e := means_apply (mulf c c) i r
  generalize means (mulf c c) = s at e ⊢
  pointwise
  rw [e]
  rfl

/-- The array text at an entry is the row's formula. -/
theorem array_apply (x : FVec Ideal S8x4096x1024 .f32) (g b : FVec Ideal S1024 .f32) (i : Fin 8) (r : Fin 4096) (d : Fin 1024) :
    array x g b (ix3 i r d) = row (fun k => x (ix3 i r k)) (g (ix1 d)) (b (ix1 d)) d := by
  rw [array]
  have e : scaled (centred x) (ix3 i r d) = _ := scaled_apply (centred x) i r d
  simp only [centred_apply] at e
  generalize scaled (centred x) = s at e ⊢
  pointwise
  rw [e]
  rfl

end Cert.Proof.LayerNorm

end
-- ==== Proof.ResidOut.lean ====
/- What the residual kernel computes at one grid point, and its result array: the second layer norm of the residual and the
   experts' sum. The scatter-add of the experts' outputs is the same text on both sides and stays closed. -/
module

public import proofs.«01_k».proof.Proof.LayerNorm
public import proofs.«01_k».proof.Proof.Gen.ResidIdeal.Value
public import Idealize.ShloMosaic.Lib.Pipeline.ValueKit
public import Idealize.ShloMosaic.Lib.Pipeline.Covers

@[expose] public section

set_option maxRecDepth 16384

noncomputable section

namespace Cert.ResidRefIdeal.Hand

open Cert.ResidRefIdeal Cert.ResidRefIdeal.Gen Idealize.ShloMosaic

/-- The experts' outputs added up at their tokens. -/
def scattered (y : FVec Ideal S8x16x512x1024 .f32) (idx : IVec S8x16x512 32) : FVec Ideal S8x4096x1024 .f32 :=
  Host.scatterAdd scatter_S8x4096x1024_S8x8192x2_S8x8192x1024_2_01_01_2
    (broadcastInDim S8x4096x1024 ![] bcast_S_S8x4096x1024 (constant S_ .f32 0x00000000#32))
    (concatenate S8x8192x2 2
      [⟨S8x8192x1, (broadcastInDim S8x8192x1 ![0, 1] bcast_S8x8192_S8x8192x1_0_1 (broadcastInDim S8x8192 ![0, 1] bcast_S8x1_S8x8192_0_1
        (select (cmpi .slt (broadcastInDim S8x1 ![0] bcast_S8_S8x1_0 (iotaInDim S8 32 0)) (broadcastInDim S8x1 ![] bcast_S_S8x1 (constantI S_ 32 0#32)))
          (addi (broadcastInDim S8x1 ![0] bcast_S8_S8x1_0 (iotaInDim S8 32 0)) (broadcastInDim S8x1 ![] bcast_S_S8x1 (constantI S_ 32 8#32)))
          (broadcastInDim S8x1 ![0] bcast_S8_S8x1_0 (iotaInDim S8 32 0)))))⟩,
       ⟨S8x8192x1, (broadcastInDim S8x8192x1 ![0, 1] bcast_S8x8192_S8x8192x1_0_1
        (select (cmpi .slt (shapeCast _ idx shapeCasts_S8x16x512_S8x8192) (broadcastInDim S8x8192 ![] bcast_S_S8x8192 (constantI S_ 32 0#32)))
          (addi (shapeCast _ idx shapeCasts_S8x16x512_S8x8192) (broadcastInDim S8x8192 ![] bcast_S_S8x8192 (constantI S_ 32 4096#32)))
          (shapeCast _ idx shapeCasts_S8x16x512_S8x8192)))⟩]
      concatenates_S8x8192x1_S8x8192x1_S8x8192x2_d2)
    (shapeCast _ y shapeCasts_S8x16x512x1024_S8x8192x1024)

/-- `alpha · h + m`. -/
def residual (h mo : FVec Ideal S8x4096x1024 .f32) : FVec Ideal S8x4096x1024 .f32 :=
  addf (mulf (broadcastInDim S8x4096x1024 ![] bcast_S_S8x4096x1024 (constant S_ .f32 0x3FB504F3#32)) h) mo

theorem residual_apply (h mo : FVec Ideal S8x4096x1024 .f32) (i : Fin 8) (r : Fin 4096) (d : Fin 1024) :
    residual h mo (ix3 i r d) = Ideal.ofBits .f32 0x3FB504F3#32 * h (ix3 i r d) + mo (ix3 i r d) := by
  pointwise [residual]

/-- The reference's result. -/
def REF (h : FVec Ideal S8x4096x1024 .f32) (y : FVec Ideal S8x16x512x1024 .f32) (idx : IVec S8x16x512 32)
    (g b : FVec Ideal S1024 .f32) : FVec Ideal S8x4096x1024 .f32 :=
  Cert.Proof.LayerNorm.array (residual h (scattered y idx)) g b

end Cert.ResidRefIdeal.Hand

namespace Cert.ResidIdeal.Hand

open Cert.ResidIdeal Cert.ResidIdeal.Gen Idealize.ShloMosaic Idealize.ShloMosaic.TcCoe Idealize.SL.Sem
open Idealize.ShloMosaic.Pipeline (Dat)

/-- One block's result at an entry: the layer norm of the residual's row. -/
theorem pay_apply (x y : Vec Ideal S1x512x1024 .f32) (g b : Vec Ideal S1x1024 .f32) (r : Fin 512) (d : Fin 1024) :
    k0_pay1 x y g b (ix3 0 r d)
      = Cert.Proof.LayerNorm.row (fun k => Ideal.ofBits .f32 0x3FB504F3#32 * x (ix3 0 r k) + y (ix3 0 r k))
          (g (ix2 0 d)) (b (ix2 0 d)) d := by
  pointwise [k0_pay1]
  rfl

variable (m : (ℓ : Loc nD τ sig) → Buf (Elt Ideal) ℓ)

/-- The windows' block indices at a point: batch the first coordinate, row block the second. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![0, 0] ∧ win0_3.index t = ![0, 0]
    ∧ win0_4.index t = ![(grid0.coords t 0).val, (grid0.coords t 1).val, 0] := by decide +kernel

theorem covers : (cfg0.win 4).Covers := by decide +kernel

/-- The experts' sum of the launch. -/
abbrev moe (c : Dev nD) : FVec Ideal S8x4096x1024 .f32 :=
  ResidRefIdeal.Hand.scattered (m ((c : Thread nD τ).loc main_arg1)) (m ((c : Thread nD τ).loc main_arg2))

/-- The region's second operand is the experts' sum. -/
theorem entry_moe (c : Dev nD) : V m c main_v19 = moe m c := by
  entry_read
  rfl
/-- The gain and the shift reach it as one row. -/
theorem entry_g (c : Dev nD) (d : Fin 1024) : V m c main_v20 (ix2 0 d) = m ((c : Thread nD τ).loc main_arg3) (ix1 d) := by
  entry_read
  pointwise
theorem entry_b (c : Dev nD) (d : Fin 1024) : V m c main_v21 (ix2 0 d) = m ((c : Thread nD τ).loc main_arg4) (ix1 d) := by
  entry_read
  pointwise

section Reads

variable (c : Dev nD) (t : Fin cfg0.N) (i : Fin 8) (l : Fin 4096) (r : Fin 512) (hi : i.val = (grid0.coords t 0).val)
  (hl : (grid0.coords t 1).val * 512 + r.val = l.val)

include hi hl in
theorem read_h (k : Fin 1024) : iblk m c 0 t (ix3 0 r k) = m ((c : Thread nD τ).loc main_arg0) (ix3 i l k) := by
  blk_ext [iblk, V, idx t]
include hi hl in
theorem read_moe (k : Fin 1024) : iblk m c 1 t (ix3 0 r k) = moe m c (ix3 i l k) := by
  refine Eq.trans (b := V m c main_v19 (ix3 i l k)) ?_ (congrFun (entry_moe m c) _)
  blk_ext [iblk, idx t]
theorem read_g (d : Fin 1024) : iblk m c 2 t (ix2 0 d) = m ((c : Thread nD τ).loc main_arg3) (ix1 d) := by
  refine Eq.trans (b := V m c main_v20 (ix2 0 d)) ?_ (entry_g m c d)
  blk_ext [iblk, idx t]
theorem read_b (d : Fin 1024) : iblk m c 3 t (ix2 0 d) = m ((c : Thread nD τ).loc main_arg4) (ix1 d) := by
  refine Eq.trans (b := V m c main_v21 (ix2 0 d)) ?_ (entry_b m c d)
  blk_ext [iblk, idx t]

end Reads

/-- The reference's result on the launch's arguments. -/
abbrev target (c : Dev nD) : FVec Ideal S8x4096x1024 .f32 :=
  ResidRefIdeal.Hand.REF (m ((c : Thread nD τ).loc main_arg0)) (m ((c : Thread nD τ).loc main_arg1))
    (m ((c : Thread nD τ).loc main_arg2)) (m ((c : Thread nD τ).loc main_arg3)) (m ((c : Thread nD τ).loc main_arg4))

/-- One block's entry is the reference's, at the point's batch and rows. -/
theorem block_eq (c : Dev nD) (t : Fin cfg0.N) (y : S1x512x1024.Idx) (i : S8x4096x1024.Idx)
    (h0 : (grid0.coords t 0).val = (i 0).val) (h1 : (grid0.coords t 1).val * 512 + (y 1).val = (i 1).val)
    (h2 : (y 2).val = (i 2).val) :
    k0_pay1 (iblk m c 0 t) (iblk m c 1 t) (iblk m c 2 t) (iblk m c 3 t) y = target m c i := by
  idx_vars y
  idx_vars i
  obtain rfl : y0 = 0 := Subsingleton.elim _ _
  obtain rfl : y2 = i2 := Fin.ext h2
  rw [pay_apply, target, ResidRefIdeal.Hand.REF, Cert.Proof.LayerNorm.array_apply]
  simp only [ResidRefIdeal.Hand.residual_apply, read_h m c t i0 i1 y1 h0.symm h1, read_moe m c t i0 i1 y1 h0.symm h1, read_g, read_b]

/-- The kernel's result array is the reference's. -/
theorem out (c : Dev nD) : (dats m 0 c).arrAt 4 cfg0.N = target m c := by
  refine (dats m 0 c).arrAt_eq_of_covers 4 _ covers fun t hf y => ?_
  blk_simp
  rw [after0_4]
  frame_out
  generalize hi : ((View.whole main_v22).slice (win0_4.rect t)).emb y = i
  have e0 := congrArg (fun i => (i 0).val) hi
  have e1 := congrArg (fun i => (i 1).val) hi
  have e2 := congrArg (fun i => (i 2).val) hi
  blk_simp [idx t] at e0 e1 e2
  exact block_eq m c t y i e0 e1 e2

end Cert.ResidIdeal.Hand

end
-- ==== Proof.ResidClaims.lean ====
/- The claims about the residual's call: its frames, and that its result is the plain layer norm of the residual. -/
module

public import proofs.«01_k».proof.Defs
public import proofs.«01_k».proof.Proof.ResidOut
public import proofs.«01_k».proof.Proof.Gen.Resid.Frame
public import proofs.«01_k».proof.Proof.Gen.ResidIdeal.Frame
public import proofs.«01_k».proof.Proof.Gen.ResidRefIdeal.Run
public import Idealize.ShloMosaic.Adequacy
public import Idealize.ShloMosaic.Init

@[expose] public section

set_option maxRecDepth 16384

noncomputable section

namespace Cert.Proof.ResidClaims

open Idealize.ShloMosaic Idealize.SL.Sem

/-- The call runs and leaves its semaphores at zero, at every instance of the floats. -/
theorem frame_p : Cert.quiescent_Resid := fun m ρ _ => Cert.Resid.Gen.frame m ρ
/-- The same of its ideal reading. -/
theorem frame_pi : Cert.quiescent_ResidIdeal := fun m ρ _ => Cert.ResidIdeal.Gen.frame m ρ
/-- The same of the reference, which has no semaphores. -/
theorem frame_ri : Cert.quiescent_ResidRefIdeal := fun m ρ _ =>
  (θ_run Cert.ResidRefIdeal.defs _ _).mono (fun r h => ⟨fun c => (h c).2, sem_eq_zero_of_no_sems (by decide) r.2⟩)
    (Cert.ResidRefIdeal.Value.run (F := Ideal) m ρ)

/-- The ideal reading rewrote nothing. -/
theorem preserves : Cert.preserves_Resid_ResidIdeal := trivial

/-- From equal arguments kernel and reference leave the same result. -/
theorem algebraic : Cert.algebraic_ResidIdeal_ResidRefIdeal := by
  intro m ρ m' ρ' _ hagree
  refine ⟨fun c => ResidIdeal.Hand.target m c, ?_, ?_⟩
  · exact (θ_run Cert.ResidIdeal.defs _ _).mono (fun _ h c => ⟨(h c).1.trans (ResidIdeal.Hand.out m c), (h c).2⟩)
      (Cert.ResidIdeal.Value.run_blocks (F := Ideal) m ρ)
  · refine (θ_run Cert.ResidRefIdeal.defs _ _).mono (fun _ h c => ⟨(h c).1.trans ?_, (h c).2⟩)
      (Cert.ResidRefIdeal.Value.run (F := Ideal) m' ρ')
    obtain ⟨h0, h1, h2, h3, h4⟩ := hagree c
    show _ = ResidIdeal.Hand.target m c
    unfold ResidIdeal.Hand.target
    rw [← h0, ← h1, ← h2, ← h3, ← h4]
    rfl

end Cert.Proof.ResidClaims

end
-- ==== Proof.MergeRef.lean ====
/- What the plain merge computes, entry by entry: the four mixers' results side by side, each group of 256 columns over the
   root of its mean square, times the gain. The scan's result is time-major. -/
module

public import proofs.«01_k».proof.Proof.LayerNorm
public import proofs.«01_k».proof.Proof.Gen.MergeRefIdeal.Run
public import Idealize.ShloMosaic.Lib.Pointwise

@[expose] public section

set_option maxRecDepth 16384

noncomputable section

namespace Cert.MergeRefIdeal.Hand

open Cert.MergeRefIdeal Cert.MergeRefIdeal.Gen Idealize.ShloMosaic

/-- A group's row `x` over the root of its mean square, times the gain `g`, at one column. -/
def rms (x : Fin 256 → EReal) (g : EReal) (e : Fin 256) : EReal :=
  x e * Ideal.rsqrt (Ideal.div (∑ k, x k * x k) (Ideal.ofBits .f32 0x43800000#32) + Ideal.ofBits .f32 0x358637BD#32) * g

/-- The four groups on an axis of their own. -/
def stack (a b c d : FVec Ideal S8x4096x256 .f32) : FVec Ideal S8x4096x4x256 .f32 :=
  concatenate S8x4096x4x256 2
    [⟨S8x4096x1x256, broadcastInDim S8x4096x1x256 ![0, 1, 3] bcast_S8x4096x256_S8x4096x1x256_0_1_3 a⟩,
     ⟨S8x4096x1x256, broadcastInDim S8x4096x1x256 ![0, 1, 3] bcast_S8x4096x256_S8x4096x1x256_0_1_3 b⟩,
     ⟨S8x4096x1x256, broadcastInDim S8x4096x1x256 ![0, 1, 3] bcast_S8x4096x256_S8x4096x1x256_0_1_3 c⟩,
     ⟨S8x4096x1x256, broadcastInDim S8x4096x1x256 ![0, 1, 3] bcast_S8x4096x256_S8x4096x1x256_0_1_3 d⟩]
    concatenates_S8x4096x1x256_S8x4096x1x256_S8x4096x1x256_S8x4096x1x256_S8x4096x4x256_d2

/-- The scan's result, batch by batch. -/
def batched (c : FVec Ideal S4096x2048 .f32) : FVec Ideal S8x4096x256 .f32 :=
  transpose S8x4096x256 [1, 0, 2] (shapeCast _ c shapeCasts_S4096x2048_S4096x8x256) transposes_S4096x8x256_S8x4096x256_1_0_2

/-- Each group over its root mean square, times its gain. -/
def normed (G : FVec Ideal S8x4096x4x256 .f32) (g : FVec Ideal S1024 .f32) : FVec Ideal S8x4096x4x256 .f32 :=
  mulf (mulf G (broadcastInDim S8x4096x4x256 ![0, 1, 2, 3] bcast_S8x4096x4x1_S8x4096x4x256_0_1_2_3
      (Host.rsqrt (addf (Host.divf (broadcastInDim S8x4096x4x1 ![0, 1, 2] bcast_S8x4096x4_S8x4096x4x1_0_1_2
        (Host.reduceAdd (mulf G G) (constant S_ .f32 0x00000000#32) reducesTo_S8x4096x4x256_S8x4096x4_d3 h_S_))
        (broadcastInDim S8x4096x4x1 ![] bcast_S_S8x4096x4x1 (constant S_ .f32 0x43800000#32)))
        (broadcastInDim S8x4096x4x1 ![] bcast_S_S8x4096x4x1 (constant S_ .f32 0x358637BD#32))))))
    (broadcastInDim S8x4096x4x256 ![0, 1, 2, 3] bcast_S1x1x4x256_S8x4096x4x256_0_1_2_3
      (broadcastInDim S1x1x4x256 ![2, 3] bcast_S4x256_S1x1x4x256_2_3 (shapeCast _ g shapeCasts_S1024_S4x256)))

/-- The groups side by side again. -/
def flat (G : FVec Ideal S8x4096x4x256 .f32) : FVec Ideal S8x4096x1024 .f32 :=
  shapeCast _ G shapeCasts_S8x4096x4x256_S8x4096x1024

/-- `alpha · h` and the merged rows' product with the output weights. -/
def residual (h M : FVec Ideal S8x4096x1024 .f32) (w : FVec Ideal S1024x1024 .f32) : FVec Ideal S8x4096x1024 .f32 :=
  addf (mulf (broadcastInDim S8x4096x1024 ![] bcast_S_S8x4096x1024 (constant S_ .f32 0x3FB504F3#32)) h)
    (Host.dotGeneral dot_S8x4096x1024_S1024x1024_S8x4096x1024_2_0_01_1_n_n none M w)

/-- The merged rows. -/
def merged (a b : FVec Ideal S8x4096x256 .f32) (c : FVec Ideal S4096x2048 .f32) (d : FVec Ideal S8x4096x256 .f32)
    (g : FVec Ideal S1024 .f32) : FVec Ideal S8x4096x1024 .f32 :=
  flat (normed (stack a b (batched c) d) g)

/-- The reference's result. -/
def REF (a b : FVec Ideal S8x4096x256 .f32) (c : FVec Ideal S4096x2048 .f32) (d : FVec Ideal S8x4096x256 .f32)
    (h : FVec Ideal S8x4096x1024 .f32) (g : FVec Ideal S1024 .f32) (w : FVec Ideal S1024x1024 .f32)
    (lg lb : FVec Ideal S1024 .f32) : FVec Ideal S8x4096x1024 .f32 :=
  Cert.Proof.LayerNorm.array (residual h (merged a b c d g) w) lg lb

variable (a b c d : FVec Ideal S8x4096x256 .f32) (i : Fin 8) (l : Fin 4096) (e : Fin 256)

theorem stack_zero : stack a b c d (ix4 i l 0 e) = a (ix3 i l e) := by pointwise [stack]
theorem stack_one : stack a b c d (ix4 i l 1 e) = b (ix3 i l e) := by pointwise [stack]
theorem stack_two : stack a b c d (ix4 i l 2 e) = c (ix3 i l e) := by pointwise [stack]
theorem stack_three : stack a b c d (ix4 i l 3 e) = d (ix3 i l e) := by pointwise [stack]

theorem batched_apply (x : FVec Ideal S4096x2048 .f32) : batched x (ix3 i l e) = x (ix2 l ⟨i.val * 256 + e.val, by omega⟩) := by
  pointwise [batched]

theorem normed_apply (G : FVec Ideal S8x4096x4x256 .f32) (g : FVec Ideal S1024 .f32) (q : Fin 4) :
    normed G g (ix4 i l q e) = rms (fun k => G (ix4 i l q k)) (g (ix1 ⟨q.val * 256 + e.val, by omega⟩)) e := by
  pointwise [normed]
  rfl

theorem flat_apply (G : FVec Ideal S8x4096x4x256 .f32) (n : Fin 1024) :
    flat G (ix3 i l n) = G (ix4 i l ⟨n.val / 256, by omega⟩ ⟨n.val % 256, by omega⟩) := by
  pointwise [flat]

/-- The merged rows at column `256 q + e`. -/
theorem merged_apply (x : FVec Ideal S4096x2048 .f32) (g : FVec Ideal S1024 .f32) (q : Fin 4) (n : Fin 1024)
    (hn : n.val = q.val * 256 + e.val) :
    merged a b x d g (ix3 i l n) = rms (fun k => stack a b (batched x) d (ix4 i l q k)) (g (ix1 n)) e := by
  rw [merged, flat_apply, normed_apply]
  have hq : (⟨n.val / 256, by omega⟩ : Fin 4) = q := Fin.ext (by show n.val / 256 = q.val; omega)
  have he : (⟨n.val % 256, by omega⟩ : Fin 256) = e := Fin.ext (by show n.val % 256 = e.val; omega)
  have hg : (⟨q.val * 256 + e.val, by omega⟩ : Fin 1024) = n := Fin.ext hn.symm
  rw [hq, he, hg]

theorem residual_apply (h M : FVec Ideal S8x4096x1024 .f32) (w : FVec Ideal S1024x1024 .f32) (k : Fin 1024) :
    residual h M w (ix3 i l k)
      = Ideal.ofBits .f32 0x3FB504F3#32 * h (ix3 i l k) + ∑ n : Fin 1024, M (ix3 i l n) * w (ix2 n k) := by
  pointwise [residual]

end Cert.MergeRefIdeal.Hand

end
-- ==== Proof.MergeOut.lean ====
/- What the merge kernel computes at one grid point, and its result array. -/
module

public import proofs.«01_k».proof.Proof.MergeRef
public import proofs.«01_k».proof.Proof.Gen.MergeIdeal.Value
public import Idealize.ShloMosaic.Lib.Pipeline.ValueKit
public import Idealize.ShloMosaic.Lib.Pipeline.Covers

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)
open Cert.MergeRefIdeal.Hand (rms)

/-- The four groups of one block side by side. -/
def cat (a b c d : FVec Ideal S512x256 .bf16) : FVec Ideal S512x1024 .bf16 :=
  concatenate S512x1024 1 [⟨S512x256, a⟩, ⟨S512x256, b⟩, ⟨S512x256, c⟩, ⟨S512x256, d⟩]
    concatenates_S512x256_S512x256_S512x256_S512x256_S512x1024_d1

/-- One group of a block over its root mean square, times its gain. -/
def group (x : FVec Ideal S512x256 .f32) (g : Vec Ideal S1x256 .f32) : FVec Ideal S512x256 .bf16 :=
  truncf .bf16 (mulf (mulf x (broadcastTo S512x256
      (rsqrt (addf (divf (shapeCast S512x1 (multiReduction .add [1] S512 (mulf x x) 0x00000000#32 reduces_S512x256_S512 (.inl rfl) rfl)
        shapeCasts_S512_S512x1) (broadcast S512x1 (Scalar.ofBits .f32 0x43800000#32)))
        (broadcast S512x1 (Scalar.ofBits .f32 0x358637BD#32)))) broadcasts_S512x1_S512x256))
    (broadcastTo S512x256 (shapeCast S1x256 g shapeCasts_S1x256_S1x256 : FVec Ideal S1x256 .f32) broadcasts_S1x256_S512x256)) bitsLt_bf16_f32

/-- `alpha · h` and the product of one block's merged rows with the output weights. -/
def blockResidual (M : FVec Ideal S512x1024 .bf16) (h : Vec Ideal S1x512x1024 .f32) (w : Vec Ideal S1024x1024 .bf16) : FVec Ideal S512x1024 .f32 :=
  addf (mulf (broadcast S512x1024 (Scalar.ofBits .f32 0x3FB504F3#32))
      (shapeCast S512x1024 h shapeCasts_S1x512x1024_S512x1024 : FVec Ideal S512x1024 .f32))
    (matmul dot_S512x1024_S1024x1024_S512x1024_1_0_0_1_n_n none M
      (shapeCast S1024x1024 w shapeCasts_S1024x1024_S1024x1024 : FVec Ideal S1024x1024 .bf16) (constant S512x1024 .f32 0x00000000#32))

/-- The body's residual is these functions of its operands. -/
theorem pay5_eq (c d : FVec Ideal S512x256 .f32) (a b : FVec Ideal S512x256 .bf16) (gc gd : Vec Ideal S1x256 .f32)
    (h : Vec Ideal S1x512x1024 .f32) (w : Vec Ideal S1024x1024 .bf16) :
    k0_pay5 c d a b gc gd h w = blockResidual (cat a b (group c gc) (group d gd)) h w := rfl

theorem group_apply (x : FVec Ideal S512x256 .f32) (g : Vec Ideal S1x256 .f32) (r : Fin 512) (e : Fin 256) :
    group x g (ix2 r e) = rms (fun k => x (ix2 r k)) (g (ix2 0 e)) e := by
  pointwise [group]
  rfl

theorem pay3_apply (x : Vec Ideal S1x512x256 .f32) (g : Vec Ideal S1x256 .f32) (r : Fin 512) (e : Fin 256) :
    k0_pay3 x g (ix2 r e) = rms (fun k => x (ix3 0 r k)) (g (ix2 0 e)) e := by
  pointwise [k0_pay3]
  rfl

theorem pay4_apply (x : Vec Ideal S1x512x256 .f32) (g : Vec Ideal S1x256 .f32) (r : Fin 512) (e : Fin 256) :
    k0_pay4 x g (ix2 r e) = rms (fun k => x (ix3 0 r k)) (g (ix2 0 e)) e := by
  pointwise [k0_pay4]
  rfl

theorem pay2_apply (x : Vec Ideal S1x512x256 .f32) (r : Fin 512) (e : Fin 256) : k0_pay2 x (ix2 r e) = x (ix3 0 r e) := by
  pointwise [k0_pay2]

theorem pay6_apply (x : Vec Ideal S1x1024 .f32) (d : Fin 1024) : k0_pay6 x (ix2 0 d) = x (ix2 0 d) := by
  pointwise [k0_pay6]

theorem blockResidual_apply (M : FVec Ideal S512x1024 .bf16) (h : Vec Ideal S1x512x1024 .f32) (w : Vec Ideal S1024x1024 .bf16)
    (r : Fin 512) (k : Fin 1024) : blockResidual M h w (ix2 r k)
      = Ideal.ofBits .f32 0x3FB504F3#32 * h (ix3 0 r k) + ∑ n : Fin 1024, M (ix2 r n) * w (ix2 n k) := by
  pointwise [blockResidual]

/-- The stored block: the layer norm of the residual's row. -/
theorem pay1_apply (x : FVec Ideal S512x1024 .f32) (g : FVec Ideal S1x1024 .f32) (b : Vec Ideal S1x1024 .f32) (r : Fin 512)
    (d : Fin 1024) : k0_pay1 x g b (ix3 0 r d)
      = Cert.Proof.LayerNorm.row (fun k => x (ix2 r k)) (g (ix2 0 d)) (b (ix2 0 d)) d := by
  pointwise [k0_pay1]
  rfl

section Cat

variable (a b c d : FVec Ideal S512x256 .bf16) (r : Fin 512) (e : Fin 256) (n : Fin 1024)

theorem cat_apply : cat a b c d (ix2 r n)
      = if h : n.val < 256 then a (ix2 r ⟨n.val, by omega⟩)
        else if h : n.val - 256 < 256 then b (ix2 r ⟨n.val - 256, by omega⟩)
        else if h : n.val - 256 - 256 < 256 then c (ix2 r ⟨n.val - 256 - 256, by omega⟩)
        else d (ix2 r ⟨n.val - 256 - 256 - 256, by omega⟩) := by
  pointwise [cat]

theorem cat_zero (hn : n.val = 0 * 256 + e.val) : cat a b c d (ix2 r n) = a (ix2 r e) := by
  rw [cat_apply, dif_pos (by omega)]
  exact congrArg (fun e => a (ix2 r e)) (Fin.ext (by show n.val = e.val; omega))
theorem cat_one (hn : n.val = 1 * 256 + e.val) : cat a b c d (ix2 r n) = b (ix2 r e) := by
  rw [cat_apply, dif_neg (by omega), dif_pos (by omega)]
  exact congrArg (fun e => b (ix2 r e)) (Fin.ext (by show n.val - 256 = e.val; omega))
theorem cat_two (hn : n.val = 2 * 256 + e.val) : cat a b c d (ix2 r n) = c (ix2 r e) := by
  rw [cat_apply, dif_neg (by omega), dif_neg (by omega), dif_pos (by omega)]
  exact congrArg (fun e => c (ix2 r e)) (Fin.ext (by show n.val - 256 - 256 = e.val; omega))
theorem cat_three (hn : n.val = 3 * 256 + e.val) : cat a b c d (ix2 r n) = d (ix2 r e) := by
  rw [cat_apply, dif_neg (by omega), dif_neg (by omega), dif_neg (by omega)]
  exact congrArg (fun e => d (ix2 r e)) (Fin.ext (by show n.val - 256 - 256 - 256 = e.val; omega))

end Cat

/-- The gains of the four groups, cut from their one row. -/
theorem gain_zero (g : Vec Ideal S1x1024 .f32) (e : Fin 256) (n : Fin 1024) (hn : n.val = 0 * 256 + e.val) :
    View.ld g r0_2 (ix2 0 e) = g (ix2 0 n) :=
  View.ld_unit_apply_of _ _ _ _ _ _ fun a => match a with | ⟨0, _⟩ => rfl | ⟨1, _⟩ => by show n.val = 0 + e.val; omega
theorem gain_one (g : Vec Ideal S1x1024 .f32) (e : Fin 256) (n : Fin 1024) (hn : n.val = 1 * 256 + e.val) :
    View.ld g r0_3 (ix2 0 e) = g (ix2 0 n) :=
  View.ld_unit_apply_of _ _ _ _ _ _ fun a => match a with | ⟨0, _⟩ => rfl | ⟨1, _⟩ => by show n.val = 256 + e.val; omega
theorem gain_two (g : Vec Ideal S1x1024 .f32) (e : Fin 256) (n : Fin 1024) (hn : n.val = 2 * 256 + e.val) :
    View.ld g r0_4 (ix2 0 e) = g (ix2 0 n) :=
  View.ld_unit_apply_of _ _ _ _ _ _ fun a => match a with | ⟨0, _⟩ => rfl | ⟨1, _⟩ => by show n.val = 512 + e.val; omega
theorem gain_three (g : Vec Ideal S1x1024 .f32) (e : Fin 256) (n : Fin 1024) (hn : n.val = 3 * 256 + e.val) :
    View.ld g r0_5 (ix2 0 e) = g (ix2 0 n) :=
  View.ld_unit_apply_of _ _ _ _ _ _ fun a => match a with | ⟨0, _⟩ => rfl | ⟨1, _⟩ => by show n.val = 768 + e.val; omega

variable (m : (ℓ : Loc nD τ sig) → Buf (Elt Ideal) ℓ)

/-- The windows' block indices at a point: batch the first coordinate, row block the second. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 1).val, (grid0.coords t 0).val]
    ∧ win0_3.index t = ![(grid0.coords t 0).val, (grid0.coords t 1).val, 0]
    ∧ win0_4.index t = ![(grid0.coords t 0).val, (grid0.coords t 1).val, 0]
    ∧ win0_5.index t = ![0, 0] ∧ win0_6.index t = ![0, 0] ∧ win0_7.index t = ![0, 0] ∧ win0_8.index t = ![0, 0]
    ∧ win0_9.index t = ![(grid0.coords t 0).val, (grid0.coords t 1).val, 0] := by decide +kernel

theorem covers : (cfg0.win 9).Covers := by decide +kernel

/-- The weights reach the region rounded; ideally they are as they were. -/
theorem entry_w (c : Dev nD) (i : S1024x1024.Idx) : V m c main_v0 i = m ((c : Thread nD τ).loc main_arg6) i := by
  entry_read
  rfl
/-- The gains and the shift reach it as one row each. -/
theorem entry_gm (c : Dev nD) (d : Fin 1024) : V m c main_v1 (ix2 0 d) = m ((c : Thread nD τ).loc main_arg5) (ix1 d) := by
  entry_read
  pointwise
theorem entry_g (c : Dev nD) (d : Fin 1024) : V m c main_v2 (ix2 0 d) = m ((c : Thread nD τ).loc main_arg7) (ix1 d) := by
  entry_read
  pointwise
theorem entry_b (c : Dev nD) (d : Fin 1024) : V m c main_v3 (ix2 0 d) = m ((c : Thread nD τ).loc main_arg8) (ix1 d) := by
  entry_read
  pointwise

section Whole

variable (c : Dev nD) (t : Fin cfg0.N)

theorem read_w (n k : Fin 1024) : iblk m c 6 t (ix2 n k) = m ((c : Thread nD τ).loc main_arg6) (ix2 n k) := by
  refine Eq.trans (b := V m c main_v0 (ix2 n k)) ?_ (entry_w m c _)
  blk_ext [iblk, idx t]
theorem read_gm (d : Fin 1024) : iblk m c 5 t (ix2 0 d) = m ((c : Thread nD τ).loc main_arg5) (ix1 d) := by
  refine Eq.trans (b := V m c main_v1 (ix2 0 d)) ?_ (entry_gm m c d)
  blk_ext [iblk, idx t]
theorem read_g (d : Fin 1024) : iblk m c 7 t (ix2 0 d) = m ((c : Thread nD τ).loc main_arg7) (ix1 d) := by
  refine Eq.trans (b := V m c main_v2 (ix2 0 d)) ?_ (entry_g m c d)
  blk_ext [iblk, idx t]
theorem read_b (d : Fin 1024) : iblk m c 8 t (ix2 0 d) = m ((c : Thread nD τ).loc main_arg8) (ix1 d) := by
  refine Eq.trans (b := V m c main_v3 (ix2 0 d)) ?_ (entry_b m c d)
  blk_ext [iblk, idx t]

end Whole

/-- The merged rows of the launch. -/
abbrev rows (c : Dev nD) : FVec Ideal S8x4096x1024 .f32 :=
  MergeRefIdeal.Hand.merged (m ((c : Thread nD τ).loc main_arg0)) (m ((c : Thread nD τ).loc main_arg1))
    (m ((c : Thread nD τ).loc main_arg2)) (m ((c : Thread nD τ).loc main_arg3)) (m ((c : Thread nD τ).loc main_arg5))

section Point

variable (c : Dev nD) (t : Fin cfg0.N) (i : Fin 8) (l : Fin 4096) (r : Fin 512) (hi : i.val = (grid0.coords t 0).val)
  (hl : (grid0.coords t 1).val * 512 + r.val = l.val)
include hi hl

theorem read_a (e : Fin 256) : iblk m c 0 t (ix3 0 r e) = m ((c : Thread nD τ).loc main_arg0) (ix3 i l e) := by
  blk_ext [iblk, V, idx t]
theorem read_bb (e : Fin 256) : iblk m c 1 t (ix3 0 r e) = m ((c : Thread nD τ).loc main_arg1) (ix3 i l e) := by
  blk_ext [iblk, V, idx t]
theorem read_c (e : Fin 256) :
    iblk m c 2 t (ix2 r e) = MergeRefIdeal.Hand.batched (m ((c : Thread nD τ).loc main_arg2)) (ix3 i l e) := by
  rw [MergeRefIdeal.Hand.batched_apply]
  blk_ext [iblk, V, idx t]
theorem read_d (e : Fin 256) : iblk m c 3 t (ix3 0 r e) = m ((c : Thread nD τ).loc main_arg3) (ix3 i l e) := by
  blk_ext [iblk, V, idx t]
theorem read_h (k : Fin 1024) : iblk m c 4 t (ix3 0 r k) = m ((c : Thread nD τ).loc main_arg4) (ix3 i l k) := by
  blk_ext [iblk, V, idx t]

/-- The point's merged rows are the plain ones: group by group. -/
theorem point_rows (n : Fin 1024) :
    cat (k0_pay3 (iblk m c 0 t) (View.ld (iblk m c 5 t) r0_2)) (k0_pay4 (iblk m c 1 t) (View.ld (iblk m c 5 t) r0_3))
      (group (iblk m c 2 t) (View.ld (iblk m c 5 t) r0_4)) (group (k0_pay2 (iblk m c 3 t)) (View.ld (iblk m c 5 t) r0_5)) (ix2 r n)
      = rows m c (ix3 i l n) := by
  obtain ⟨q, e, hn⟩ : ∃ (q : Fin 4) (e : Fin 256), n.val = q.val * 256 + e.val :=
    ⟨⟨n.val / 256, by omega⟩, ⟨n.val % 256, by omega⟩, by show n.val = n.val / 256 * 256 + n.val % 256; omega⟩
  rw [rows, MergeRefIdeal.Hand.merged_apply (hn := hn)]
  match q, hn with
  | ⟨0, _⟩, hn =>
    rw [cat_zero (e := e) (hn := hn), pay3_apply, gain_zero _ e n hn, read_gm]
    simp only [read_a m c t i l r hi hl]
    exact congrArg (fun x => rms x _ e) (funext fun k => (MergeRefIdeal.Hand.stack_zero _ _ _ _ i l k).symm)
  | ⟨1, _⟩, hn =>
    rw [cat_one (e := e) (hn := hn), pay4_apply, gain_one _ e n hn, read_gm]
    simp only [read_bb m c t i l r hi hl]
    exact congrArg (fun x => rms x _ e) (funext fun k => (MergeRefIdeal.Hand.stack_one _ _ _ _ i l k).symm)
  | ⟨2, _⟩, hn =>
    rw [cat_two (e := e) (hn := hn), group_apply, gain_two _ e n hn, read_gm]
    simp only [read_c m c t i l r hi hl]
    exact congrArg (fun x => rms x _ e) (funext fun k => (MergeRefIdeal.Hand.stack_two _ _ _ _ i l k).symm)
  | ⟨3, _⟩, hn =>
    rw [cat_three (e := e) (hn := hn), group_apply, gain_three _ e n hn, read_gm]
    simp only [pay2_apply, read_d m c t i l r hi hl]
    exact congrArg (fun x => rms x _ e) (funext fun k => (MergeRefIdeal.Hand.stack_three _ _ _ _ i l k).symm)

end Point

/-- The reference's result on the launch's arguments. -/
abbrev target (c : Dev nD) : FVec Ideal S8x4096x1024 .f32 :=
  MergeRefIdeal.Hand.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- One block's entry is the reference's, at the point's batch and rows. -/
theorem block_eq (c : Dev nD) (t : Fin cfg0.N) (y : S1x512x1024.Idx) (i : S8x4096x1024.Idx)
    (h0 : (grid0.coords t 0).val = (i 0).val) (h1 : (grid0.coords t 1).val * 512 + (y 1).val = (i 1).val)
    (h2 : (y 2).val = (i 2).val) :
    k0_pay1 (k0_pay5 (iblk m c 2 t) (k0_pay2 (iblk m c 3 t)) (k0_pay3 (iblk m c 0 t) (View.ld (iblk m c 5 t) r0_2))
        (k0_pay4 (iblk m c 1 t) (View.ld (iblk m c 5 t) r0_3)) (View.ld (iblk m c 5 t) r0_4) (View.ld (iblk m c 5 t) r0_5)
        (iblk m c 4 t) (iblk m c 6 t)) (k0_pay6 (iblk m c 7 t)) (iblk m c 8 t) y = target m c i := by
  idx_vars y
  idx_vars i
  obtain rfl : y0 = 0 := Subsingleton.elim _ _
  obtain rfl : y2 = i2 := Fin.ext h2
  rw [pay1_apply, pay5_eq, target, MergeRefIdeal.Hand.REF, Cert.Proof.LayerNorm.array_apply]
  simp only [blockResidual_apply, MergeRefIdeal.Hand.residual_apply, point_rows m c t i0 i1 y1 h0.symm h1,
    read_h m c t i0 i1 y1 h0.symm h1, read_w, pay6_apply, read_g, read_b]

/-- The kernel's result array is the reference's. -/
theorem out (c : Dev nD) : (dats m 0 c).arrAt 9 cfg0.N = target m c := by
  refine (dats m 0 c).arrAt_eq_of_covers 9 _ covers fun t hf y => ?_
  blk_simp
  rw [after0_9]
  frame_out
  generalize hi : ((View.whole main_v4).slice (win0_9.rect t)).emb y = i
  have e0 := congrArg (fun i => (i 0).val) hi
  have e1 := congrArg (fun i => (i 1).val) hi
  have e2 := congrArg (fun i => (i 2).val) hi
  blk_simp [idx t] at e0 e1 e2
  exact block_eq m c t y i e0 e1 e2

end Cert.MergeIdeal.Hand

end
-- ==== Proof.MergeClaims.lean ====
/- The claims about the merge's call: its frames, and that its result is the plain one. -/
module

public import proofs.«01_k».proof.Defs
public import proofs.«01_k».proof.Proof.MergeOut
public import proofs.«01_k».proof.Proof.Gen.Merge.Frame
public import proofs.«01_k».proof.Proof.Gen.MergeIdeal.Frame
public import proofs.«01_k».proof.Proof.Gen.MergeRefIdeal.Run
public import Idealize.ShloMosaic.Adequacy
public import Idealize.ShloMosaic.Init

@[expose] public section

set_option maxRecDepth 16384

noncomputable section

namespace Cert.Proof.MergeClaims

open Idealize.ShloMosaic Idealize.SL.Sem

/-- The call runs and leaves its semaphores at zero, at every instance of the floats. -/
theorem frame_p : Cert.quiescent_Merge := fun m ρ _ => Cert.Merge.Gen.frame m ρ
/-- The same of its ideal reading. -/
theorem frame_pi : Cert.quiescent_MergeIdeal := fun m ρ _ => Cert.MergeIdeal.Gen.frame m ρ
/-- The same of the reference, which has no semaphores. -/
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The ideal reading rewrote nothing. -/
theorem preserves : Cert.preserves_Merge_MergeIdeal := trivial

/-- From equal arguments kernel and reference leave the same result. -/
theorem algebraic : Cert.algebraic_MergeIdeal_MergeRefIdeal := by
  intro m ρ m' ρ' _ hagree
  refine ⟨fun c => MergeIdeal.Hand.target m c, ?_, ?_⟩
  · exact (θ_run Cert.MergeIdeal.defs _ _).mono (fun _ h c => ⟨(h c).1.trans (MergeIdeal.Hand.out m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    obtain ⟨h0, h1, h2, h3, h4, h5, h6, h7, h8⟩ := hagree c
    show _ = MergeIdeal.Hand.target m c
    unfold MergeIdeal.Hand.target
    rw [← h0, ← h1, ← h2, ← h3, ← h4, ← h5, ← h6, ← h7, ← h8]
    rfl

end Cert.Proof.MergeClaims

end
-- ==== Proof.TailMerge.lean ====
/- The merge of the joined program: its result array is the plain merge of what its arrays hold at its start. -/
module

public import proofs.«01_k».proof.Proof.MergeOut
public import proofs.«01_k».proof.Proof.Gen.TailIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.TailIdeal.Merged

open Cert.TailIdeal Cert.TailIdeal.Gen Idealize.ShloMosaic Idealize.ShloMosaic.TcCoe Idealize.SL.Sem
open Idealize.ShloMosaic.Pipeline (Dat)

/-- The bodies are the merge kernel's own. -/
theorem pay1_eq : k0_pay1 (F := Ideal) = MergeIdeal.Gen.k0_pay1 := rfl
theorem pay2_eq : k0_pay2 (F := Ideal) = MergeIdeal.Gen.k0_pay2 := rfl
theorem pay3_eq : k0_pay3 (F := Ideal) = MergeIdeal.Gen.k0_pay3 := rfl
theorem pay4_eq : k0_pay4 (F := Ideal) = MergeIdeal.Gen.k0_pay4 := rfl
theorem pay5_eq : k0_pay5 (F := Ideal) = MergeIdeal.Gen.k0_pay5 := rfl
theorem pay6_eq : k0_pay6 (F := Ideal) = MergeIdeal.Gen.k0_pay6 := rfl

/-- The windows' block indices at a point: batch the first coordinate, row block the second. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 1).val, (grid0.coords t 0).val]
    ∧ win0_3.index t = ![(grid0.coords t 0).val, (grid0.coords t 1).val, 0]
    ∧ win0_4.index t = ![(grid0.coords t 0).val, (grid0.coords t 1).val, 0]
    ∧ win0_5.index t = ![0, 0] ∧ win0_6.index t = ![0, 0] ∧ win0_7.index t = ![0, 0] ∧ win0_8.index t = ![0, 0]
    ∧ win0_9.index t = ![(grid0.coords t 0).val, (grid0.coords t 1).val, 0] := by decide +kernel

theorem covers : (cfg0.win 9).Covers := by decide +kernel

variable (V : (c : Dev nD) → (b : Ref sig .tc) → Buf (Elt Ideal) ((c : Thread nD τ).loc b)) (c : Dev nD)

/-- The region's arrays at its start: the weights as they are, the gains and the shift as one row each. -/
structure Entry (gm : FVec Ideal S1024 .f32) (w : FVec Ideal S1024x1024 .f32) (g b : FVec Ideal S1024 .f32) : Prop where
  w : ∀ n k : Fin 1024, V c main_v0 (ix2 n k) = w (ix2 n k)
  gm : ∀ d : Fin 1024, V c main_v1 (ix2 0 d) = gm (ix1 d)
  g : ∀ d : Fin 1024, V c main_v2 (ix2 0 d) = g (ix1 d)
  b : ∀ d : Fin 1024, V c main_v3 (ix2 0 d) = b (ix1 d)

variable {gm : FVec Ideal S1024 .f32} {w : FVec Ideal S1024x1024 .f32} {g b : FVec Ideal S1024 .f32} (E : Entry V c gm w g b)

section Whole

variable (t : Fin cfg0.N)
include E

theorem read_w (n k : Fin 1024) : iblk0 V c 6 t (ix2 n k) = w (ix2 n k) := by
  refine Eq.trans (b := V c main_v0 (ix2 n k)) ?_ (E.w n k)
  blk_ext [iblk0, idx t]
theorem read_gm (d : Fin 1024) : iblk0 V c 5 t (ix2 0 d) = gm (ix1 d) := by
  refine Eq.trans (b := V c main_v1 (ix2 0 d)) ?_ (E.gm d)
  blk_ext [iblk0, idx t]
theorem read_g (d : Fin 1024) : iblk0 V c 7 t (ix2 0 d) = g (ix1 d) := by
  refine Eq.trans (b := V c main_v2 (ix2 0 d)) ?_ (E.g d)
  blk_ext [iblk0, idx t]
theorem read_b (d : Fin 1024) : iblk0 V c 8 t (ix2 0 d) = b (ix1 d) := by
  refine Eq.trans (b := V c main_v3 (ix2 0 d)) ?_ (E.b d)
  blk_ext [iblk0, idx t]

end Whole

section Point

variable (t : Fin cfg0.N) (i : Fin 8) (l : Fin 4096) (r : Fin 512) (hi : i.val = (grid0.coords t 0).val)
  (hl : (grid0.coords t 1).val * 512 + r.val = l.val)
include hi hl

theorem read_a (e : Fin 256) : iblk0 V c 0 t (ix3 0 r e) = V c main_arg0 (ix3 i l e) := by
  blk_ext [iblk0, idx t]
theorem read_bb (e : Fin 256) : iblk0 V c 1 t (ix3 0 r e) = V c main_arg1 (ix3 i l e) := by
  blk_ext [iblk0, idx t]
theorem read_c (e : Fin 256) : iblk0 V c 2 t (ix2 r e) = MergeRefIdeal.Hand.batched (V c main_arg2) (ix3 i l e) := by
  rw [MergeRefIdeal.Hand.batched_apply]
  blk_ext [iblk0, idx t]
theorem read_d (e : Fin 256) : iblk0 V c 3 t (ix3 0 r e) = V c main_arg3 (ix3 i l e) := by
  blk_ext [iblk0, idx t]
theorem read_h (k : Fin 1024) : iblk0 V c 4 t (ix3 0 r k) = V c main_arg4 (ix3 i l k) := by
  blk_ext [iblk0, idx t]

open MergeIdeal.Hand MergeRefIdeal.Hand in
include E in
/-- The point's merged rows are the plain ones, group by group. -/
theorem point_rows (n : Fin 1024) :
    cat (MergeIdeal.Gen.k0_pay3 (iblk0 V c 0 t) (View.ld (iblk0 V c 5 t) r0_2))
      (MergeIdeal.Gen.k0_pay4 (iblk0 V c 1 t) (View.ld (iblk0 V c 5 t) r0_3))
      (group (iblk0 V c 2 t) (View.ld (iblk0 V c 5 t) r0_4))
      (group (MergeIdeal.Gen.k0_pay2 (iblk0 V c 3 t)) (View.ld (iblk0 V c 5 t) r0_5)) (ix2 r n)
      = merged (V c main_arg0) (V c main_arg1) (V c main_arg2) (V c main_arg3) gm (ix3 i l n) := by
  obtain ⟨q, e, hn⟩ : ∃ (q : Fin 4) (e : Fin 256), n.val = q.val * 256 + e.val :=
    ⟨⟨n.val / 256, by omega⟩, ⟨n.val % 256, by omega⟩, by show n.val = n.val / 256 * 256 + n.val % 256; omega⟩
  rw [merged_apply (hn := hn)]
  match q, hn with
  | ⟨0, _⟩, hn =>
    rw [cat_zero (e := e) (hn := hn), pay3_apply, gain_zero _ e n hn, read_gm V c E]
    simp only [read_a V c t i l r hi hl]
    exact congrArg (fun x => rms x _ e) (funext fun k => (stack_zero _ _ _ _ i l k).symm)
  | ⟨1, _⟩, hn =>
    rw [cat_one (e := e) (hn := hn), pay4_apply, gain_one _ e n hn, read_gm V c E]
    simp only [read_bb V c t i l r hi hl]
    exact congrArg (fun x => rms x _ e) (funext fun k => (stack_one _ _ _ _ i l k).symm)
  | ⟨2, _⟩, hn =>
    rw [cat_two (e := e) (hn := hn), group_apply, gain_two _ e n hn, read_gm V c E]
    simp only [read_c V c t i l r hi hl]
    exact congrArg (fun x => rms x _ e) (funext fun k => (stack_two _ _ _ _ i l k).symm)
  | ⟨3, _⟩, hn =>
    rw [cat_three (e := e) (hn := hn), group_apply, gain_three _ e n hn, read_gm V c E]
    simp only [pay2_apply, read_d V c t i l r hi hl]
    exact congrArg (fun x => rms x _ e) (funext fun k => (stack_three _ _ _ _ i l k).symm)

end Point

/-- The plain merge of the region's arrays. -/
abbrev target (gm : FVec Ideal S1024 .f32) (w : FVec Ideal S1024x1024 .f32) (g b : FVec Ideal S1024 .f32) : FVec Ideal S8x4096x1024 .f32 :=
  MergeRefIdeal.Hand.REF (V c main_arg0) (V c main_arg1) (V c main_arg2) (V c main_arg3) (V c main_arg4) gm w g b

include E in
/-- One block's entry is the plain merge's, at the point's batch and rows. -/
theorem block_eq (t : Fin cfg0.N) (y : S1x512x1024.Idx) (i : S8x4096x1024.Idx)
    (h0 : (grid0.coords t 0).val = (i 0).val) (h1 : (grid0.coords t 1).val * 512 + (y 1).val = (i 1).val)
    (h2 : (y 2).val = (i 2).val) :
    k0_pay1 (k0_pay5 (iblk0 V c 2 t) (k0_pay2 (iblk0 V c 3 t)) (k0_pay3 (iblk0 V c 0 t) (View.ld (iblk0 V c 5 t) r0_2))
        (k0_pay4 (iblk0 V c 1 t) (View.ld (iblk0 V c 5 t) r0_3)) (View.ld (iblk0 V c 5 t) r0_4) (View.ld (iblk0 V c 5 t) r0_5)
        (iblk0 V c 4 t) (iblk0 V c 6 t)) (k0_pay6 (iblk0 V c 7 t)) (iblk0 V c 8 t) y = target V c gm w g b i := by
  idx_vars y
  idx_vars i
  obtain rfl : y0 = 0 := Subsingleton.elim _ _
  obtain rfl : y2 = i2 := Fin.ext h2
  rw [pay1_eq, pay2_eq, pay3_eq, pay4_eq, pay5_eq, pay6_eq, MergeIdeal.Hand.pay1_apply, MergeIdeal.Hand.pay5_eq, target,
    MergeRefIdeal.Hand.REF, Cert.Proof.LayerNorm.array_apply]
  simp only [MergeIdeal.Hand.blockResidual_apply, MergeRefIdeal.Hand.residual_apply, point_rows V c E t i0 i1 y1 h0.symm h1,
    read_h V c t i0 i1 y1 h0.symm h1, read_w V c E, MergeIdeal.Hand.pay6_apply, read_g V c E, read_b V c E]

include E in
/-- The region leaves the plain merge in its result array. -/
theorem out : (dat0 V c).arrAt 9 cfg0.N = target V c gm w g b := by
  refine (dat0 V c).arrAt_eq_of_covers 9 _ covers fun t hf y => ?_
  blk_simp
  rw [after0_9]
  frame_out
  generalize hi : ((View.whole main_v4).slice (win0_9.rect t)).emb y = i
  have e0 := congrArg (fun i => (i 0).val) hi
  have e1 := congrArg (fun i => (i 1).val) hi
  have e2 := congrArg (fun i => (i 2).val) hi
  blk_simp [idx t] at e0 e1 e2
  exact block_eq V c E t y i e0 e1 e2

end Cert.TailIdeal.Merged

end
-- ==== Proof.TailExperts.lean ====
/- The experts of the joined program: the result array is the plain expert layer of what the arrays hold at its start. -/
module

public import proofs.«01_k».proof.Proof.FfnOut
public import proofs.«01_k».proof.Proof.Gen.TailIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.TailIdeal.Experts

open Cert.TailIdeal Cert.TailIdeal.Gen Idealize.ShloMosaic Idealize.ShloMosaic.TcCoe Idealize.SL.Sem
open Idealize.ShloMosaic.Pipeline (Dat)

/-- The body is the expert kernel's own. -/
theorem pay1_eq : k1_pay1 (F := Ideal) = FfnIdeal.Gen.k0_pay1 := rfl

/-- The windows' block indices at a point: expert the first coordinate, batch the second. -/
theorem idx : ∀ t : Fin grid1.N, win1_0.index t = ![(grid1.coords t 1).val, (grid1.coords t 0).val, 0, 0]
    ∧ win1_1.index t = ![(grid1.coords t 1).val, (grid1.coords t 0).val, 0, 0]
    ∧ win1_2.index t = ![(grid1.coords t 0).val, 0, 0] ∧ win1_3.index t = ![(grid1.coords t 0).val, 0, 0]
    ∧ win1_4.index t = ![(grid1.coords t 0).val, 0, 0]
    ∧ win1_5.index t = ![(grid1.coords t 1).val, (grid1.coords t 0).val, 0, 0] := by decide +kernel

theorem covers : (cfg1.win 5).Covers := by decide +kernel

variable (V : (c : Dev nD) → (b : Ref sig .tc) → Buf (Elt Ideal) ((c : Thread nD τ).loc b)) (c : Dev nD)

/-- The region's arrays at its start: the picked rows, the gates in a column, the weights as they are. -/
structure Entry (xs : FVec Ideal S8x16x512x1024 .f32) (gt : FVec Ideal S8x16x512 .f32)
    (wg wu wd : FVec Ideal S16x1024x1024 .f32) : Prop where
  x : ∀ i : S8x16x512x1024.Idx, V c main_v30 i = xs i
  g : ∀ i : S8x16x512x1.Idx, V c main_v31 i = gt (ix3 (i 0) (i 1) (i 2))
  wg : ∀ i : S16x1024x1024.Idx, V c main_v5 i = wg i
  wu : ∀ i : S16x1024x1024.Idx, V c main_v6 i = wu i
  wd : ∀ i : S16x1024x1024.Idx, V c main_v7 i = wd i

variable {xs : FVec Ideal S8x16x512x1024 .f32} {gt : FVec Ideal S8x16x512 .f32} {wg wu wd : FVec Ideal S16x1024x1024 .f32}
  (E : Entry V c xs gt wg wu wd)
include E

section Reads

variable (t : Fin cfg1.N) (b : Fin 8) (e : Fin 16) (hb : b.val = (grid1.coords t 1).val) (he : e.val = (grid1.coords t 0).val)
include hb he

theorem read_x (r : Fin 512) (k : Fin 1024) : iblk1 V c 0 t (ix4 0 0 r k) = xs (ix4 b e r k) := by
  refine Eq.trans (b := V c main_v30 (ix4 b e r k)) ?_ (E.x _)
  blk_ext [iblk1, idx t]
theorem read_g (r : Fin 512) : iblk1 V c 1 t (ix4 0 0 r 0) = gt (ix3 b e r) := by
  refine Eq.trans (b := V c main_v31 (ix4 b e r 0)) ?_ (E.g _)
  blk_ext [iblk1, idx t]
omit hb in
theorem read_wg (k f : Fin 1024) : iblk1 V c 2 t (ix3 0 k f) = wg (ix3 e k f) := by
  refine Eq.trans (b := V c main_v5 (ix3 e k f)) ?_ (E.wg _)
  blk_ext [iblk1, idx t]
omit hb in
theorem read_wu (k f : Fin 1024) : iblk1 V c 3 t (ix3 0 k f) = wu (ix3 e k f) := by
  refine Eq.trans (b := V c main_v6 (ix3 e k f)) ?_ (E.wu _)
  blk_ext [iblk1, idx t]
omit hb in
theorem read_wd (k f : Fin 1024) : iblk1 V c 4 t (ix3 0 k f) = wd (ix3 e k f) := by
  refine Eq.trans (b := V c main_v7 (ix3 e k f)) ?_ (E.wd _)
  blk_ext [iblk1, idx t]

end Reads

/-- One block's entry is the plain expert layer's, at the point's batch and expert. -/
theorem block_eq (t : Fin cfg1.N) (y : S1x1x512x1024.Idx) (i : S8x16x512x1024.Idx)
    (h0 : (grid1.coords t 1).val = (i 0).val) (h1 : (grid1.coords t 0).val = (i 1).val) (h2 : (y 2).val = (i 2).val)
    (h3 : (y 3).val = (i 3).val) :
    k1_pay1 (iblk1 V c 0 t) (iblk1 V c 2 t) (iblk1 V c 3 t) (iblk1 V c 4 t) (iblk1 V c 1 t) y
      = FfnRefIdeal.Hand.experts wg wu wd xs gt i := by
  idx_vars y
  idx_vars i
  obtain rfl : y0 = 0 := Subsingleton.elim _ _
  obtain rfl : y1 = 0 := Subsingleton.elim _ _
  obtain rfl : y2 = i2 := Fin.ext h2
  obtain rfl : y3 = i3 := Fin.ext h3
  have hb : i0.val = (grid1.coords t 1).val := h0.symm
  have he : i1.val = (grid1.coords t 0).val := h1.symm
  rw [pay1_eq, FfnIdeal.Hand.pay_apply, FfnRefIdeal.Hand.experts_apply]
  simp only [read_x V c E t i0 i1 hb he, read_g V c E t i0 i1 hb he, read_wg V c E t i1 he, read_wu V c E t i1 he,
    read_wd V c E t i1 he]
  rfl

/-- The region leaves the plain expert layer in its result array. -/
theorem out : (dat1 V c).arrAt 5 cfg1.N = FfnRefIdeal.Hand.experts wg wu wd xs gt := by
  refine (dat1 V c).arrAt_eq_of_covers 5 _ covers fun t hf y => ?_
  blk_simp
  rw [after1_5]
  frame_out
  generalize hi : ((View.whole main_v32).slice (win1_5.rect t)).emb y = i
  have e0 := congrArg (fun i => (i 0).val) hi
  have e1 := congrArg (fun i => (i 1).val) hi
  have e2 := congrArg (fun i => (i 2).val) hi
  have e3 := congrArg (fun i => (i 3).val) hi
  blk_simp [idx t] at e0 e1 e2 e3
  exact block_eq V c E t y i e0 e1 e2 e3

end Cert.TailIdeal.Experts

end
-- ==== Proof.TailResid.lean ====
/- The residual of the joined program: the result array is the plain layer norm of what the arrays hold at its start. -/
module

public import proofs.«01_k».proof.Proof.ResidOut
public import proofs.«01_k».proof.Proof.Gen.TailIdeal.Frame
public import Idealize.ShloMosaic.Lib.Pipeline.ValueKit
public import Idealize.ShloMosaic.Lib.Pipeline.Covers
public import Idealize.ShloMosaic.Lib.Pointwise

@[expose] public section

set_option maxRecDepth 16384

noncomputable section

namespace Cert.TailIdeal.Residual

open Cert.TailIdeal Cert.TailIdeal.Gen Idealize.ShloMosaic Idealize.ShloMosaic.TcCoe Idealize.SL.Sem
open Idealize.ShloMosaic.Pipeline (Dat)

/-- The body is the residual kernel's own. -/
theorem pay1_eq : k2_pay1 (F := Ideal) = ResidIdeal.Gen.k0_pay1 := rfl

/-- The windows' block indices at a point: batch the first coordinate, row block the second. -/
theorem idx : ∀ t : Fin grid2.N, win2_0.index t = ![(grid2.coords t 0).val, (grid2.coords t 1).val, 0]
    ∧ win2_1.index t = ![(grid2.coords t 0).val, (grid2.coords t 1).val, 0]
    ∧ win2_2.index t = ![0, 0] ∧ win2_3.index t = ![0, 0]
    ∧ win2_4.index t = ![(grid2.coords t 0).val, (grid2.coords t 1).val, 0] := by decide +kernel

theorem covers : (cfg2.win 4).Covers := by decide +kernel

variable (V : (c : Dev nD) → (b : Ref sig .tc) → Buf (Elt Ideal) ((c : Thread nD τ).loc b)) (c : Dev nD)

/-- The region's arrays at its start: the merged rows, the experts' sum, the gain and the shift as one row each. -/
structure Entry (h mo : FVec Ideal S8x4096x1024 .f32) (g b : FVec Ideal S1024 .f32) : Prop where
  h : ∀ i : S8x4096x1024.Idx, V c main_v4 i = h i
  mo : ∀ i : S8x4096x1024.Idx, V c main_v52 i = mo i
  g : ∀ d : Fin 1024, V c main_v53 (ix2 0 d) = g (ix1 d)
  b : ∀ d : Fin 1024, V c main_v54 (ix2 0 d) = b (ix1 d)

variable {h mo : FVec Ideal S8x4096x1024 .f32} {g b : FVec Ideal S1024 .f32} (E : Entry V c h mo g b)
include E

section Reads

variable (t : Fin cfg2.N) (i : Fin 8) (l : Fin 4096) (r : Fin 512) (hi : i.val = (grid2.coords t 0).val)
  (hl : (grid2.coords t 1).val * 512 + r.val = l.val)

include hi hl in
theorem read_h (k : Fin 1024) : iblk2 V c 0 t (ix3 0 r k) = h (ix3 i l k) := by
  refine Eq.trans (b := V c main_v4 (ix3 i l k)) ?_ (E.h _)
  blk_ext [iblk2, idx t]
include hi hl in
theorem read_moe (k : Fin 1024) : iblk2 V c 1 t (ix3 0 r k) = mo (ix3 i l k) := by
  refine Eq.trans (b := V c main_v52 (ix3 i l k)) ?_ (E.mo _)
  blk_ext [iblk2, idx t]
theorem read_g (d : Fin 1024) : iblk2 V c 2 t (ix2 0 d) = g (ix1 d) := by
  refine Eq.trans (b := V c main_v53 (ix2 0 d)) ?_ (E.g d)
  blk_ext [iblk2, idx t]
theorem read_b (d : Fin 1024) : iblk2 V c 3 t (ix2 0 d) = b (ix1 d) := by
  refine Eq.trans (b := V c main_v54 (ix2 0 d)) ?_ (E.b d)
  blk_ext [iblk2, idx t]

end Reads

/-- One block's entry is the plain layer norm's, at the point's batch and rows. -/
theorem block_eq (t : Fin cfg2.N) (y : S1x512x1024.Idx) (i : S8x4096x1024.Idx)
    (h0 : (grid2.coords t 0).val = (i 0).val) (h1 : (grid2.coords t 1).val * 512 + (y 1).val = (i 1).val)
    (h2 : (y 2).val = (i 2).val) :
    k2_pay1 (iblk2 V c 0 t) (iblk2 V c 1 t) (iblk2 V c 2 t) (iblk2 V c 3 t) y
      = Cert.Proof.LayerNorm.array (ResidRefIdeal.Hand.residual h mo) g b i := by
  idx_vars y
  idx_vars i
  obtain rfl : y0 = 0 := Subsingleton.elim _ _
  obtain rfl : y2 = i2 := Fin.ext h2
  rw [pay1_eq, ResidIdeal.Hand.pay_apply, Cert.Proof.LayerNorm.array_apply]
  simp only [ResidRefIdeal.Hand.residual_apply, read_h V c E t i0 i1 y1 h0.symm h1, read_moe V c E t i0 i1 y1 h0.symm h1,
    read_g V c E, read_b V c E]

/-- The region leaves the plain layer norm of the residual in its result array. -/
theorem out : (dat2 V c).arrAt 4 cfg2.N = Cert.Proof.LayerNorm.array (ResidRefIdeal.Hand.residual h mo) g b := by
  refine (dat2 V c).arrAt_eq_of_covers 4 _ covers fun t hf y => ?_
  blk_simp
  rw [after2_4]
  frame_out
  generalize hi : ((View.whole main_v55).slice (win2_4.rect t)).emb y = i
  have e0 := congrArg (fun i => (i 0).val) hi
  have e1 := congrArg (fun i => (i 1).val) hi
  have e2 := congrArg (fun i => (i 2).val) hi
  blk_simp [idx t] at e0 e1 e2
  exact block_eq V c E t y i e0 e1 e2

end Cert.TailIdeal.Residual

end
-- ==== Proof.TailOut.lean ====
/- The joined program from its arguments to its result: what the arrays hold at each call's start, and the result after the last. -/
module

public import proofs.«01_k».proof.Proof.TailMerge
public import proofs.«01_k».proof.Proof.TailExperts
public import proofs.«01_k».proof.Proof.TailResid
public import Idealize.ShloMosaic.Lib.Claim

@[expose] public section

set_option maxRecDepth 16384

noncomputable section

namespace Cert.TailIdeal.Whole

open Cert.TailIdeal Cert.TailIdeal.Gen Idealize.ShloMosaic Idealize.ShloMosaic.TcCoe Idealize.SL.Sem

/-! What the host operations between the calls compute, from any contents before them. -/

section Stretches

variable (σ : Valuation τ sig (Elt Ideal))

theorem first_w (n k : Fin 1024) : StableHlo.after hostOps0 σ (Proc.devRef .tc main_v0) (ix2 n k) = σ (Proc.devRef .tc main_arg6) (ix2 n k) := by
  entry_read
  rfl
theorem first_gm (d : Fin 1024) : StableHlo.after hostOps0 σ (Proc.devRef .tc main_v1) (ix2 0 d) = σ (Proc.devRef .tc main_arg5) (ix1 d) := by
  entry_read
  pointwise
theorem first_g (d : Fin 1024) : StableHlo.after hostOps0 σ (Proc.devRef .tc main_v2) (ix2 0 d) = σ (Proc.devRef .tc main_arg7) (ix1 d) := by
  entry_read
  pointwise
theorem first_b (d : Fin 1024) : StableHlo.after hostOps0 σ (Proc.devRef .tc main_v3) (ix2 0 d) = σ (Proc.devRef .tc main_arg8) (ix1 d) := by
  entry_read
  pointwise

/-- The experts' picks of the rows held before the routing. -/
abbrev picked : FVec Ideal S8x16x512 .f32 × IVec S8x16x512 32 :=
  FfnRefIdeal.Hand.picks (σ (Proc.devRef .tc main_v4)) (σ (Proc.devRef .tc main_arg9)) (σ (Proc.devRef .tc main_arg10))

theorem second_idx : StableHlo.after hostOps1 σ (Proc.devRef .tc main_indices) = (picked σ).2 := by
  entry_read
  rfl
theorem second_x : StableHlo.after hostOps1 σ (Proc.devRef .tc main_v30)
    = FfnRefIdeal.Hand.rowsAt (σ (Proc.devRef .tc main_v4)) (picked σ).2 := by
  entry_read
  rfl
theorem second_g (i : S8x16x512x1.Idx) : StableHlo.after hostOps1 σ (Proc.devRef .tc main_v31) i = (picked σ).1 (ix3 (i 0) (i 1) (i 2)) := by
  have e : StableHlo.after hostOps1 σ (Proc.devRef .tc main_v31)
      = broadcastInDim S8x16x512x1 ![0, 1, 2] bcast_S8x16x512_S8x16x512x1_0_1_2 (picked σ).1 := by
    entry_read
    rfl
  rw [e]
  generalize (picked σ).1 = p
  pointwise
theorem second_wg (i : S16x1024x1024.Idx) : StableHlo.after hostOps1 σ (Proc.devRef .tc main_v5) i = σ (Proc.devRef .tc main_arg11) i := by
  entry_read
  rfl
theorem second_wu (i : S16x1024x1024.Idx) : StableHlo.after hostOps1 σ (Proc.devRef .tc main_v6) i = σ (Proc.devRef .tc main_arg12) i := by
  entry_read
  rfl
theorem second_wd (i : S16x1024x1024.Idx) : StableHlo.after hostOps1 σ (Proc.devRef .tc main_v7) i = σ (Proc.devRef .tc main_arg13) i := by
  entry_read
  rfl

theorem third_mo : StableHlo.after hostOps2 σ (Proc.devRef .tc main_v52)
    = ResidRefIdeal.Hand.scattered (σ (Proc.devRef .tc main_v32)) (σ (Proc.devRef .tc main_indices)) := by
  entry_read
  rfl
theorem third_g (d : Fin 1024) : StableHlo.after hostOps2 σ (Proc.devRef .tc main_v53) (ix2 0 d) = σ (Proc.devRef .tc main_arg14) (ix1 d) := by
  entry_read
  pointwise
theorem third_b (d : Fin 1024) : StableHlo.after hostOps2 σ (Proc.devRef .tc main_v54) (ix2 0 d) = σ (Proc.devRef .tc main_arg15) (ix1 d) := by
  entry_read
  pointwise

end Stretches

variable (m : (ℓ : Loc nD τ sig) → Buf (Elt Ideal) ℓ) (ρ : Dev nD → PrngReg) (c : Dev nD)

/-- An argument of the launch. -/
abbrev arg (r : Ref sig .tc) : Buf (Elt Ideal) ((c : Thread nD τ).loc r) := m ((c : Thread nD τ).loc r)

/-- The merged rows of the launch. -/
abbrev rows : FVec Ideal S8x4096x1024 .f32 :=
  MergeRefIdeal.Hand.REF (arg m c main_arg0) (arg m c main_arg1) (arg m c main_arg2) (arg m c main_arg3) (arg m c main_arg4)
    (arg m c main_arg5) (arg m c main_arg6) (arg m c main_arg7) (arg m c main_arg8)

/-- The picks among them. -/
abbrev picks : FVec Ideal S8x16x512 .f32 × IVec S8x16x512 32 :=
  FfnRefIdeal.Hand.picks (rows m c) (arg m c main_arg9) (arg m c main_arg10)

/-- The experts' outputs. -/
abbrev outputs : FVec Ideal S8x16x512x1024 .f32 :=
  FfnRefIdeal.Hand.experts (arg m c main_arg11) (arg m c main_arg12) (arg m c main_arg13)
    (FfnRefIdeal.Hand.rowsAt (rows m c) (picks m c).2) (picks m c).1

/-- The layer's result. -/
abbrev target : FVec Ideal S8x4096x1024 .f32 :=
  Cert.Proof.LayerNorm.array (ResidRefIdeal.Hand.residual (rows m c) (ResidRefIdeal.Hand.scattered (outputs m c) (picks m c).2))
    (arg m c main_arg14) (arg m c main_arg15)

theorem entry_merge : Merged.Entry (V1 m ρ) c (arg m c main_arg5) (arg m c main_arg6) (arg m c main_arg7) (arg m c main_arg8) where
  w := first_w _
  gm := first_gm _
  g := first_g _
  b := first_b _

/-- After the first call. -/
theorem after_merge : W2 m ρ c (Proc.devRef .tc main_v4) = rows m c := by
  refine (W2_arr m ρ c 9).trans ((Merged.out _ c (entry_merge m ρ c)).trans ?_)
  have h (a : Ref sig .tc) (ha : a ∈ argRefs) : V1 m ρ c a = arg m c a := W1_args m ρ c a ha
  rw [Merged.target, h main_arg0 (by decide), h main_arg1 (by decide), h main_arg2 (by decide), h main_arg3 (by decide), h main_arg4 (by decide)]

theorem picked_eq : picked (W2 m ρ c) = picks m c := by
  rw [picked, after_merge, W2_args m ρ c main_arg9 (by decide), W2_args m ρ c main_arg10 (by decide)]

theorem entry_experts : Experts.Entry (V3 m ρ) c (FfnRefIdeal.Hand.rowsAt (rows m c) (picks m c).2) (picks m c).1
    (arg m c main_arg11) (arg m c main_arg12) (arg m c main_arg13) where
  x i := by
    refine (congrFun (second_x (W2 m ρ c)) i).trans ?_
    rw [picked_eq, after_merge]
  g i := by
    refine (second_g (W2 m ρ c) i).trans ?_
    rw [picked_eq]
  wg i := (second_wg (W2 m ρ c) i).trans (congrFun (W2_args m ρ c main_arg11 (by decide)) i)
  wu i := (second_wu (W2 m ρ c) i).trans (congrFun (W2_args m ρ c main_arg12 (by decide)) i)
  wd i := (second_wd (W2 m ρ c) i).trans (congrFun (W2_args m ρ c main_arg13 (by decide)) i)

/-- After the second call: the experts' outputs, the picks, and the merged rows still. -/
theorem after_experts : W4 m ρ c (Proc.devRef .tc main_v32) = outputs m c :=
  (W4_arr m ρ c 5).trans (Experts.out _ c (entry_experts m ρ c))
theorem after_experts_idx : W4 m ρ c (Proc.devRef .tc main_indices) = (picks m c).2 := by
  rw [W4_of m ρ c main_indices (by decide)]
  refine (second_idx (W2 m ρ c)).trans ?_
  rw [picked_eq]
theorem after_experts_rows : W4 m ρ c (Proc.devRef .tc main_v4) = rows m c := by
  rw [W4_of m ρ c main_v4 (by decide), W3_of m ρ c main_v4 (by decide), after_merge]

theorem entry_resid : Residual.Entry (V5 m ρ) c (rows m c) (ResidRefIdeal.Hand.scattered (outputs m c) (picks m c).2)
    (arg m c main_arg14) (arg m c main_arg15) where
  h i := by
    refine congrFun ((W5_of m ρ c main_v4 (by decide)).trans (after_experts_rows m ρ c)) i
  mo i := by
    refine (congrFun (third_mo (W4 m ρ c)) i).trans ?_
    rw [after_experts, after_experts_idx]
  g d := (third_g (W4 m ρ c) d).trans (congrFun (W4_args m ρ c main_arg14 (by decide)) _)
  b d := (third_b (W4 m ρ c) d).trans (congrFun (W4_args m ρ c main_arg15 (by decide)) _)

/-- After the last call: the layer's result. -/
theorem after_resid : W6 m ρ c (Proc.devRef .tc main_v55) = target m c :=
  (W6_arr m ρ c 4).trans (Residual.out _ c (entry_resid m ρ c))

end Cert.TailIdeal.Whole

end
-- ==== Proof.TailRun.lean ====
/- The joined program's run: every buffer of the core ends at the contents that the three calls in a row leave. -/
module

public import proofs.«01_k».proof.Proof.Gen.TailIdeal.Frame
public import Idealize.ShloMosaic.Lib.Pointwise

@[expose] public section

set_option maxRecDepth 16384

noncomputable section

namespace Cert.TailIdeal.Whole

open Cert.TailIdeal Cert.TailIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends, with every unscoped buffer at the contents after the last call. -/
theorem run : θ_run defs (onTc (τ := τ) (main (F := Ideal))) ⟨m, fun _ => 0, ρ⟩ (fun r => ∀ c : Dev nD,
      ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.TailIdeal.Whole

end
-- ==== Proof.TailRef.lean ====
/- What the joined reference computes: the plain merge, the plain picks and experts among its rows, the plain residual. -/
module

public import proofs.«01_k».proof.Proof.MergeRef
public import proofs.«01_k».proof.Proof.FfnRef
public import proofs.«01_k».proof.Proof.ResidOut
public import proofs.«01_k».proof.Proof.Gen.TailRefIdeal.Run

@[expose] public section

set_option maxRecDepth 16384

noncomputable section

namespace Cert.TailRefIdeal.Hand

open Cert.TailRefIdeal Cert.TailRefIdeal.Gen Cert.TailRefIdeal.Value Idealize.ShloMosaic Idealize.ShloMosaic.TcCoe Idealize.SL.Sem

variable (σ : Valuation τ sig (Elt Ideal))

/-- Its merged rows are the plain merge's. -/
theorem rows_eq : res_main_v49 σ = MergeRefIdeal.Hand.REF (σ (Proc.devRef .tc main_arg0)) (σ (Proc.devRef .tc main_arg1))
    (σ (Proc.devRef .tc main_arg2)) (σ (Proc.devRef .tc main_arg3)) (σ (Proc.devRef .tc main_arg4)) (σ (Proc.devRef .tc main_arg5))
    (σ (Proc.devRef .tc main_arg6)) (σ (Proc.devRef .tc main_arg7)) (σ (Proc.devRef .tc main_arg8)) := rfl

/-- The picks among given rows. -/
abbrev picked (h : FVec Ideal S8x4096x1024 .f32) : FVec Ideal S8x16x512 .f32 × IVec S8x16x512 32 :=
  FfnRefIdeal.Hand.picks h (σ (Proc.devRef .tc main_arg9)) (σ (Proc.devRef .tc main_arg10))

theorem idx_eq : res_main_indices σ = (picked σ (res_main_v49 σ)).2 := rfl

/-- The experts' outputs on given rows. -/
abbrev outputs (h : FVec Ideal S8x4096x1024 .f32) : FVec Ideal S8x16x512x1024 .f32 :=
  FfnRefIdeal.Hand.experts (σ (Proc.devRef .tc main_arg11)) (σ (Proc.devRef .tc main_arg12)) (σ (Proc.devRef .tc main_arg13))
    (FfnRefIdeal.Hand.rowsAt h (picked σ h).2) (picked σ h).1

theorem residual_eq : res_main_v106 σ = ResidRefIdeal.Hand.residual (res_main_v49 σ)
    (ResidRefIdeal.Hand.scattered (outputs σ (res_main_v49 σ)) (res_main_indices σ)) := rfl

/-- The reference's result, from its residual. -/
abbrev normed : FVec Ideal S8x4096x1024 .f32 :=
  Cert.Proof.LayerNorm.array (res_main_v106 σ) (σ (Proc.devRef .tc main_arg14)) (σ (Proc.devRef .tc main_arg15))

end Cert.TailRefIdeal.Hand

end
-- ==== Proof.TailClaims.lean ====
/- The claims about the layer after its mixers: the three calls in a row run, and their result is the plain layer's. -/
module

public import proofs.«01_k».proof.Defs
public import proofs.«01_k».proof.Proof.TailOut
public import proofs.«01_k».proof.Proof.TailRun
public import proofs.«01_k».proof.Proof.TailRef
public import proofs.«01_k».proof.Proof.Gen.Tail.Frame
public import Idealize.ShloMosaic.Adequacy
public import Idealize.ShloMosaic.Init

@[expose] public section

set_option maxRecDepth 16384

noncomputable section

namespace Cert.Proof.TailClaims

open Idealize.ShloMosaic Idealize.ShloMosaic.TcCoe Idealize.SL.Sem

/-- The calls run and leave their semaphores at zero, at every instance of the floats. -/
theorem frame_p : Cert.quiescent_Tail := fun m ρ _ => Cert.Tail.Gen.frame m ρ
/-- The same of their ideal reading. -/
theorem frame_pi : Cert.quiescent_TailIdeal := fun m ρ _ => Cert.TailIdeal.Gen.frame m ρ
/-- The same of the reference, which has no semaphores. -/
theorem frame_ri : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- The ideal reading rewrote nothing. -/
theorem preserves : Cert.preserves_Tail_TailIdeal := trivial

open Cert.TailIdeal in
/-- The kernel's run, its result and its arguments read off. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55) = Whole.target m c
      ∧ ∀ a ∈ Gen.argRefs, r.2.mem ((c.tc : Thread nD τ).loc a) = m ((c.tc : Thread nD τ).loc a)) :=
  (θ_run defs _ _).mono (fun r h c => ⟨(h c _ (Gen.mem_uc main_v55 (by decide))).trans (Whole.after_resid m ρ c), fun a ha =>
      (h c _ (Gen.mem_uc a (ListAll.forall_mem_of_all_decide (l := Gen.argRefs)
        (p := fun a => ¬ (Proc.devRef .tc a : DevRef τ sig).isScoped) (by decide +kernel) a ha))).trans (Gen.W6_args m ρ c a ha)⟩)
    (Whole.run m ρ)

/-- From equal arguments kernel and reference leave the same result. -/
theorem algebraic : Cert.algebraic_TailIdeal_TailRefIdeal := by
  intro m ρ m' ρ' _ hagree
  refine ⟨fun c => TailIdeal.Whole.target m c, ?_, ?_⟩
  · refine (θ_run Cert.TailIdeal.defs _ _).mono (fun _ h c => ⟨(h c).1, ?_⟩) (kernel_run m ρ)
    have k := (h c).2
    exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩
  · refine (θ_run Cert.TailRefIdeal.defs _ _).mono (fun _ h c => ⟨(h c).1.trans ?_, (h c).2⟩)
      (Cert.TailRefIdeal.Value.run (F := Ideal) m' ρ')
    obtain ⟨h0, h1, h2, h3, h4, h5, h6, h7, h8, h9, h10, h11, h12, h13, h14, h15⟩ := hagree c
    refine Eq.trans (b := TailRefIdeal.Hand.normed (StableHlo.launchContents m' c)) rfl ?_
    rw [TailRefIdeal.Hand.normed, TailRefIdeal.Hand.residual_eq, TailRefIdeal.Hand.idx_eq, TailRefIdeal.Hand.rows_eq]
    show _ = TailIdeal.Whole.target m c
    unfold TailIdeal.Whole.target TailIdeal.Whole.outputs TailIdeal.Whole.picks TailIdeal.Whole.rows TailIdeal.Whole.arg
    rw [← h0, ← h1, ← h2, ← h3, ← h4, ← h5, ← h6, ← h7, ← h8, ← h9, ← h10, ← h11, ← h12, ← h13, ← h14, ← h15]

end Cert.Proof.TailClaims

end
-- ==== Proof.InProj.lean ====
/- The combined input projection, on both sides: the plain product of the rows and the weights and its six pieces, and the
   pieces one block of the kernel cuts from its own product. Where the block's product is the plain one's rows, its pieces
   are the plain pieces' blocks. The scan's piece is time-major: column `256 b + d` of row `l` is batch `b`, column `d`. -/
module

public import proofs.«01_k».proof.Proof.Gen.InNextRefIdeal.Run
public import proofs.«01_k».proof.Proof.Gen.InNextIdeal.Frame
public import Idealize.ShloMosaic.Lib.Pointwise

@[expose] public section

set_option maxRecDepth 16384

noncomputable section

namespace Cert.Proof.InProj

open Idealize.ShloMosaic

section Plain

open Cert.InNextRefIdeal Cert.InNextRefIdeal.Gen

/-- The product of the rows and the weights. -/
def proj (h : FVec Ideal S8x4096x1024 .f32) (w : FVec Ideal S1024x2048 .f32) : FVec Ideal S8x4096x2048 .f32 :=
  Host.dotGeneral dot_S8x4096x1024_S1024x2048_S8x4096x2048_2_0_01_1_n_n none h w

variable (p : FVec Ideal S8x4096x2048 .f32)

/-- The convolution mixer's columns. -/
def conv : FVec Ideal S8x4096x512 .f32 := extractStridedSlice S8x4096x512 ![0, 0, 0] p slices_S8x4096x2048_S8x4096x512_0_0_0
/-- The long convolution's columns. -/
def hy : FVec Ideal S8x4096x768 .f32 := extractStridedSlice S8x4096x768 ![0, 0, 512] p slices_S8x4096x2048_S8x4096x768_0_0_512
/-- The scan's columns, time-major. -/
def scan : FVec Ideal S4096x2048 .f32 :=
  shapeCast _ (transpose S4096x8x256 [1, 0, 2] (extractStridedSlice S8x4096x256 ![0, 0, 1280] p slices_S8x4096x2048_S8x4096x256_0_0_1280)
    transposes_S8x4096x256_S4096x8x256_1_0_2) shapeCasts_S4096x8x256_S4096x2048
/-- The queries' columns. -/
def query : FVec Ideal S8x4096x256 .f32 := extractStridedSlice S8x4096x256 ![0, 0, 1536] p slices_S8x4096x2048_S8x4096x256_0_0_1536
/-- The keys' columns. -/
def key : FVec Ideal S8x4096x128 .f32 := extractStridedSlice S8x4096x128 ![0, 0, 1792] p slices_S8x4096x2048_S8x4096x128_0_0_1792
/-- The values' columns. -/
def value : FVec Ideal S8x4096x128 .f32 := extractStridedSlice S8x4096x128 ![0, 0, 1920] p slices_S8x4096x2048_S8x4096x128_0_0_1920

theorem proj_apply (h : FVec Ideal S8x4096x1024 .f32) (w : FVec Ideal S1024x2048 .f32) (i : Fin 8) (l : Fin 4096) (n : Fin 2048) :
    proj h w (ix3 i l n) = ∑ k : Fin 1024, h (ix3 i l k) * w (ix2 k n) := by
  pointwise [proj]

variable (i : Fin 8) (l : Fin 4096)

theorem conv_apply (d : Fin 512) : conv p (ix3 i l d) = p (ix3 i l ⟨d.val, by omega⟩) := by pointwise [conv]
theorem hy_apply (d : Fin 768) : hy p (ix3 i l d) = p (ix3 i l ⟨512 + d.val, by omega⟩) := by pointwise [hy]
theorem scan_apply (d : Fin 2048) :
    scan p (ix2 l d) = p (ix3 ⟨d.val / 256, by omega⟩ l ⟨1280 + d.val % 256, by omega⟩) := by pointwise [scan]
theorem query_apply (d : Fin 256) : query p (ix3 i l d) = p (ix3 i l ⟨1536 + d.val, by omega⟩) := by pointwise [query]
theorem key_apply (d : Fin 128) : key p (ix3 i l d) = p (ix3 i l ⟨1792 + d.val, by omega⟩) := by pointwise [key]
theorem value_apply (d : Fin 128) : value p (ix3 i l d) = p (ix3 i l ⟨1920 + d.val, by omega⟩) := by pointwise [value]

end Plain

section Blocks

open Cert.InNextIdeal Cert.InNextIdeal.Gen

/-- One block's product. -/
def blockProj (x : FVec Ideal S512x1024 .f32) (w : Vec Ideal S1024x2048 .bf16) : FVec Ideal S512x2048 .f32 :=
  matmul dot_S512x1024_S1024x2048_S512x2048_1_0_0_1_n_n none (truncf .bf16 x bitsLt_bf16_f32)
    (shapeCast S1024x2048 w shapeCasts_S1024x2048_S1024x2048 : FVec Ideal S1024x2048 .bf16) (constant S512x2048 .f32 0x00000000#32)

theorem blockProj_apply (x : FVec Ideal S512x1024 .f32) (w : Vec Ideal S1024x2048 .bf16) (r : Fin 512) (n : Fin 2048) :
    blockProj x w (ix2 r n) = ∑ k : Fin 1024, x (ix2 r k) * w (ix2 k n) := by
  pointwise [blockProj]

variable (P : FVec Ideal S512x2048 .f32)

/-- The pieces one block cuts from its product, in the order of the kernel's results. -/
def cutConv : FVec Ideal S1x512x512 .f32 :=
  shapeCast S1x512x512 (extractStridedSlice S512x512 ![0, 0] P slices_S512x2048_o0_0_S512x512) shapeCasts_S512x512_S1x512x512
def cutHy : FVec Ideal S1x512x768 .f32 :=
  shapeCast S1x512x768 (extractStridedSlice S512x768 ![0, 512] P slices_S512x2048_o0_512_S512x768) shapeCasts_S512x768_S1x512x768
def cutScan : FVec Ideal S512x256 .f32 := extractStridedSlice S512x256 ![0, 1280] P slices_S512x2048_o0_1280_S512x256
def cutQuery : FVec Ideal S1x512x256 .f32 :=
  shapeCast S1x512x256 (extractStridedSlice S512x256 ![0, 1536] P slices_S512x2048_o0_1536_S512x256) shapeCasts_S512x256_S1x512x256
def cutKey : FVec Ideal S1x512x128 .f32 :=
  shapeCast S1x512x128 (extractStridedSlice S512x128 ![0, 1792] P slices_S512x2048_o0_1792_S512x128) shapeCasts_S512x128_S1x512x128
def cutValue : FVec Ideal S1x512x128 .f32 :=
  shapeCast S1x512x128 (extractStridedSlice S512x128 ![0, 1920] P slices_S512x2048_o0_1920_S512x128) shapeCasts_S512x128_S1x512x128

variable (r : Fin 512)

theorem cutConv_apply (d : Fin 512) : cutConv P (ix3 0 r d) = P (ix2 r ⟨d.val, by omega⟩) := by pointwise [cutConv]
theorem cutHy_apply (d : Fin 768) : cutHy P (ix3 0 r d) = P (ix2 r ⟨512 + d.val, by omega⟩) := by pointwise [cutHy]
theorem cutScan_apply (d : Fin 256) : cutScan P (ix2 r d) = P (ix2 r ⟨1280 + d.val, by omega⟩) := by pointwise [cutScan]
theorem cutQuery_apply (d : Fin 256) : cutQuery P (ix3 0 r d) = P (ix2 r ⟨1536 + d.val, by omega⟩) := by pointwise [cutQuery]
theorem cutKey_apply (d : Fin 128) : cutKey P (ix3 0 r d) = P (ix2 r ⟨1792 + d.val, by omega⟩) := by pointwise [cutKey]
theorem cutValue_apply (d : Fin 128) : cutValue P (ix3 0 r d) = P (ix2 r ⟨1920 + d.val, by omega⟩) := by pointwise [cutValue]

end Blocks

section Pieces

open Cert.InNextIdeal (S512x2048 S1x512x512 S1x512x768 S512x256 S1x512x256 S1x512x128)
open Cert.InNextRefIdeal (S8x4096x2048 S8x4096x512 S8x4096x768 S4096x2048 S8x4096x256 S8x4096x128)

variable (P : FVec Ideal S512x2048 .f32) (p : FVec Ideal S8x4096x2048 .f32)

/-- Where row `y 1` of the block's product is the plain product's, each piece of the block at `y` is the plain piece's entry. -/
theorem cutConv_eq (y : S1x512x512.Idx) (i : S8x4096x512.Idx) (h : ∀ n : Fin 2048, P (ix2 (y 1) n) = p (ix3 (i 0) (i 1) n))
    (h2 : (y 2).val = (i 2).val) : cutConv P y = conv p i := by
  idx_vars y
  idx_vars i
  obtain rfl : y0 = 0 := Subsingleton.elim _ _
  obtain rfl : y2 = i2 := Fin.ext h2
  rw [cutConv_apply, conv_apply]
  exact h _

theorem cutHy_eq (y : S1x512x768.Idx) (i : S8x4096x768.Idx) (h : ∀ n : Fin 2048, P (ix2 (y 1) n) = p (ix3 (i 0) (i 1) n))
    (h2 : (y 2).val = (i 2).val) : cutHy P y = hy p i := by
  idx_vars y
  idx_vars i
  obtain rfl : y0 = 0 := Subsingleton.elim _ _
  obtain rfl : y2 = i2 := Fin.ext h2
  rw [cutHy_apply, hy_apply]
  exact h _

theorem cutQuery_eq (y : S1x512x256.Idx) (i : S8x4096x256.Idx) (h : ∀ n : Fin 2048, P (ix2 (y 1) n) = p (ix3 (i 0) (i 1) n))
    (h2 : (y 2).val = (i 2).val) : cutQuery P y = query p i := by
  idx_vars y
  idx_vars i
  obtain rfl : y0 = 0 := Subsingleton.elim _ _
  obtain rfl : y2 = i2 := Fin.ext h2
  rw [cutQuery_apply, query_apply]
  exact h _

theorem cutKey_eq (y : S1x512x128.Idx) (i : S8x4096x128.Idx) (h : ∀ n : Fin 2048, P (ix2 (y 1) n) = p (ix3 (i 0) (i 1) n))
    (h2 : (y 2).val = (i 2).val) : cutKey P y = key p i := by
  idx_vars y
  idx_vars i
  obtain rfl : y0 = 0 := Subsingleton.elim _ _
  obtain rfl : y2 = i2 := Fin.ext h2
  rw [cutKey_apply, key_apply]
  exact h _

theorem cutValue_eq (y : S1x512x128.Idx) (i : S8x4096x128.Idx) (h : ∀ n : Fin 2048, P (ix2 (y 1) n) = p (ix3 (i 0) (i 1) n))
    (h2 : (y 2).val = (i 2).val) : cutValue P y = value p i := by
  idx_vars y
  idx_vars i
  obtain rfl : y0 = 0 := Subsingleton.elim _ _
  obtain rfl : y2 = i2 := Fin.ext h2
  rw [cutValue_apply, value_apply]
  exact h _

/-- The scan's piece, whose columns are batch by batch. -/
theorem cutScan_eq (y : S512x256.Idx) (i : S4096x2048.Idx) (b : Fin 8) (hb : b.val * 256 + (y 1).val = (i 1).val)
    (h : ∀ n : Fin 2048, P (ix2 (y 0) n) = p (ix3 b (i 0) n)) : cutScan P y = scan p i := by
  idx_vars y
  idx_vars i
  have hb' : b.val * 256 + y1.val = i1.val := hb
  have hy : y1.val < 256 := y1.isLt
  rw [cutScan_apply, scan_apply, show (⟨i1.val / 256, by omega⟩ : Fin 8) = b from Fin.ext (by show i1.val / 256 = b.val; omega)]
  refine (h _).trans (congrArg (fun n => p (ix3 b i0 n)) (Fin.ext ?_))
  show 1280 + y1.val = 1280 + i1.val % 256
  omega

end Pieces

end Cert.Proof.InProj

end
-- ==== Proof.InFirstOut.lean ====
/- What the input projection behind the first layer norm computes, at one grid point and in its seven result arrays. -/
module

public import proofs.«01_k».proof.Proof.InProj
public import proofs.«01_k».proof.Proof.LayerNorm
public import proofs.«01_k».proof.Proof.Gen.InFirstIdeal.Value
public import Idealize.ShloMosaic.Lib.Pipeline.ValueKit
public import Idealize.ShloMosaic.Lib.Pipeline.Covers

@[expose] public section

set_option maxRecDepth 16384

noncomputable section

namespace Cert.InFirstIdeal.Hand

open Cert.InFirstIdeal Cert.InFirstIdeal.Gen Idealize.ShloMosaic Idealize.ShloMosaic.TcCoe Idealize.SL.Sem
open Idealize.ShloMosaic.Pipeline (Dat)
open Cert.Proof

/-- One block's normalised rows at an entry. -/
theorem norm_apply (x : Vec Ideal S1x512x1024 .f32) (g b : Vec Ideal S1x1024 .f32) (r : Fin 512) (d : Fin 1024) :
    k0_pay7 x g b (ix2 r d) = LayerNorm.row (fun k => x (ix3 0 r k)) (g (ix2 0 d)) (b (ix2 0 d)) d := by
  pointwise [k0_pay7]
  rfl

/-- The block they are stored as. -/
theorem rows_apply (x : Vec Ideal S1x512x1024 .f32) (g b : Vec Ideal S1x1024 .f32) (r : Fin 512) (d : Fin 1024) :
    k0_pay8 x g b (ix3 0 r d) = k0_pay7 x g b (ix2 r d) := by
  pointwise [k0_pay8]

/-- One block's product at an entry. -/
theorem prod_apply (x : Vec Ideal S1x512x1024 .f32) (g b : Vec Ideal S1x1024 .f32) (w : Vec Ideal S1024x2048 .bf16)
    (r : Fin 512) (n : Fin 2048) :
    k0_pay9 x g b w (ix2 r n) = ∑ k : Fin 1024, k0_pay7 x g b (ix2 r k) * w (ix2 k n) :=
  InProj.blockProj_apply (k0_pay7 x g b) w r n

/-- The product stated over the operands' whole blocks is the product. -/
theorem block_prod (x : Vec Ideal S1x512x1024 .f32) (g b : Vec Ideal S1x1024 .f32) (w : Vec Ideal S1024x2048 .bf16) :
    k0_pay11 x g b w = k0_pay9 x g b w := by
  rw [k0_pay11]
  simp (discharger := decide) only [View.ld_unit_lit]

variable (m : (ℓ : Loc nD τ sig) → Buf (Elt Ideal) ℓ)

/-- The windows' block indices at a point: batch the first coordinate, row block the second. -/
theorem idx : ∀ t : Fin grid0.N, win0_0.index t = ![(grid0.coords t 0).val, (grid0.coords t 1).val, 0]
    ∧ win0_1.index t = ![0, 0] ∧ win0_2.index t = ![0, 0] ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 1).val, (grid0.coords t 0).val]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0] := by decide +kernel

/-- The weights reach the region rounded; ideally they are as they were. -/
theorem entry_w (c : Dev nD) (i : S1024x2048.Idx) : V m c main_v0 i = m ((c : Thread nD τ).loc main_arg3) i := by
  entry_read
  rfl

theorem read_w (c : Dev nD) (t : Fin cfg0.N) (k : Fin 1024) (n : Fin 2048) :
    iblk m c 3 t (ix2 k n) = m ((c : Thread nD τ).loc main_arg3) (ix2 k n) := by
  refine Eq.trans (b := V m c main_v0 (ix2 k n)) ?_ (entry_w m c _)
  blk_ext [iblk, idx t]

/-- The gain and the shift reach it as one row. -/
theorem entry_g (c : Dev nD) (d : Fin 1024) : V m c main_v1 (ix2 0 d) = m ((c : Thread nD τ).loc main_arg1) (ix1 d) := by
  entry_read
  pointwise
theorem entry_b (c : Dev nD) (d : Fin 1024) : V m c main_v2 (ix2 0 d) = m ((c : Thread nD τ).loc main_arg2) (ix1 d) := by
  entry_read
  pointwise

theorem read_g (c : Dev nD) (t : Fin cfg0.N) (d : Fin 1024) : iblk m c 1 t (ix2 0 d) = m ((c : Thread nD τ).loc main_arg1) (ix1 d) := by
  refine Eq.trans (b := V m c main_v1 (ix2 0 d)) ?_ (entry_g m c d)
  blk_ext [iblk, idx t]
theorem read_b (c : Dev nD) (t : Fin cfg0.N) (d : Fin 1024) : iblk m c 2 t (ix2 0 d) = m ((c : Thread nD τ).loc main_arg2) (ix1 d) := by
  refine Eq.trans (b := V m c main_v2 (ix2 0 d)) ?_ (entry_b m c d)
  blk_ext [iblk, idx t]

/-- The normalised rows of the launch. -/
abbrev rows (c : Dev nD) : FVec Ideal S8x4096x1024 .f32 :=
  LayerNorm.array (m ((c : Thread nD τ).loc main_arg0)) (m ((c : Thread nD τ).loc main_arg1)) (m ((c : Thread nD τ).loc main_arg2))

/-- The plain product of the launch. -/
abbrev prod (c : Dev nD) : FVec Ideal Cert.InNextRefIdeal.S8x4096x2048 .f32 :=
  InProj.proj (rows m c) (m ((c : Thread nD τ).loc main_arg3))

section Point

variable (c : Dev nD) (t : Fin cfg0.N) (i : Fin 8) (l : Fin 4096) (r : Fin 512) (hi : (grid0.coords t 0).val = i.val)
  (hl : (grid0.coords t 1).val * 512 + r.val = l.val)
include hi hl

theorem read_h (k : Fin 1024) : iblk m c 0 t (ix3 0 r k) = m ((c : Thread nD τ).loc main_arg0) (ix3 i l k) := by
  have hi' := hi.symm
  blk_ext [iblk, V, idx t]

/-- The point's normalised rows are the plain ones. -/
theorem point_norm (k : Fin 1024) :
    k0_pay7 (iblk m c 0 t) (iblk m c 1 t) (iblk m c 2 t) (ix2 r k) = rows m c (ix3 i l k) := by
  rw [norm_apply, rows, LayerNorm.array_apply]
  simp only [read_h m c t i l r hi hl, read_g, read_b]

/-- The point's product is the plain one's rows. -/
theorem point_prod (n : Fin 2048) :
    k0_pay9 (iblk m c 0 t) (iblk m c 1 t) (iblk m c 2 t) (iblk m c 3 t) (ix2 r n) = prod m c (ix3 i l n) := by
  rw [prod_apply, prod, InProj.proj_apply]
  simp only [point_norm m c t i l r hi hl, read_w]

end Point

/-- The first result is the normalised rows. -/
theorem out_h (c : Dev nD) : (dats m 0 c).arrAt 4 cfg0.N = rows m c := by
  refine (dats m 0 c).arrAt_eq_of_covers 4 _ (by decide +kernel) fun t hf y => ?_
  blk_simp
  rw [after0_4]
  frame_out
  generalize hi : ((View.whole main_v3_0).slice (win0_4.rect t)).emb y = i
  have e0 := congrArg (fun i => (i 0).val) hi
  have e1 := congrArg (fun i => (i 1).val) hi
  have e2 := congrArg (fun i => (i 2).val) hi
  blk_simp [idx t] at e0 e1 e2
  idx_vars y
  idx_vars i
  obtain rfl : y0 = 0 := Subsingleton.elim _ _
  obtain rfl : y2 = i2 := Fin.ext e2
  exact (rows_apply _ _ _ _ _).trans (point_norm m c t i0 i1 y1 e0 e1 y2)

theorem out_conv (c : Dev nD) : (dats m 0 c).arrAt 5 cfg0.N = InProj.conv (prod m c) := by
  refine (dats m 0 c).arrAt_eq_of_covers 5 _ (by decide +kernel) fun t hf y => ?_
  blk_simp
  rw [after0_5]
  frame_out
  generalize hi : ((View.whole main_v3_1).slice (win0_5.rect t)).emb y = i
  have e0 := congrArg (fun i => (i 0).val) hi
  have e1 := congrArg (fun i => (i 1).val) hi
  have e2 := congrArg (fun i => (i 2).val) hi
  blk_simp [idx t] at e0 e1 e2
  exact InProj.cutConv_eq (k0_pay9 (iblk m c 0 t) (iblk m c 1 t) (iblk m c 2 t) (iblk m c 3 t)) _ y i (point_prod m c t (i 0) (i 1) (y 1) e0 e1) e2

theorem out_hy (c : Dev nD) : (dats m 0 c).arrAt 6 cfg0.N = InProj.hy (prod m c) := by
  refine (dats m 0 c).arrAt_eq_of_covers 6 _ (by decide +kernel) fun t hf y => ?_
  blk_simp
  rw [after0_6]
  frame_out
  rw [block_prod]
  generalize hi : ((View.whole main_v3_2).slice (win0_6.rect t)).emb y = i
  have e0 := congrArg (fun i => (i 0).val) hi
  have e1 := congrArg (fun i => (i 1).val) hi
  have e2 := congrArg (fun i => (i 2).val) hi
  blk_simp [idx t] at e0 e1 e2
  exact InProj.cutHy_eq (k0_pay9 (iblk m c 0 t) (iblk m c 1 t) (iblk m c 2 t) (iblk m c 3 t)) _ y i (point_prod m c t (i 0) (i 1) (y 1) e0 e1) e2

theorem out_scan (c : Dev nD) : (dats m 0 c).arrAt 7 cfg0.N = InProj.scan (prod m c) := by
  refine (dats m 0 c).arrAt_eq_of_covers 7 _ (by decide +kernel) fun t hf y => ?_
  blk_simp
  rw [after0_7]
  frame_out
  rw [block_prod]
  generalize hi : ((View.whole main_v3_3).slice (win0_7.rect t)).emb y = i
  have e0 := congrArg (fun i => (i 0).val) hi
  have e1 := congrArg (fun i => (i 1).val) hi
  blk_simp [idx t] at e0 e1
  exact InProj.cutScan_eq (k0_pay9 (iblk m c 0 t) (iblk m c 1 t) (iblk m c 2 t) (iblk m c 3 t)) _ y i (grid0.coords t 0) e1
    (point_prod m c t (grid0.coords t 0) (i 0) (y 0) rfl e0)

theorem out_query (c : Dev nD) : (dats m 0 c).arrAt 8 cfg0.N = InProj.query (prod m c) := by
  refine (dats m 0 c).arrAt_eq_of_covers 8 _ (by decide +kernel) fun t hf y => ?_
  blk_simp
  rw [after0_8]
  frame_out
  rw [block_prod]
  generalize hi : ((View.whole main_v3_4).slice (win0_8.rect t)).emb y = i
  have e0 := congrArg (fun i => (i 0).val) hi
  have e1 := congrArg (fun i => (i 1).val) hi
  have e2 := congrArg (fun i => (i 2).val) hi
  blk_simp [idx t] at e0 e1 e2
  exact InProj.cutQuery_eq (k0_pay9 (iblk m c 0 t) (iblk m c 1 t) (iblk m c 2 t) (iblk m c 3 t)) _ y i (point_prod m c t (i 0) (i 1) (y 1) e0 e1) e2

theorem out_key (c : Dev nD) : (dats m 0 c).arrAt 9 cfg0.N = InProj.key (prod m c) := by
  refine (dats m 0 c).arrAt_eq_of_covers 9 _ (by decide +kernel) fun t hf y => ?_
  blk_simp
  rw [after0_9]
  frame_out
  rw [block_prod]
  generalize hi : ((View.whole main_v3_5).slice (win0_9.rect t)).emb y = i
  have e0 := congrArg (fun i => (i 0).val) hi
  have e1 := congrArg (fun i => (i 1).val) hi
  have e2 := congrArg (fun i => (i 2).val) hi
  blk_simp [idx t] at e0 e1 e2
  exact InProj.cutKey_eq (k0_pay9 (iblk m c 0 t) (iblk m c 1 t) (iblk m c 2 t) (iblk m c 3 t)) _ y i (point_prod m c t (i 0) (i 1) (y 1) e0 e1) e2

theorem out_value (c : Dev nD) : (dats m 0 c).arrAt 10 cfg0.N = InProj.value (prod m c) := by
  refine (dats m 0 c).arrAt_eq_of_covers 10 _ (by decide +kernel) fun t hf y => ?_
  blk_simp
  rw [after0_10]
  frame_out
  rw [block_prod]
  generalize hi : ((View.whole main_v3_6).slice (win0_10.rect t)).emb y = i
  have e0 := congrArg (fun i => (i 0).val) hi
  have e1 := congrArg (fun i => (i 1).val) hi
  have e2 := congrArg (fun i => (i 2).val) hi
  blk_simp [idx t] at e0 e1 e2
  exact InProj.cutValue_eq (k0_pay9 (iblk m c 0 t) (iblk m c 1 t) (iblk m c 2 t) (iblk m c 3 t)) _ y i (point_prod m c t (i 0) (i 1) (y 1) e0 e1) e2

end Cert.InFirstIdeal.Hand

end
-- ==== Proof.InFirstClaims.lean ====
/- The claims about the input projection behind the first layer norm: its frames, and that its results are the plain ones. -/
module

public import proofs.«01_k».proof.Defs
public import proofs.«01_k».proof.Proof.InFirstOut
public import proofs.«01_k».proof.Proof.Gen.InFirst.Frame
public import proofs.«01_k».proof.Proof.Gen.InFirstIdeal.Frame
public import proofs.«01_k».proof.Proof.Gen.InFirstRefIdeal.Run
public import Idealize.ShloMosaic.Adequacy
public import Idealize.ShloMosaic.Init

@[expose] public section

set_option maxRecDepth 16384

noncomputable section

namespace Cert.Proof.InFirstClaims

open Idealize.ShloMosaic Idealize.SL.Sem

/-- The call runs and leaves its semaphores at zero, at every instance of the floats. -/
theorem frame_p : Cert.quiescent_InFirst := fun m ρ _ => Cert.InFirst.Gen.frame m ρ
/-- The same of its ideal reading. -/
theorem frame_pi : Cert.quiescent_InFirstIdeal := fun m ρ _ => Cert.InFirstIdeal.Gen.frame m ρ
/-- The same of the reference, which has no semaphores. -/
theorem frame_ri : Cert.quiescent_InFirstRefIdeal := fun m ρ _ =>
  (θ_run Cert.InFirstRefIdeal.defs _ _).mono (fun r h => ⟨fun c => (h c).2.2.2.2.2.2.2, sem_eq_zero_of_no_sems (by decide) r.2⟩)
    (Cert.InFirstRefIdeal.Value.run (F := Ideal) m ρ)

/-- The ideal reading rewrote nothing. -/
theorem preserves : Cert.preserves_InFirst_InFirstIdeal := trivial

/-- From equal arguments kernel and reference leave the same seven results. -/
theorem algebraic : Cert.algebraic_InFirstIdeal_InFirstRefIdeal := by
  intro m ρ m' ρ' _ hagree
  refine ⟨fun c => InFirstIdeal.Hand.rows m c,
    fun c => InProj.conv (InFirstIdeal.Hand.prod m c),
    fun c => InProj.hy (InFirstIdeal.Hand.prod m c),
    fun c => InProj.scan (InFirstIdeal.Hand.prod m c),
    fun c => InProj.query (InFirstIdeal.Hand.prod m c),
    fun c => InProj.key (InFirstIdeal.Hand.prod m c),
    fun c => InProj.value (InFirstIdeal.Hand.prod m c),
    ?_, ?_⟩
  · refine (θ_run Cert.InFirstIdeal.defs _ _).mono (fun _ h c => ?_) (Cert.InFirstIdeal.Value.run_blocks (F := Ideal) m ρ)
    obtain ⟨h0, h1, h2, h3, h4, h5, h6, hk⟩ := h c
    exact ⟨h0.trans (InFirstIdeal.Hand.out_h m c),
      h1.trans (InFirstIdeal.Hand.out_conv m c),
      h2.trans (InFirstIdeal.Hand.out_hy m c),
      h3.trans (InFirstIdeal.Hand.out_scan m c),
      h4.trans (InFirstIdeal.Hand.out_query m c),
      h5.trans (InFirstIdeal.Hand.out_key m c),
      h6.trans (InFirstIdeal.Hand.out_value m c), hk⟩
  · refine (θ_run Cert.InFirstRefIdeal.defs _ _).mono (fun _ h c => ?_) (Cert.InFirstRefIdeal.Value.run (F := Ideal) m' ρ')
    obtain ⟨h0, h1, h2, h3, h4, h5, h6, hk⟩ := h c
    obtain ⟨a0, a1, a2, a3⟩ := hagree c
    rw [a0, a1, a2] at h0
    rw [a0, a1, a2, a3] at h1 h2 h3 h4 h5 h6
    exact ⟨h0, h1, h2, h3, h4, h5, h6, hk⟩

end Cert.Proof.InFirstClaims

end
-- ==== Proof.InNextOut.lean ====
/- What the input projection without a norm computes, at one grid point and in its seven result arrays. -/
module

public import proofs.«01_k».proof.Proof.InProj
public import proofs.«01_k».proof.Proof.Gen.InNextIdeal.Value
public import Idealize.ShloMosaic.Lib.Pipeline.ValueKit
public import Idealize.ShloMosaic.Lib.Pipeline.Covers

@[expose] public section

set_option maxRecDepth 16384

noncomputable section

namespace Cert.InNextIdeal.Hand

open Cert.InNextIdeal Cert.InNextIdeal.Gen Idealize.ShloMosaic Idealize.ShloMosaic.TcCoe Idealize.SL.Sem
open Idealize.ShloMosaic.Pipeline (Dat)
open Cert.Proof

/-- The rows pass through. -/
theorem rows_apply (x : Vec Ideal S1x512x1024 .f32) (r : Fin 512) (d : Fin 1024) : k0_pay3 x (ix3 0 r d) = x (ix3 0 r d) := by
  pointwise [k0_pay3, k0_pay2]

/-- One block's product at an entry. -/
theorem prod_apply (x : Vec Ideal S1x512x1024 .f32) (w : Vec Ideal S1024x2048 .bf16) (r : Fin 512) (n : Fin 2048) :
    k0_pay4 x w (ix2 r n) = ∑ k : Fin 1024, x (ix3 0 r k) * w (ix2 k n) := by
  pointwise [k0_pay4, k0_pay2]

variable (m : (ℓ : Loc nD τ sig) → Buf (Elt Ideal) ℓ)

/-- The windows' block indices at a point: batch the first coordinate, row block the second. -/
theorem idx : ∀ t : Fin grid0.N, win0_0.index t = ![(grid0.coords t 0).val, (grid0.coords t 1).val, 0]
    ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 1).val, (grid0.coords t 0).val]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0] := by decide +kernel

/-- The weights reach the region rounded; ideally they are as they were. -/
theorem entry_w (c : Dev nD) (i : S1024x2048.Idx) : V m c main_v0 i = m ((c : Thread nD τ).loc main_arg3) i := by
  entry_read
  rfl

theorem read_w (c : Dev nD) (t : Fin cfg0.N) (k : Fin 1024) (n : Fin 2048) :
    iblk m c 3 t (ix2 k n) = m ((c : Thread nD τ).loc main_arg3) (ix2 k n) := by
  refine Eq.trans (b := V m c main_v0 (ix2 k n)) ?_ (entry_w m c _)
  blk_ext [iblk, idx t]

/-- The plain product of the launch. -/
abbrev prod (c : Dev nD) : FVec Ideal Cert.InNextRefIdeal.S8x4096x2048 .f32 :=
  InProj.proj (m ((c : Thread nD τ).loc main_arg0)) (m ((c : Thread nD τ).loc main_arg3))

section Point

variable (c : Dev nD) (t : Fin cfg0.N) (i : Fin 8) (l : Fin 4096) (r : Fin 512) (hi : (grid0.coords t 0).val = i.val)
  (hl : (grid0.coords t 1).val * 512 + r.val = l.val)
include hi hl

theorem read_h (k : Fin 1024) : iblk m c 0 t (ix3 0 r k) = m ((c : Thread nD τ).loc main_arg0) (ix3 i l k) := by
  have hi' := hi.symm
  blk_ext [iblk, V, idx t]

/-- The point's product is the plain one's rows. -/
theorem point_prod (n : Fin 2048) : k0_pay4 (iblk m c 0 t) (iblk m c 3 t) (ix2 r n) = prod m c (ix3 i l n) := by
  rw [prod_apply, prod, InProj.proj_apply]
  simp only [read_h m c t i l r hi hl, read_w]

end Point

/-- The first result is the rows themselves. -/
theorem out_h (c : Dev nD) : (dats m 0 c).arrAt 4 cfg0.N = m ((c : Thread nD τ).loc main_arg0) := by
  refine (dats m 0 c).arrAt_eq_of_covers 4 _ (by decide +kernel) fun t hf y => ?_
  blk_simp
  rw [after0_4]
  frame_out
  generalize hi : ((View.whole main_v3_0).slice (win0_4.rect t)).emb y = i
  have e0 := congrArg (fun i => (i 0).val) hi
  have e1 := congrArg (fun i => (i 1).val) hi
  have e2 := congrArg (fun i => (i 2).val) hi
  blk_simp [idx t] at e0 e1 e2
  idx_vars y
  idx_vars i
  obtain rfl : y0 = 0 := Subsingleton.elim _ _
  obtain rfl : y2 = i2 := Fin.ext e2
  exact (rows_apply _ _ _).trans (read_h m c t i0 i1 y1 e0 e1 y2)

theorem out_conv (c : Dev nD) : (dats m 0 c).arrAt 5 cfg0.N = InProj.conv (prod m c) := by
  refine (dats m 0 c).arrAt_eq_of_covers 5 _ (by decide +kernel) fun t hf y => ?_
  blk_simp
  rw [after0_5]
  frame_out
  generalize hi : ((View.whole main_v3_1).slice (win0_5.rect t)).emb y = i
  have e0 := congrArg (fun i => (i 0).val) hi
  have e1 := congrArg (fun i => (i 1).val) hi
  have e2 := congrArg (fun i => (i 2).val) hi
  blk_simp [idx t] at e0 e1 e2
  exact InProj.cutConv_eq (k0_pay4 (iblk m c 0 t) (iblk m c 3 t)) _ y i (point_prod m c t (i 0) (i 1) (y 1) e0 e1) e2

theorem out_hy (c : Dev nD) : (dats m 0 c).arrAt 6 cfg0.N = InProj.hy (prod m c) := by
  refine (dats m 0 c).arrAt_eq_of_covers 6 _ (by decide +kernel) fun t hf y => ?_
  blk_simp
  rw [after0_6]
  frame_out
  generalize hi : ((View.whole main_v3_2).slice (win0_6.rect t)).emb y = i
  have e0 := congrArg (fun i => (i 0).val) hi
  have e1 := congrArg (fun i => (i 1).val) hi
  have e2 := congrArg (fun i => (i 2).val) hi
  blk_simp [idx t] at e0 e1 e2
  exact InProj.cutHy_eq (k0_pay4 (iblk m c 0 t) (iblk m c 3 t)) _ y i (point_prod m c t (i 0) (i 1) (y 1) e0 e1) e2

theorem out_scan (c : Dev nD) : (dats m 0 c).arrAt 7 cfg0.N = InProj.scan (prod m c) := by
  refine (dats m 0 c).arrAt_eq_of_covers 7 _ (by decide +kernel) fun t hf y => ?_
  blk_simp
  rw [after0_7]
  frame_out
  generalize hi : ((View.whole main_v3_3).slice (win0_7.rect t)).emb y = i
  have e0 := congrArg (fun i => (i 0).val) hi
  have e1 := congrArg (fun i => (i 1).val) hi
  blk_simp [idx t] at e0 e1
  exact InProj.cutScan_eq (k0_pay4 (iblk m c 0 t) (iblk m c 3 t)) _ y i (grid0.coords t 0) e1
    (point_prod m c t (grid0.coords t 0) (i 0) (y 0) rfl e0)

theorem out_query (c : Dev nD) : (dats m 0 c).arrAt 8 cfg0.N = InProj.query (prod m c) := by
  refine (dats m 0 c).arrAt_eq_of_covers 8 _ (by decide +kernel) fun t hf y => ?_
  blk_simp
  rw [after0_8]
  frame_out
  generalize hi : ((View.whole main_v3_4).slice (win0_8.rect t)).emb y = i
  have e0 := congrArg (fun i => (i 0).val) hi
  have e1 := congrArg (fun i => (i 1).val) hi
  have e2 := congrArg (fun i => (i 2).val) hi
  blk_simp [idx t] at e0 e1 e2
  exact InProj.cutQuery_eq (k0_pay4 (iblk m c 0 t) (iblk m c 3 t)) _ y i (point_prod m c t (i 0) (i 1) (y 1) e0 e1) e2

theorem out_key (c : Dev nD) : (dats m 0 c).arrAt 9 cfg0.N = InProj.key (prod m c) := by
  refine (dats m 0 c).arrAt_eq_of_covers 9 _ (by decide +kernel) fun t hf y => ?_
  blk_simp
  rw [after0_9]
  frame_out
  generalize hi : ((View.whole main_v3_5).slice (win0_9.rect t)).emb y = i
  have e0 := congrArg (fun i => (i 0).val) hi
  have e1 := congrArg (fun i => (i 1).val) hi
  have e2 := congrArg (fun i => (i 2).val) hi
  blk_simp [idx t] at e0 e1 e2
  exact InProj.cutKey_eq (k0_pay4 (iblk m c 0 t) (iblk m c 3 t)) _ y i (point_prod m c t (i 0) (i 1) (y 1) e0 e1) e2

theorem out_value (c : Dev nD) : (dats m 0 c).arrAt 10 cfg0.N = InProj.value (prod m c) := by
  refine (dats m 0 c).arrAt_eq_of_covers 10 _ (by decide +kernel) fun t hf y => ?_
  blk_simp
  rw [after0_10]
  frame_out
  generalize hi : ((View.whole main_v3_6).slice (win0_10.rect t)).emb y = i
  have e0 := congrArg (fun i => (i 0).val) hi
  have e1 := congrArg (fun i => (i 1).val) hi
  have e2 := congrArg (fun i => (i 2).val) hi
  blk_simp [idx t] at e0 e1 e2
  exact InProj.cutValue_eq (k0_pay4 (iblk m c 0 t) (iblk m c 3 t)) _ y i (point_prod m c t (i 0) (i 1) (y 1) e0 e1) e2

end Cert.InNextIdeal.Hand

end
-- ==== Proof.InNextClaims.lean ====
/- The claims about the input projection without a norm: its frames, and that its results are the plain ones. -/
module

public import proofs.«01_k».proof.Defs
public import proofs.«01_k».proof.Proof.InNextOut
public import proofs.«01_k».proof.Proof.Gen.InNext.Frame
public import proofs.«01_k».proof.Proof.Gen.InNextIdeal.Frame
public import proofs.«01_k».proof.Proof.Gen.InNextRefIdeal.Run
public import Idealize.ShloMosaic.Adequacy
public import Idealize.ShloMosaic.Init

@[expose] public section

set_option maxRecDepth 16384

noncomputable section

namespace Cert.Proof.InNextClaims

open Idealize.ShloMosaic Idealize.SL.Sem

/-- The call runs and leaves its semaphores at zero, at every instance of the floats. -/
theorem frame_p : Cert.quiescent_InNext := fun m ρ _ => Cert.InNext.Gen.frame m ρ
/-- The same of its ideal reading. -/
theorem frame_pi : Cert.quiescent_InNextIdeal := fun m ρ _ => Cert.InNextIdeal.Gen.frame m ρ
/-- The same of the reference, which has no semaphores. -/
theorem frame_ri : Cert.quiescent_InNextRefIdeal := fun m ρ _ =>
  (θ_run Cert.InNextRefIdeal.defs _ _).mono (fun r h => ⟨fun c => (h c).2.2.2.2.2.2.2, sem_eq_zero_of_no_sems (by decide) r.2⟩)
    (Cert.InNextRefIdeal.Value.run (F := Ideal) m ρ)

/-- The ideal reading rewrote nothing. -/
theorem preserves : Cert.preserves_InNext_InNextIdeal := trivial

/-- From equal arguments kernel and reference leave the same seven results. -/
theorem algebraic : Cert.algebraic_InNextIdeal_InNextRefIdeal := by
  intro m ρ m' ρ' _ hagree
  refine ⟨fun c => m ((c.tc : Thread InNextIdeal.nD InNextIdeal.τ).loc InNextIdeal.main_arg0),
    fun c => InProj.conv (InNextIdeal.Hand.prod m c),
    fun c => InProj.hy (InNextIdeal.Hand.prod m c),
    fun c => InProj.scan (InNextIdeal.Hand.prod m c),
    fun c => InProj.query (InNextIdeal.Hand.prod m c),
    fun c => InProj.key (InNextIdeal.Hand.prod m c),
    fun c => InProj.value (InNextIdeal.Hand.prod m c),
    ?_, ?_⟩
  · refine (θ_run Cert.InNextIdeal.defs _ _).mono (fun _ h c => ?_) (Cert.InNextIdeal.Value.run_blocks (F := Ideal) m ρ)
    obtain ⟨h0, h1, h2, h3, h4, h5, h6, hk⟩ := h c
    exact ⟨h0.trans (InNextIdeal.Hand.out_h m c),
      h1.trans (InNextIdeal.Hand.out_conv m c),
      h2.trans (InNextIdeal.Hand.out_hy m c),
      h3.trans (InNextIdeal.Hand.out_scan m c),
      h4.trans (InNextIdeal.Hand.out_query m c),
      h5.trans (InNextIdeal.Hand.out_key m c),
      h6.trans (InNextIdeal.Hand.out_value m c), hk⟩
  · refine (θ_run Cert.InNextRefIdeal.defs _ _).mono (fun _ h c => ?_) (Cert.InNextRefIdeal.Value.run (F := Ideal) m' ρ')
    obtain ⟨h0, h1, h2, h3, h4, h5, h6, hk⟩ := h c
    obtain ⟨a0, a1, a2, a3⟩ := hagree c
    rw [a0] at h0
    rw [a0, a3] at h1 h2 h3 h4 h5 h6
    exact ⟨h0, h1, h2, h3, h4, h5, h6, hk⟩

end Cert.Proof.InNextClaims

end
-- ==== Proof.QkTables.lean ====
/- What host code prepares for the queries' and keys' norm and rotation: the tables of cosines and sines of the angles,
   the array of which lanes belong to one head, and the gains laid out for every head. -/
module
public import proofs.«01_k».proof.Proof.Gen.QkIdeal.Value
public import Idealize.ShloMosaic.Lib.Pipeline.ValueKit
public import Idealize.ShloMosaic.Lib.Pipeline.Covers
@[expose] public section
set_option maxRecDepth 16384
noncomputable section
namespace Cert.QkIdeal.Hand
open Cert.QkIdeal Cert.QkIdeal.Gen Idealize.ShloMosaic Idealize.ShloMosaic.TcCoe Idealize.SL.Sem
open Idealize.ShloMosaic.Pipeline (Dat)
variable (σ : Valuation τ sig (Elt Ideal))
/-- The rates of the sixteen angles of an axis. -/
def rates : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))
/-- Each position's row of the grid. -/
def rowNo : FVec Ideal S4096 .f32 := shapeCast S4096 (broadcastInDim S64x64 ![0] bcast_S64_S64x64_0 (sitofp .f32 (iotaInDim S64 32 0))) shapeCasts_S64x64_S4096
/-- Each position's column of the grid. -/
def colNo : FVec Ideal S4096 .f32 :=
  shapeCast S4096 (broadcastInDim S64x64 ![0, 1] bcast_S1x64_S64x64_0_1 (shapeCast S1x64 (sitofp .f32 (iotaInDim S64 32 0)) shapeCasts_S64_S1x64)) shapeCasts_S64x64_S4096
/-- The angles of an axis at each position. -/
def angles (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 rates))
/-- Four tables side by side: what a head's 64 lanes are multiplied by. -/
def beside (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1
/-- A head's table repeated for the four heads. -/
def tiled (a : FVec Ideal S4096x64 .f32) : FVec Ideal S4096x256 .f32 :=
  shapeCast S4096x256 (broadcastInDim S1x4096x4x64 ![0, 1, 2, 3] bcast_S1x4096x1x64_S1x4096x4x64_0_1_2_3
    (shapeCast S1x4096x1x64 a shapeCasts_S4096x64_S1x4096x1x64)) shapeCasts_S1x4096x4x64_S4096x256

/-- Two lists of host operations, one after the other. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons o l ih => exact ih _
/-- The angles of the rows and of the columns are computed first. -/
theorem first_row : StableHlo.after (List.take 31 hostOps0) σ (Proc.devRef .tc main_v21) = angles rowNo := by
  simp only [hostOps0, List.take_succ_cons, List.take_zero]
  entry_read
  rfl
theorem first_col : StableHlo.after (List.take 31 hostOps0) σ (Proc.devRef .tc main_v26) = angles colNo := by
  simp only [hostOps0, List.take_succ_cons, List.take_zero]
  entry_read
  rfl
/-- Laid side by side, the tables are tiled. -/
theorem tile_cos : StableHlo.after (List.drop 36 hostOps0) σ (Proc.devRef .tc main_v41) = tiled (σ (Proc.devRef .tc main_v31)) := by
  simp only [hostOps0, List.drop_succ_cons, List.drop_zero]
  entry_read
  rfl
theorem tile_sin : StableHlo.after (List.drop 43 hostOps0) σ (Proc.devRef .tc main_v44) = tiled (σ (Proc.devRef .tc main_v38)) := by
  simp only [hostOps0, List.drop_succ_cons, List.drop_zero]
  entry_read
  rfl
/-- The four tables are laid side by side. -/
theorem join_cos : StableHlo.after (List.drop 35 hostOps0) σ (Proc.devRef .tc main_v41)
    = tiled (beside (σ (Proc.devRef .tc main_v27)) (σ (Proc.devRef .tc main_v28)) (σ (Proc.devRef .tc main_v29)) (σ (Proc.devRef .tc main_v30))) := by
  refine (tile_cos (HloOp.result _ σ)).trans (congrArg tiled ?_)
  exact StableHlo.nary4_result _ _ _ _
theorem join_sin : StableHlo.after (List.drop 42 hostOps0) σ (Proc.devRef .tc main_v44)
    = tiled (beside (σ (Proc.devRef .tc main_v33)) (σ (Proc.devRef .tc main_v34)) (σ (Proc.devRef .tc main_v36)) (σ (Proc.devRef .tc main_v37))) := by
  refine (tile_sin (HloOp.result _ σ)).trans (congrArg tiled ?_)
  exact StableHlo.nary4_result _ _ _ _
/-- The four tables of cosines. -/
theorem four_cos : StableHlo.after (List.take 4 (List.drop 31 hostOps0)) σ (Proc.devRef .tc main_v27) = (Host.cos (σ (Proc.devRef .tc main_v21)) : FVec Ideal S4096x16 .f32)
    ∧ StableHlo.after (List.take 4 (List.drop 31 hostOps0)) σ (Proc.devRef .tc main_v28) = (Host.cos (σ (Proc.devRef .tc main_v21)) : FVec Ideal S4096x16 .f32)
    ∧ StableHlo.after (List.take 4 (List.drop 31 hostOps0)) σ (Proc.devRef .tc main_v29) = (Host.cos (σ (Proc.devRef .tc main_v26)) : FVec Ideal S4096x16 .f32)
    ∧ StableHlo.after (List.take 4 (List.drop 31 hostOps0)) σ (Proc.devRef .tc main_v30) = (Host.cos (σ (Proc.devRef .tc main_v26)) : FVec Ideal S4096x16 .f32) := by
  simp only [hostOps0, List.drop_succ_cons, List.drop_zero, List.take_succ_cons, List.take_zero]
  entry_read
  exact ⟨rfl, rfl, rfl, rfl⟩
/-- The four tables of sines. -/
theorem four_sin : StableHlo.after (List.take 11 (List.drop 31 hostOps0)) σ (Proc.devRef .tc main_v33) = (Host.negf (Host.sin (σ (Proc.devRef .tc main_v21))) : FVec Ideal S4096x16 .f32)
    ∧ StableHlo.after (List.take 11 (List.drop 31 hostOps0)) σ (Proc.devRef .tc main_v34) = (Host.sin (σ (Proc.devRef .tc main_v21)) : FVec Ideal S4096x16 .f32)
    ∧ StableHlo.after (List.take 11 (List.drop 31 hostOps0)) σ (Proc.devRef .tc main_v36) = (Host.negf (Host.sin (σ (Proc.devRef .tc main_v26))) : FVec Ideal S4096x16 .f32)
    ∧ StableHlo.after (List.take 11 (List.drop 31 hostOps0)) σ (Proc.devRef .tc main_v37) = (Host.sin (σ (Proc.devRef .tc main_v26)) : FVec Ideal S4096x16 .f32) := by
  simp only [hostOps0, List.drop_succ_cons, List.drop_zero, List.take_succ_cons, List.take_zero]
  entry_read
  exact ⟨rfl, rfl, rfl, rfl⟩
/-- The cosines as host code leaves them. -/
theorem first_cos : StableHlo.after hostOps0 σ (Proc.devRef .tc main_v41)
    = tiled (beside (Host.cos (angles rowNo)) (Host.cos (angles rowNo)) (Host.cos (angles colNo)) (Host.cos (angles colNo))) := by
  obtain ⟨a, b, c, d⟩ := four_cos (StableHlo.after (List.take 31 hostOps0) σ)
  rw [← List.take_append_drop 31 hostOps0, after_append, ← List.take_append_drop 4 (List.drop 31 hostOps0), after_append, List.drop_drop, join_cos,
    a, b, c, d, first_row, first_col]
/-- The sines as host code leaves them. -/
theorem first_sin : StableHlo.after hostOps0 σ (Proc.devRef .tc main_v44)
    = tiled (beside (Host.negf (Host.sin (angles rowNo))) (Host.sin (angles rowNo)) (Host.negf (Host.sin (angles colNo))) (Host.sin (angles colNo))) := by
  obtain ⟨a, b, c, d⟩ := four_sin (StableHlo.after (List.take 31 hostOps0) σ)
  rw [← List.take_append_drop 31 hostOps0, after_append, ← List.take_append_drop 11 (List.drop 31 hostOps0), after_append, List.drop_drop, join_sin,
    a, b, c, d, first_row, first_col]

theorem beside_apply (a b c d : FVec Ideal S4096x16 .f32) (l : Fin 4096) (n : Fin 64) : beside a b c d (ix2 l n)
    = if h : n.val < 16 then a (ix2 l ⟨n.val, h⟩) else if h : n.val - 16 < 16 then b (ix2 l ⟨n.val - 16, h⟩)
      else if h : n.val - 16 - 16 < 16 then c (ix2 l ⟨n.val - 16 - 16, h⟩) else d (ix2 l ⟨n.val - 16 - 16 - 16, by omega⟩) := by
  pointwise [beside]
theorem tiled_apply (a : FVec Ideal S4096x64 .f32) (l : Fin 4096) (n : Fin 256) :
    tiled a (ix2 l n) = a (ix2 l ⟨n.val % 64, Nat.mod_lt _ (by decide)⟩) := by
  pointwise [tiled]

/-- jax's floor division, as the host writes it for a column of numbers. -/
def divCol (a : IVec S256x1 32) (k : IVec S_ 32) : IVec S256x1 32 :=
  select (andi (cmpi .ne (signi a) (broadcastInDim S256x1 ![] bcast_S_S256x1 (signi k)))
      (cmpi .ne (Host.remsi a (broadcastInDim S256x1 ![] bcast_S_S256x1 k)) (broadcastInDim S256x1 ![] bcast_S_S256x1 (constantI S_ 32 0#32))))
    (subi (Host.divsi a (broadcastInDim S256x1 ![] bcast_S_S256x1 k)) (broadcastInDim S256x1 ![] bcast_S_S256x1 (constantI S_ 32 1#32)))
    (Host.divsi a (broadcastInDim S256x1 ![] bcast_S_S256x1 k))

/-- The same for a row of numbers. -/
def divRow (a : IVec S1x256 32) (k : IVec S_ 32) : IVec S1x256 32 :=
  select (andi (cmpi .ne (signi a) (broadcastInDim S1x256 ![] bcast_S_S1x256 (signi k)))
      (cmpi .ne (Host.remsi a (broadcastInDim S1x256 ![] bcast_S_S1x256 k)) (broadcastInDim S1x256 ![] bcast_S_S1x256 (constantI S_ 32 0#32))))
    (subi (Host.divsi a (broadcastInDim S1x256 ![] bcast_S_S1x256 k)) (broadcastInDim S1x256 ![] bcast_S_S1x256 (constantI S_ 32 1#32)))
    (Host.divsi a (broadcastInDim S1x256 ![] bcast_S_S1x256 k))

/-- The lanes' numbers below 256, floor-divided by 64, are their heads. -/
theorem divCol_apply (a : IVec S256x1 32) (k : IVec S_ 32) (hk : k = constantI S_ 32 64#32) (n : Fin 256) (h : a (ix2 n 0) = BitVec.ofNat 32 n.val) :
    divCol a k (ix2 n 0) = BitVec.ofNat 32 (n.val / 64) := by
  subst hk
  pointwise [divCol]
  simp only [h]
  clear h
  revert n
  decide +kernel
theorem divRow_apply (a : IVec S1x256 32) (k : IVec S_ 32) (hk : k = constantI S_ 32 64#32) (n : Fin 256) (h : a (ix2 0 n) = BitVec.ofNat 32 n.val) :
    divRow a k (ix2 0 n) = BitVec.ofNat 32 (n.val / 64) := by
  subst hk
  pointwise [divRow]
  simp only [h]
  clear h
  revert n
  decide +kernel

theorem last_lane (n : Fin 256) : StableHlo.after (List.drop 43 hostOps0) σ (Proc.devRef .tc main_v46) (ix2 n 0) = BitVec.ofNat 32 n.val := by
  simp only [hostOps0, List.drop_succ_cons, List.drop_zero]
  entry_read
  pointwise
theorem last_64 : StableHlo.after (List.drop 43 hostOps0) σ (Proc.devRef .tc main_c) = constantI S_ 32 64#32 := by
  simp only [hostOps0, List.drop_succ_cons, List.drop_zero]
  entry_read
  rfl
theorem first_lane (n : Fin 256) : StableHlo.after hostOps0 σ (Proc.devRef .tc main_v46) (ix2 n 0) = BitVec.ofNat 32 n.val := by
  rw [← List.take_append_drop 43 hostOps0, after_append]
  exact last_lane _ n
theorem first_64 : StableHlo.after hostOps0 σ (Proc.devRef .tc main_c) = constantI S_ 32 64#32 := by
  rw [← List.take_append_drop 43 hostOps0, after_append]
  exact last_64 _
theorem second_head : StableHlo.after hostOps0_1 σ (Proc.devRef .tc main_v47) = divCol (σ (Proc.devRef .tc main_v46)) (σ (Proc.devRef .tc main_c)) := by
  entry_read
  rfl
theorem third_lane (n : Fin 256) : StableHlo.after hostOps0_2 σ (Proc.devRef .tc main_v49) (ix2 0 n) = BitVec.ofNat 32 n.val := by
  entry_read
  pointwise
theorem third_64 : StableHlo.after hostOps0_2 σ (Proc.devRef .tc main_c_3) = constantI S_ 32 64#32 := by
  entry_read
  rfl
theorem fourth_head : StableHlo.after hostOps0_3 σ (Proc.devRef .tc main_v50) = divRow (σ (Proc.devRef .tc main_v49)) (σ (Proc.devRef .tc main_c_3)) := by
  entry_read
  rfl
theorem fifth_seg (k n : Fin 256) : StableHlo.after hostOps0_4 σ (Proc.devRef .tc main_v54) (ix2 k n)
    = FloatOps.uitofp (F := Ideal) .bf16 (IntOp.cmpi .eq (σ (Proc.devRef .tc main_v47) (ix2 k 0)) (σ (Proc.devRef .tc main_v50) (ix2 0 n))) := by
  entry_read
  pointwise
theorem fifth_gq (n : Fin 256) : StableHlo.after hostOps0_4 σ (Proc.devRef .tc main_v58) (ix2 0 n)
    = σ (Proc.devRef .tc main_arg3) (ix1 ⟨n.val % 64, Nat.mod_lt _ (by decide)⟩) := by
  entry_read
  pointwise
theorem fifth_gk (n : Fin 256) : StableHlo.after hostOps0_4 σ (Proc.devRef .tc main_v62) (ix2 0 n)
    = σ (Proc.devRef .tc main_arg4) (ix1 ⟨n.val % 64, Nat.mod_lt _ (by decide)⟩) := by
  entry_read
  pointwise

variable (m : (ℓ : Loc nD τ sig) → Buf (Elt Ideal) ℓ)

/-- What the launch finds: the five lists of host operations one after the other. -/
theorem entry (c : Dev nD) (b : Ref sig .tc) : V m c b
    = StableHlo.after hostOps0_4 (StableHlo.after hostOps0_3 (StableHlo.after hostOps0_2 (StableHlo.after hostOps0_1
      (StableHlo.after hostOps0 (fun b => m (c, b)))))) (Proc.devRef .tc b) := by
  unfold V
  simp only [List.flatten_cons, List.flatten_nil, List.append_nil, after_append]

/-- The lists after the first leave the tables alone. -/
theorem keep_cos : StableHlo.after hostOps0_4 (StableHlo.after hostOps0_3 (StableHlo.after hostOps0_2 (StableHlo.after hostOps0_1 σ))) (Proc.devRef .tc main_v41)
    = σ (Proc.devRef .tc main_v41) := by
  entry_read
  rfl
theorem keep_sin : StableHlo.after hostOps0_4 (StableHlo.after hostOps0_3 (StableHlo.after hostOps0_2 (StableHlo.after hostOps0_1 σ))) (Proc.devRef .tc main_v44)
    = σ (Proc.devRef .tc main_v44) := by
  entry_read
  rfl
theorem keep_head : StableHlo.after hostOps0_3 (StableHlo.after hostOps0_2 σ) (Proc.devRef .tc main_v47) = σ (Proc.devRef .tc main_v47) := by
  entry_read
  rfl

/-- The tables and the gains as the launch finds them, and the array of which lanes belong to one head. -/
theorem entry_cos (c : Dev nD) : V m c main_v41
    = tiled (beside (Host.cos (angles rowNo)) (Host.cos (angles rowNo)) (Host.cos (angles colNo)) (Host.cos (angles colNo))) := by
  rw [entry, keep_cos, first_cos]
theorem entry_sin (c : Dev nD) : V m c main_v44
    = tiled (beside (Host.negf (Host.sin (angles rowNo))) (Host.sin (angles rowNo)) (Host.negf (Host.sin (angles colNo))) (Host.sin (angles colNo))) := by
  rw [entry, keep_sin, first_sin]
/-- Two lanes' entry is one if they belong to the same head, else zero. -/
theorem one_head : ∀ k n : Fin 256, IntOp.cmpi .eq (BitVec.ofNat 32 (k.val / 64)) (BitVec.ofNat 32 (n.val / 64))
    = if k.val / 64 = n.val / 64 then 1#1 else 0#1 := by
  intro k n
  rcases Decidable.em (k.val / 64 = n.val / 64) with h | h
  · rw [if_pos h, h]; simp [IntOp.cmpi]
  · rw [if_neg h]
    have h' : BitVec.ofNat 32 (k.val / 64) ≠ BitVec.ofNat 32 (n.val / 64) := fun e => h (by
      have e' := congrArg BitVec.toNat e
      simp only [BitVec.toNat_ofNat] at e'
      omega)
    simp [IntOp.cmpi, beq_eq_false_iff_ne.mpr h']
theorem entry_seg (c : Dev nD) (k n : Fin 256) : V m c main_v54 (ix2 k n) = if k.val / 64 = n.val / 64 then (1 : EReal) else 0 := by
  rw [entry, fifth_seg, keep_head, second_head, fourth_head, divCol_apply _ _ (first_64 _) _ (first_lane _ _),
    divRow_apply _ _ (third_64 _) _ (third_lane _ _), one_head]
  split
  · show (((1#1).toNat : ℝ) : EReal) = 1
    simp
  · show (((0#1).toNat : ℝ) : EReal) = 0
    simp
/-- The lists before the last leave the gains alone. -/
theorem keep_gq : StableHlo.after hostOps0_3 (StableHlo.after hostOps0_2 (StableHlo.after hostOps0_1 (StableHlo.after hostOps0 σ))) (Proc.devRef .tc main_arg3)
    = σ (Proc.devRef .tc main_arg3) := by
  entry_read
  rfl
theorem keep_gk : StableHlo.after hostOps0_3 (StableHlo.after hostOps0_2 (StableHlo.after hostOps0_1 (StableHlo.after hostOps0 σ))) (Proc.devRef .tc main_arg4)
    = σ (Proc.devRef .tc main_arg4) := by
  entry_read
  rfl
theorem entry_gq (c : Dev nD) (n : Fin 256) : V m c main_v58 (ix2 0 n)
    = m ((c : Thread nD τ).loc main_arg3) (ix1 ⟨n.val % 64, Nat.mod_lt _ (by decide)⟩) := by
  rw [entry, fifth_gq, keep_gq]
theorem entry_gk (c : Dev nD) (n : Fin 256) : V m c main_v62 (ix2 0 n)
    = m ((c : Thread nD τ).loc main_arg4) (ix1 ⟨n.val % 64, Nat.mod_lt _ (by decide)⟩) := by
  rw [entry, fifth_gk, keep_gk]
end Cert.QkIdeal.Hand

end
-- ==== Proof.QkMath.lean ====
/- The queries' and keys' norm and rotation, as plain equations of one head's 64 lanes. -/
module

public import Idealize.ShloMosaic.Lib.Pipeline.ValueKit
public import Idealize.ShloMosaic.Lib.KernelVsHost

@[expose] public section

noncomputable section

namespace Cert.Proof.Qk

open Idealize.ShloMosaic

/-- A head's lane `d` after its root-mean-square norm, with that lane's gain. -/
def normed (v : Fin 64 → EReal) (g : EReal) (d : Fin 64) : EReal :=
  v d * Ideal.rsqrt (Ideal.div (∑ e, v e * v e) (Ideal.ofBits .f32 0x42800000#32) + Ideal.ofBits .f32 0x358637BD#32) * g

/-- The two halves of a head's lanes, each turned by its own sixteen angles. -/
def rotated (x : Fin 64 → EReal) (cr sr cc sc : Fin 16 → EReal) (d : Fin 64) : EReal :=
  if h : d.val < 16 then x d * cr ⟨d.val, h⟩ - x ⟨d.val + 16, by omega⟩ * sr ⟨d.val, h⟩
  else if h' : d.val < 32 then x ⟨d.val - 16, by omega⟩ * sr ⟨d.val - 16, by omega⟩ + x d * cr ⟨d.val - 16, by omega⟩
  else if h'' : d.val < 48 then x d * cc ⟨d.val - 32, by omega⟩ - x ⟨d.val + 16, by omega⟩ * sc ⟨d.val - 32, by omega⟩
  else x ⟨d.val - 16, by omega⟩ * sc ⟨d.val - 48, by omega⟩ + x d * cc ⟨d.val - 48, by omega⟩

/-- The lane a rotation takes the other coordinate from. -/
def partner (d : Fin 64) : Fin 64 := if h : d.val % 32 < 16 then ⟨d.val + 16, by omega⟩ else ⟨d.val - 16, by omega⟩

/-- Four tables of sixteen entries side by side. -/
def joined (a b c e : Fin 16 → EReal) (d : Fin 64) : EReal :=
  if h : d.val < 16 then a ⟨d.val, h⟩ else if h : d.val - 16 < 16 then b ⟨d.val - 16, h⟩
  else if h : d.val - 16 - 16 < 16 then c ⟨d.val - 16 - 16, h⟩ else e ⟨d.val - 16 - 16 - 16, by omega⟩

/-- The rotation as one product with the cosines and one of the partners with the signed sines. -/
theorem rotated_eq (x : Fin 64 → EReal) (cr sr cc sc : Fin 16 → EReal) (d : Fin 64) :
    x d * joined cr cr cc cc d + x (partner d) * joined (fun j => -sr j) sr (fun j => -sc j) sc d = rotated x cr sr cc sc d := by
  unfold joined rotated partner
  by_cases h1 : d.val < 16
  · have h : d.val % 32 < 16 := by omega
    simp only [dif_pos h1, dif_pos h, mul_neg, ← sub_eq_add_neg]
  · by_cases h2 : d.val < 32
    · have h : ¬ d.val % 32 < 16 := by omega
      have h' : d.val - 16 < 16 := by omega
      simp only [dif_neg h1, dif_pos h2, dif_neg h, dif_pos h']
      rw [add_comm]
    · have h' : ¬ d.val - 16 < 16 := by omega
      by_cases h3 : d.val < 48
      · have h : d.val % 32 < 16 := by omega
        have h'' : d.val - 16 - 16 < 16 := by omega
        simp only [dif_neg h1, dif_neg h2, dif_pos h3, dif_pos h, dif_neg h', dif_pos h'', mul_neg, ← sub_eq_add_neg]
        rfl
      · have h : ¬ d.val % 32 < 16 := by omega
        have h'' : ¬ d.val - 16 - 16 < 16 := by omega
        simp only [dif_neg h1, dif_neg h2, dif_neg h3, dif_neg h, dif_neg h', dif_neg h'']
        rw [add_comm]
        rfl

/-- A sum over the lanes of `H` heads, of which only one head's count, is that head's sum. -/
theorem sum_head {N : ℕ} (f s : Fin N → EReal) (h : ℕ) (hN : 64 * h + 64 ≤ N)
    (hs : ∀ k, s k = if k.val / 64 = h then (1 : EReal) else 0) :
    ∑ k, f k * s k = ∑ e : Fin 64, f ⟨64 * h + e.val, by omega⟩ := by
  simp only [hs, mul_ite, mul_one, mul_zero]
  rw [← Finset.sum_filter]
  refine Finset.sum_bij' (fun k _ => (⟨k.val % 64, Nat.mod_lt _ (by decide)⟩ : Fin 64)) (fun e _ => ⟨64 * h + e.val, by omega⟩) ?_ ?_ ?_ ?_ ?_
  · exact fun _ _ => Finset.mem_univ _
  · intro e _
    simp only [Finset.mem_filter, Finset.mem_univ, true_and]
    omega
  · intro k hk
    simp only [Finset.mem_filter, Finset.mem_univ, true_and] at hk
    exact Fin.ext (by show 64 * h + k.val % 64 = k.val; omega)
  · intro e _
    exact Fin.ext (by show (64 * h + e.val) % 64 = e.val; omega)
  · intro k hk
    simp only [Finset.mem_filter, Finset.mem_univ, true_and] at hk
    exact congrArg f (Fin.ext (by show k.val = 64 * h + k.val % 64; omega))

/-- What is left of a real number after its own rounding is nothing. -/
theorem rest_zero (x : EReal) (h : ∃ r : ℝ, x = r) : x * x - x * x = 0 := by
  obtain ⟨r, rfl⟩ := h
  rw [← EReal.coe_mul, ← EReal.coe_sub, sub_self, EReal.coe_zero]

/-- Multiplying by 1/64 is dividing by 64. -/
theorem mul_64th (x : EReal) : x * Ideal.ofBits .f32 0x3C800000#32 = Ideal.div x (Ideal.ofBits .f32 0x42800000#32) := by
  have a : Ideal.ofBits .f32 0x3C800000#32 = (((64 : ℝ)⁻¹ : ℝ) : EReal) := by
    simp [Ideal.ofBits, Ideal.ieee]; rw [← EReal.coe_mul]; norm_num
  have b : Ideal.ofBits .f32 0x42800000#32 = ((64 : ℝ) : EReal) := by
    simp [Ideal.ofBits, Ideal.ieee]; rw [← EReal.coe_mul]; norm_num
  rw [a, b, Ideal.div, if_neg (by norm_num), EReal.coe_inv]

/-- The kernel's norm: the squares in two roundings, each summed by a product with the array of heads. -/
theorem normed_eq {N : ℕ} (v s : Fin N → EReal) (g : EReal) (h : ℕ) (hN : 64 * h + 64 ≤ N) (hv : ∀ k, ∃ r : ℝ, v k = r)
    (hs : ∀ k, s k = if k.val / 64 = h then (1 : EReal) else 0) (d : Fin 64) :
    v ⟨64 * h + d.val, by omega⟩ * Ideal.rsqrt ((∑ k, v k * v k * s k + ∑ k, (v k * v k - v k * v k) * s k)
      * Ideal.ofBits .f32 0x3C800000#32 + Ideal.ofBits .f32 0x358637BD#32) * g
    = normed (fun e => v ⟨64 * h + e.val, by omega⟩) g d := by
  have hz : ∑ k, (v k * v k - v k * v k) * s k = 0 :=
    Finset.sum_eq_zero fun k _ => by rw [rest_zero _ (hv k), zero_mul]
  rw [hz, add_zero, sum_head (fun k => v k * v k) s h hN hs, mul_64th, normed]

/-- The rates of the sixteen angles of an axis. -/
def rate (j : Fin 16) : EReal :=
  Ideal.pow (Ideal.ofBits .f32 0x461C4000#32)
    (Ideal.div (-(Ideal.ofBits .f32 0x40000000#32 * FloatOps.sitofp (F := Ideal) .f32 (BitVec.ofNat 32 j.val))) (Ideal.ofBits .f32 0x42000000#32))

/-- A position's angles along its row of the grid, and along its column. -/
def rowAngle (l : Fin 4096) (j : Fin 16) : EReal := FloatOps.sitofp (F := Ideal) .f32 (BitVec.ofNat 32 (l.val / 64)) * rate j
@[inherit_doc rowAngle]
def colAngle (l : Fin 4096) (j : Fin 16) : EReal := FloatOps.sitofp (F := Ideal) .f32 (BitVec.ofNat 32 (l.val % 64)) * rate j

/-- Lane `d` of a head after norm and rotation, at position `l`. -/
def head (v g : Fin 64 → EReal) (l : Fin 4096) (d : Fin 64) : EReal :=
  rotated (fun e => normed v (g e) e) (fun j => Ideal.cos (rowAngle l j)) (fun j => Ideal.sin (rowAngle l j))
    (fun j => Ideal.cos (colAngle l j)) (fun j => Ideal.sin (colAngle l j)) d

/-- The tables of cosines and signed sines at a lane. -/
def cosines (l : Fin 4096) (d : Fin 64) : EReal :=
  joined (fun j => Ideal.cos (rowAngle l j)) (fun j => Ideal.cos (rowAngle l j)) (fun j => Ideal.cos (colAngle l j)) (fun j => Ideal.cos (colAngle l j)) d
@[inherit_doc cosines]
def sines (l : Fin 4096) (d : Fin 64) : EReal :=
  joined (fun j => -Ideal.sin (rowAngle l j)) (fun j => Ideal.sin (rowAngle l j)) (fun j => -Ideal.sin (colAngle l j)) (fun j => Ideal.sin (colAngle l j)) d

/-- A head from the tables. -/
theorem head_eq (v g : Fin 64 → EReal) (l : Fin 4096) (d : Fin 64) :
    normed v (g d) d * cosines l d + normed v (g (partner d)) (partner d) * sines l d = head v g l d :=
  rotated_eq (fun e => normed v (g e) e) _ _ _ _ d

end Cert.Proof.Qk

end
-- ==== Proof.QkBlock.lean ====
/- What one block of the queries' and keys' norm and rotation computes. -/
module

public import proofs.«01_k».proof.Proof.QkMath
public import proofs.«01_k».proof.Proof.Gen.QkIdeal.Value
public import Idealize.ShloMosaic.Lib.Pipeline.ValueKit
public import Idealize.ShloMosaic.Lib.Pipeline.Covers

@[expose] public section

set_option maxRecDepth 16384

noncomputable section

namespace Cert.QkIdeal.Hand

open Cert.QkIdeal Cert.QkIdeal.Gen Idealize.ShloMosaic Idealize.ShloMosaic.TcCoe Idealize.SL.Sem
open Cert.Proof

/-- Lane `d` of head `h` of the queries. -/
abbrev lane4 (h : Fin 4) (d : Fin 64) : Fin 256 := ⟨64 * h.val + d.val, by omega⟩
/-- Lane `d` of head `h` of the keys. -/
abbrev lane2 (h : Fin 2) (d : Fin 64) : Fin 128 := ⟨64 * h.val + d.val, by omega⟩

/-- The normalised queries at an entry. -/
theorem normq_apply (s : Vec Ideal S256x256 .bf16) (x : Vec Ideal S1x512x256 .f32) (g : Vec Ideal S1x256 .f32) (r : Fin 512)
    (hx : ∀ k, ∃ y : ℝ, x (ix3 0 r k) = y) (hs : ∀ k n : Fin 256, s (ix2 k n) = if k.val / 64 = n.val / 64 then (1 : EReal) else 0)
    (h : Fin 4) (d : Fin 64) :
    k0_pay9 s x g (ix2 r (lane4 h d)) = Qk.normed (fun e => x (ix3 0 r (lane4 h e))) (g (ix2 0 (lane4 h d))) d := by
  pointwise [k0_pay9, k0_pay8]
  refine Qk.normed_eq (fun k => x (ix3 0 r k)) (fun k => s (ix2 k (lane4 h d))) _ h.val (by omega) hx (fun k => ?_) d
  rw [hs, show (lane4 h d).val / 64 = h.val by show (64 * h.val + d.val) / 64 = h.val; omega]

/-- The normalised keys at an entry. -/
theorem normk_apply (s : Vec Ideal S256x256 .bf16) (x : Vec Ideal S1x512x128 .f32) (g : Vec Ideal S1x128 .f32) (r : Fin 512)
    (hx : ∀ k, ∃ y : ℝ, x (ix3 0 r k) = y) (hs : ∀ k n : Fin 256, s (ix2 k n) = if k.val / 64 = n.val / 64 then (1 : EReal) else 0)
    (h : Fin 2) (d : Fin 64) :
    k0_pay13 (k0_pay8 s) x g (ix2 r (lane2 h d)) = Qk.normed (fun e => x (ix3 0 r (lane2 h e))) (g (ix2 0 (lane2 h d))) d := by
  pointwise [k0_pay13, k0_pay8]
  refine Qk.normed_eq (fun k => x (ix3 0 r k)) (fun k => s (ix2 ⟨k.val, by omega⟩ ⟨(lane2 h d).val, by omega⟩)) _ h.val (by omega) hx (fun k => ?_) d
  rw [hs]
  show (if k.val / 64 = (64 * h.val + d.val) / 64 then (1 : EReal) else 0) = _
  rw [show (64 * h.val + d.val) / 64 = h.val by omega]

/-- The lanes' numbers modulo 32. -/
theorem mod_apply (r : Fin 512) (n : Fin 256) : k0_pay10 (ix2 r n) = BitVec.ofNat 32 (n.val % 32) := by
  pointwise [k0_pay10]
  revert n
  decide +kernel

/-- Choosing by the lane's place in its half. -/
theorem choose (n : Fin 256) (a b : EReal) :
    Scalar.select (IntOp.cmpi .slt (BitVec.ofNat 32 (n.val % 32)) 16#32) a b = if n.val % 32 < 16 then a else b := by
  have h : ∀ n : Fin 32, IntOp.cmpi .slt (BitVec.ofNat 32 n.val) 16#32 = if n.val < 16 then 1#1 else 0#1 := by decide +kernel
  rw [h ⟨n.val % 32, Nat.mod_lt _ (by decide)⟩]
  by_cases h' : n.val % 32 < 16
  · simp [Scalar.select, h']
  · simp [Scalar.select, h']

/-- The rotated queries at an entry. -/
theorem ropeq_apply (x : FVec Ideal S512x256 .f32) (a b : Vec Ideal S512x256 .f32) (r : Fin 512) (h : Fin 4) (d : Fin 64) :
    k0_pay12 x k0_pay10 k0_pay11 a b (ix2 r (lane4 h d))
      = (x (ix2 r (lane4 h d)) * a (ix2 r (lane4 h d)) + x (ix2 r (lane4 h (Qk.partner d))) * b (ix2 r (lane4 h d)))
        * Ideal.ofBits .f32 0x3E000000#32 := by
  pointwise [k0_pay12, k0_pay11]
  rw [mod_apply, choose]
  congr 3
  unfold Qk.partner
  have e : (lane4 h d).val % 32 = d.val % 32 := by show (64 * h.val + d.val) % 32 = d.val % 32; omega
  by_cases h' : d.val % 32 < 16
  · rw [if_pos (e.trans_lt h'), dif_pos h']
    exact congrArg (fun n => x (ix2 r n)) (Fin.ext (by show (64 * h.val + d.val + 256 - 240) % 256 = 64 * h.val + (d.val + 16); omega))
  · rw [if_neg (e ▸ h'), dif_neg h']
    exact congrArg (fun n => x (ix2 r n)) (Fin.ext (by show (64 * h.val + d.val + 256 - 16) % 256 = 64 * h.val + (d.val - 16); omega))

/-- The lanes' numbers modulo 32, as the keys' part writes them. -/
theorem mod_key : ∀ n : Fin 128,
    Scalar.select (IntOp.andi (IntOp.xori (IntOp.cmpi .slt (IntOp.remsi ArithUnit.vector (BitVec.ofNat 32 n.val) (Scalar.select (Scalar.cmpi CmpIPredicate.eq 32#32 0#32) 1#32 32#32)) 0#32)
        (Scalar.cmpi .slt (Scalar.select (Scalar.cmpi CmpIPredicate.eq 32#32 0#32) 1#32 32#32) 0#32))
        (IntOp.cmpi .ne (IntOp.remsi ArithUnit.vector (BitVec.ofNat 32 n.val) (Scalar.select (Scalar.cmpi CmpIPredicate.eq 32#32 0#32) 1#32 32#32)) 0#32))
      (IntOp.addi (IntOp.remsi ArithUnit.vector (BitVec.ofNat 32 n.val) (Scalar.select (Scalar.cmpi CmpIPredicate.eq 32#32 0#32) 1#32 32#32)) (Scalar.select (Scalar.cmpi CmpIPredicate.eq 32#32 0#32) 1#32 32#32))
      (IntOp.remsi ArithUnit.vector (BitVec.ofNat 32 n.val) (Scalar.select (Scalar.cmpi CmpIPredicate.eq 32#32 0#32) 1#32 32#32))
    = BitVec.ofNat 32 (n.val % 32) := by decide +kernel

/-- The rotated keys at an entry. -/
theorem ropek_apply (x : FVec Ideal S512x128 .f32) (a b : Vec Ideal S512x128 .f32) (r : Fin 512) (h : Fin 2) (d : Fin 64) :
    k0_pay15 x (Scalar.select (Scalar.cmpi CmpIPredicate.eq 32#32 0#32) 1#32 32#32) k0_pay14 a b (ix2 r (lane2 h d))
      = x (ix2 r (lane2 h d)) * a (ix2 r (lane2 h d)) + x (ix2 r (lane2 h (Qk.partner d))) * b (ix2 r (lane2 h d)) := by
  pointwise [k0_pay15, k0_pay14]
  rw [mod_key (lane2 h d)]
  refine congrArg (_ + ·) (congrArg (· * _) ((choose ⟨(lane2 h d).val, by omega⟩ _ _).trans ?_))
  unfold Qk.partner
  have e : (lane2 h d).val % 32 = d.val % 32 := by show (64 * h.val + d.val) % 32 = d.val % 32; omega
  by_cases h' : d.val % 32 < 16
  · rw [if_pos (e.trans_lt h'), dif_pos h']
    exact congrArg (fun n => x (ix2 r n)) (Fin.ext (by show (64 * h.val + d.val + 128 - 112) % 128 = 64 * h.val + (d.val + 16); omega))
  · rw [if_neg (e ▸ h'), dif_neg h']
    exact congrArg (fun n => x (ix2 r n)) (Fin.ext (by show (64 * h.val + d.val + 128 - 16) % 128 = 64 * h.val + (d.val - 16); omega))

section Block

variable (s : Vec Ideal S256x256 .bf16) (r : Fin 512) (l : Fin 4096) (G : Fin 64 → EReal)
  (hs : ∀ k n : Fin 256, s (ix2 k n) = if k.val / 64 = n.val / 64 then (1 : EReal) else 0)
include hs

/-- A block's queries: each head's lanes normalised, rotated and scaled. -/
theorem blockq (x : Vec Ideal S1x512x256 .f32) (g : Vec Ideal S1x256 .f32) (a b : Vec Ideal S512x256 .f32)
    (hx : ∀ k, ∃ y : ℝ, x (ix3 0 r k) = y)
    (hg : ∀ n : Fin 256, g (ix2 0 n) = G ⟨n.val % 64, Nat.mod_lt _ (by decide)⟩)
    (ha : ∀ n : Fin 256, a (ix2 r n) = Qk.cosines l ⟨n.val % 64, Nat.mod_lt _ (by decide)⟩)
    (hb : ∀ n : Fin 256, b (ix2 r n) = Qk.sines l ⟨n.val % 64, Nat.mod_lt _ (by decide)⟩) (h : Fin 4) (d : Fin 64) :
    k0_pay12 (k0_pay9 s x g) k0_pay10 k0_pay11 a b (ix2 r (lane4 h d))
      = Qk.head (fun e => x (ix3 0 r (lane4 h e))) G l d * Ideal.ofBits .f32 0x3E000000#32 := by
  have e : ∀ d : Fin 64, (⟨(lane4 h d).val % 64, Nat.mod_lt _ (by decide)⟩ : Fin 64) = d := fun d =>
    Fin.ext (by show (64 * h.val + d.val) % 64 = d.val; omega)
  rw [ropeq_apply, normq_apply s x g r hx hs, normq_apply s x g r hx hs, hg, hg, ha, hb, e, e, Qk.head_eq]

/-- A block's keys: each head's lanes normalised and rotated. -/
theorem blockk (x : Vec Ideal S1x512x128 .f32) (g : Vec Ideal S1x128 .f32) (a b : Vec Ideal S512x128 .f32)
    (hx : ∀ k, ∃ y : ℝ, x (ix3 0 r k) = y)
    (hg : ∀ n : Fin 128, g (ix2 0 n) = G ⟨n.val % 64, Nat.mod_lt _ (by decide)⟩)
    (ha : ∀ n : Fin 128, a (ix2 r n) = Qk.cosines l ⟨n.val % 64, Nat.mod_lt _ (by decide)⟩)
    (hb : ∀ n : Fin 128, b (ix2 r n) = Qk.sines l ⟨n.val % 64, Nat.mod_lt _ (by decide)⟩) (h : Fin 2) (d : Fin 64) :
    k0_pay15 (k0_pay13 (k0_pay8 s) x g) (Scalar.select (Scalar.cmpi CmpIPredicate.eq 32#32 0#32) 1#32 32#32) k0_pay14 a b (ix2 r (lane2 h d))
      = Qk.head (fun e => x (ix3 0 r (lane2 h e))) G l d := by
  have e : ∀ d : Fin 64, (⟨(lane2 h d).val % 64, Nat.mod_lt _ (by decide)⟩ : Fin 64) = d := fun d =>
    Fin.ext (by show (64 * h.val + d.val) % 64 = d.val; omega)
  rw [ropek_apply, normk_apply s x g r hx hs, normk_apply s x g r hx hs, hg, hg, ha, hb, e, e, Qk.head_eq]

end Block

/-- The keys' two heads, one after the other. -/
def heads2 (K : FVec Ideal S512x128 .bf16) : Vec Ideal S1x2x512x64 .bf16 := fun y => K (ix2 (y 2) (lane2 (y 1) (y 3)))

theorem piece_first (K : FVec Ideal S512x128 .bf16) (y : S1x1x512x64.Idx) : k0_pay4 K y = heads2 K (r0_11.idx y) := by
  idx_vars y
  pointwise [k0_pay4]
  refine congrArg K ?_
  funext a
  match a with
  | ⟨0, _⟩ => rfl
  | ⟨1, _⟩ => exact Fin.ext (by show y3.val = 64 * 0 + y3.val; omega)

theorem piece_second (K : FVec Ideal S512x128 .bf16) (y : S1x1x512x64.Idx) : k0_pay6 K y = heads2 K (r0_12.idx y) := by
  idx_vars y
  pointwise [k0_pay6]
  refine congrArg K ?_
  funext a
  match a with
  | ⟨0, _⟩ => rfl
  | ⟨1, _⟩ => exact Fin.ext (by show 64 + y3.val = 64 * 1 + y3.val; omega)

/-- The block the two stores leave. -/
theorem canon2 (K : FVec Ideal S512x128 .bf16) (y : S1x2x512x64.Idx) :
    View.canon [⟨r0_12, k0_pay6 K⟩, ⟨r0_11, k0_pay4 K⟩] y = heads2 K y := by
  refine View.canon_apply_of_pieces (heads2 K) _ ?_ y (cover0_9 _ _ y)
  intro pc hpc
  rcases List.mem_cons.mp hpc with rfl | hpc
  · exact fun x => piece_second K x
  rcases List.mem_cons.mp hpc with rfl | hpc
  · exact fun x => piece_first K x
  nomatch hpc

end Cert.QkIdeal.Hand

end
-- ==== Proof.QkRef.lean ====
/- What the plain norm and rotation compute, entry by entry: a head's 64 lanes are normalised, and each half of them is
   turned by sixteen angles, the first half by the position's row of the grid and the second by its column. -/
module

public import proofs.«01_k».proof.Proof.Gen.QkRefIdeal.Run
public import proofs.«01_k».proof.Proof.QkMath

@[expose] public section

set_option maxRecDepth 16384

noncomputable section

namespace Cert.QkRefIdeal.Hand

open Cert.QkRefIdeal Cert.QkRefIdeal.Gen Idealize.ShloMosaic Idealize.ShloMosaic.TcCoe Idealize.SL.Sem
open Cert.Proof

/-- The angles of an axis at each position. -/
def anglesOf (p : FVec Ideal S4096 .f32) : FVec Ideal S4096x1x16 .f32 :=
  broadcastInDim S4096x1x16 ![0, 2] bcast_S4096x16_S4096x1x16_0_2
    (mulf (broadcastInDim S4096x16 ![0, 1] bcast_S4096x1_S4096x16_0_1 (broadcastInDim S4096x1 ![0] bcast_S4096_S4096x1_0 p))
      (broadcastInDim S4096x16 ![0, 1] bcast_S1x16_S4096x16_0_1 (broadcastInDim S1x16 ![1] bcast_S16_S1x16_1
        (Host.powf (broadcastInDim S16 ![] bcast_S_S16 (constant S_ .f32 0x461C4000#32))
          (Host.divf (Host.negf (addf (broadcastInDim S16 ![] bcast_S_S16 (constant S_ .f32 0x00000000#32))
              (mulf (broadcastInDim S16 ![] bcast_S_S16 (constant S_ .f32 0x40000000#32)) (sitofp .f32 (iotaInDim S16 32 0)))))
            (broadcastInDim S16 ![] bcast_S_S16 (constant S_ .f32 0x42000000#32)))))))

/-- The rows' angles and the columns'. -/
def rowAngles : FVec Ideal S4096x1x16 .f32 :=
  anglesOf (shapeCast _ (broadcastInDim S64x64 ![0] bcast_S64_S64x64_0 (sitofp .f32 (iotaInDim S64 32 0))) shapeCasts_S64x64_S4096)
@[inherit_doc rowAngles]
def colAngles : FVec Ideal S4096x1x16 .f32 :=
  anglesOf (shapeCast _ (broadcastInDim S64x64 ![0, 1] bcast_S1x64_S64x64_0_1 (shapeCast _ (sitofp .f32 (iotaInDim S64 32 0)) shapeCasts_S64_S1x64)) shapeCasts_S64x64_S4096)

theorem rowAngles_apply (l : Fin 4096) (j : Fin 16) : rowAngles (ix3 l 0 j) = Qk.rowAngle l j := by
  pointwise [rowAngles, anglesOf]
  rfl
theorem colAngles_apply (l : Fin 4096) (j : Fin 16) : colAngles (ix3 l 0 j) = Qk.colAngle l j := by
  pointwise [colAngles, anglesOf]
  rfl

section Query

variable (u : FVec Ideal S8x4096x256 .f32) (g : FVec Ideal S64 .f32)

/-- The heads' lanes after the norm. -/
def norm4 : FVec Ideal S8x4096x4x64 .f32 :=
  mulf (mulf (shapeCast _ u shapeCasts_S8x4096x256_S8x4096x4x64)
      (broadcastInDim S8x4096x4x64 ![0, 1, 2, 3] bcast_S8x4096x4x1_S8x4096x4x64_0_1_2_3
        (Host.rsqrt (addf (Host.divf (broadcastInDim S8x4096x4x1 ![0, 1, 2] bcast_S8x4096x4_S8x4096x4x1_0_1_2
            (Host.reduceAdd (mulf (shapeCast _ u shapeCasts_S8x4096x256_S8x4096x4x64) (shapeCast _ u shapeCasts_S8x4096x256_S8x4096x4x64))
              (constant S_ .f32 0x00000000#32) reducesTo_S8x4096x4x64_S8x4096x4_d3 h_S_))
            (broadcastInDim S8x4096x4x1 ![] bcast_S_S8x4096x4x1 (constant S_ .f32 0x42800000#32)))
          (broadcastInDim S8x4096x4x1 ![] bcast_S_S8x4096x4x1 (constant S_ .f32 0x358637BD#32))))))
    (broadcastInDim S8x4096x4x64 ![0, 1, 2, 3] bcast_S1x1x1x64_S8x4096x4x64_0_1_2_3 (broadcastInDim S1x1x1x64 ![3] bcast_S64_S1x1x1x64_3 g))

/-- Half of the heads' lanes turned by the angles `p`. -/
def turn4 (x : FVec Ideal S8x4096x4x32 .f32) (p : FVec Ideal S4096x1x16 .f32) : FVec Ideal S8x4096x4x32 .f32 :=
  concatenate S8x4096x4x32 3 [⟨S8x4096x4x16,
      subf (mulf (extractStridedSlice S8x4096x4x16 ![0, 0, 0, 0] x slices_S8x4096x4x32_S8x4096x4x16_0_0_0_0)
          (broadcastInDim S8x4096x4x16 ![0, 1, 2, 3] bcast_S1x4096x1x16_S8x4096x4x16_0_1_2_3 (broadcastInDim S1x4096x1x16 ![1, 2, 3] bcast_S4096x1x16_S1x4096x1x16_1_2_3 (Host.cos p))))
        (mulf (extractStridedSlice S8x4096x4x16 ![0, 0, 0, 16] x slices_S8x4096x4x32_S8x4096x4x16_0_0_0_16)
          (broadcastInDim S8x4096x4x16 ![0, 1, 2, 3] bcast_S1x4096x1x16_S8x4096x4x16_0_1_2_3 (broadcastInDim S1x4096x1x16 ![1, 2, 3] bcast_S4096x1x16_S1x4096x1x16_1_2_3 (Host.sin p))))⟩,
    ⟨S8x4096x4x16,
      addf (mulf (extractStridedSlice S8x4096x4x16 ![0, 0, 0, 0] x slices_S8x4096x4x32_S8x4096x4x16_0_0_0_0)
          (broadcastInDim S8x4096x4x16 ![0, 1, 2, 3] bcast_S1x4096x1x16_S8x4096x4x16_0_1_2_3 (broadcastInDim S1x4096x1x16 ![1, 2, 3] bcast_S4096x1x16_S1x4096x1x16_1_2_3 (Host.sin p))))
        (mulf (extractStridedSlice S8x4096x4x16 ![0, 0, 0, 16] x slices_S8x4096x4x32_S8x4096x4x16_0_0_0_16)
          (broadcastInDim S8x4096x4x16 ![0, 1, 2, 3] bcast_S1x4096x1x16_S8x4096x4x16_0_1_2_3 (broadcastInDim S1x4096x1x16 ![1, 2, 3] bcast_S4096x1x16_S1x4096x1x16_1_2_3 (Host.cos p))))⟩]
    concatenates_S8x4096x4x16_S8x4096x4x16_S8x4096x4x32_d3

/-- Both halves turned. -/
def both4 (x : FVec Ideal S8x4096x4x64 .f32) : FVec Ideal S8x4096x4x64 .f32 :=
  concatenate S8x4096x4x64 3
    [⟨S8x4096x4x32, turn4 (extractStridedSlice S8x4096x4x32 ![0, 0, 0, 0] x slices_S8x4096x4x64_S8x4096x4x32_0_0_0_0) rowAngles⟩,
      ⟨S8x4096x4x32, turn4 (extractStridedSlice S8x4096x4x32 ![0, 0, 0, 32] x slices_S8x4096x4x64_S8x4096x4x32_0_0_0_32) colAngles⟩]
    concatenates_S8x4096x4x32_S8x4096x4x32_S8x4096x4x64_d3

theorem norm4_apply (b : Fin 8) (l : Fin 4096) (h : Fin 4) (d : Fin 64) :
    norm4 u g (ix4 b l h d) = Qk.normed (fun e => u (ix3 b l ⟨64 * h.val + e.val, by omega⟩)) (g (ix1 d)) d := by
  pointwise [norm4]
  simp only [Nat.mul_comm h.val 64]
  rfl

theorem turn4_apply (x : FVec Ideal S8x4096x4x32 .f32) (p : FVec Ideal S4096x1x16 .f32) (b : Fin 8) (l : Fin 4096) (h : Fin 4) (d : Fin 32) :
    turn4 x p (ix4 b l h d)
      = if hd : d.val < 16 then x (ix4 b l h d) * Ideal.cos (p (ix3 l 0 ⟨d.val, hd⟩)) - x (ix4 b l h ⟨d.val + 16, by omega⟩) * Ideal.sin (p (ix3 l 0 ⟨d.val, hd⟩))
        else x (ix4 b l h ⟨d.val - 16, by omega⟩) * Ideal.sin (p (ix3 l 0 ⟨d.val - 16, by omega⟩)) + x (ix4 b l h d) * Ideal.cos (p (ix3 l 0 ⟨d.val - 16, by omega⟩)) := by
  pointwise [turn4]
  by_cases hd : d.val < 16
  · simp only [dif_pos hd, Nat.add_comm 16 d.val]
  · simp only [dif_neg hd, show 16 + (d.val - 16) = d.val by omega, Fin.eta]

theorem both4_apply (x : FVec Ideal S8x4096x4x64 .f32) (b : Fin 8) (l : Fin 4096) (h : Fin 4) (d : Fin 64) :
    both4 x (ix4 b l h d) = Qk.rotated (fun e => x (ix4 b l h e)) (fun j => Ideal.cos (Qk.rowAngle l j)) (fun j => Ideal.sin (Qk.rowAngle l j))
      (fun j => Ideal.cos (Qk.colAngle l j)) (fun j => Ideal.sin (Qk.colAngle l j)) d := by
  pointwise [both4]
  unfold Qk.rotated
  by_cases h1 : d.val < 32
  · rw [dif_pos h1, turn4_apply]
    simp only [rowAngles_apply]
    by_cases h : d.val < 16
    · rw [dif_pos h, dif_pos h]
      pointwise
    · rw [dif_neg h, dif_neg h, dif_pos h1]
      pointwise
  · rw [dif_neg h1, turn4_apply]
    simp only [colAngles_apply]
    rw [dif_neg (by omega : ¬ d.val < 16), dif_neg h1]
    by_cases h : d.val - 32 < 16
    · rw [dif_pos h, dif_pos (by omega : d.val < 48)]
      pointwise
      simp only [show 32 + (d.val - 32) = d.val by omega, show 32 + (d.val - 32 + 16) = d.val + 16 by omega, Fin.eta]
    · rw [dif_neg h, dif_neg (by omega : ¬ d.val < 48)]
      pointwise
      simp only [show 32 + (d.val - 32) = d.val by omega, show d.val - 32 - 16 = d.val - 48 by omega,
        show 32 + (d.val - 48) = d.val - 16 by omega, Fin.eta]

end Query

section Key

variable (u : FVec Ideal S8x4096x128 .f32) (g : FVec Ideal S64 .f32)

/-- The heads' lanes after the norm. -/
def norm2 : FVec Ideal S8x4096x2x64 .f32 :=
  mulf (mulf (shapeCast _ u shapeCasts_S8x4096x128_S8x4096x2x64)
      (broadcastInDim S8x4096x2x64 ![0, 1, 2, 3] bcast_S8x4096x2x1_S8x4096x2x64_0_1_2_3
        (Host.rsqrt (addf (Host.divf (broadcastInDim S8x4096x2x1 ![0, 1, 2] bcast_S8x4096x2_S8x4096x2x1_0_1_2
            (Host.reduceAdd (mulf (shapeCast _ u shapeCasts_S8x4096x128_S8x4096x2x64) (shapeCast _ u shapeCasts_S8x4096x128_S8x4096x2x64))
              (constant S_ .f32 0x00000000#32) reducesTo_S8x4096x2x64_S8x4096x2_d3 h_S_))
            (broadcastInDim S8x4096x2x1 ![] bcast_S_S8x4096x2x1 (constant S_ .f32 0x42800000#32)))
          (broadcastInDim S8x4096x2x1 ![] bcast_S_S8x4096x2x1 (constant S_ .f32 0x358637BD#32))))))
    (broadcastInDim S8x4096x2x64 ![0, 1, 2, 3] bcast_S1x1x1x64_S8x4096x2x64_0_1_2_3 (broadcastInDim S1x1x1x64 ![3] bcast_S64_S1x1x1x64_3 g))

/-- Half of the heads' lanes turned by the angles `p`. -/
def turn2 (x : FVec Ideal S8x4096x2x32 .f32) (p : FVec Ideal S4096x1x16 .f32) : FVec Ideal S8x4096x2x32 .f32 :=
  concatenate S8x4096x2x32 3 [⟨S8x4096x2x16,
      subf (mulf (extractStridedSlice S8x4096x2x16 ![0, 0, 0, 0] x slices_S8x4096x2x32_S8x4096x2x16_0_0_0_0)
          (broadcastInDim S8x4096x2x16 ![0, 1, 2, 3] bcast_S1x4096x1x16_S8x4096x2x16_0_1_2_3 (broadcastInDim S1x4096x1x16 ![1, 2, 3] bcast_S4096x1x16_S1x4096x1x16_1_2_3 (Host.cos p))))
        (mulf (extractStridedSlice S8x4096x2x16 ![0, 0, 0, 16] x slices_S8x4096x2x32_S8x4096x2x16_0_0_0_16)
          (broadcastInDim S8x4096x2x16 ![0, 1, 2, 3] bcast_S1x4096x1x16_S8x4096x2x16_0_1_2_3 (broadcastInDim S1x4096x1x16 ![1, 2, 3] bcast_S4096x1x16_S1x4096x1x16_1_2_3 (Host.sin p))))⟩,
    ⟨S8x4096x2x16,
      addf (mulf (extractStridedSlice S8x4096x2x16 ![0, 0, 0, 0] x slices_S8x4096x2x32_S8x4096x2x16_0_0_0_0)
          (broadcastInDim S8x4096x2x16 ![0, 1, 2, 3] bcast_S1x4096x1x16_S8x4096x2x16_0_1_2_3 (broadcastInDim S1x4096x1x16 ![1, 2, 3] bcast_S4096x1x16_S1x4096x1x16_1_2_3 (Host.sin p))))
        (mulf (extractStridedSlice S8x4096x2x16 ![0, 0, 0, 16] x slices_S8x4096x2x32_S8x4096x2x16_0_0_0_16)
          (broadcastInDim S8x4096x2x16 ![0, 1, 2, 3] bcast_S1x4096x1x16_S8x4096x2x16_0_1_2_3 (broadcastInDim S1x4096x1x16 ![1, 2, 3] bcast_S4096x1x16_S1x4096x1x16_1_2_3 (Host.cos p))))⟩]
    concatenates_S8x4096x2x16_S8x4096x2x16_S8x4096x2x32_d3

/-- Both halves turned. -/
def both2 (x : FVec Ideal S8x4096x2x64 .f32) : FVec Ideal S8x4096x2x64 .f32 :=
  concatenate S8x4096x2x64 3
    [⟨S8x4096x2x32, turn2 (extractStridedSlice S8x4096x2x32 ![0, 0, 0, 0] x slices_S8x4096x2x64_S8x4096x2x32_0_0_0_0) rowAngles⟩,
      ⟨S8x4096x2x32, turn2 (extractStridedSlice S8x4096x2x32 ![0, 0, 0, 32] x slices_S8x4096x2x64_S8x4096x2x32_0_0_0_32) colAngles⟩]
    concatenates_S8x4096x2x32_S8x4096x2x32_S8x4096x2x64_d3

theorem norm2_apply (b : Fin 8) (l : Fin 4096) (h : Fin 2) (d : Fin 64) :
    norm2 u g (ix4 b l h d) = Qk.normed (fun e => u (ix3 b l ⟨64 * h.val + e.val, by omega⟩)) (g (ix1 d)) d := by
  pointwise [norm2]
  simp only [Nat.mul_comm h.val 64]
  rfl

theorem turn2_apply (x : FVec Ideal S8x4096x2x32 .f32) (p : FVec Ideal S4096x1x16 .f32) (b : Fin 8) (l : Fin 4096) (h : Fin 2) (d : Fin 32) :
    turn2 x p (ix4 b l h d)
      = if hd : d.val < 16 then x (ix4 b l h d) * Ideal.cos (p (ix3 l 0 ⟨d.val, hd⟩)) - x (ix4 b l h ⟨d.val + 16, by omega⟩) * Ideal.sin (p (ix3 l 0 ⟨d.val, hd⟩))
        else x (ix4 b l h ⟨d.val - 16, by omega⟩) * Ideal.sin (p (ix3 l 0 ⟨d.val - 16, by omega⟩)) + x (ix4 b l h d) * Ideal.cos (p (ix3 l 0 ⟨d.val - 16, by omega⟩)) := by
  pointwise [turn2]
  by_cases hd : d.val < 16
  · simp only [dif_pos hd, Nat.add_comm 16 d.val]
  · simp only [dif_neg hd, show 16 + (d.val - 16) = d.val by omega, Fin.eta]

theorem both2_apply (x : FVec Ideal S8x4096x2x64 .f32) (b : Fin 8) (l : Fin 4096) (h : Fin 2) (d : Fin 64) :
    both2 x (ix4 b l h d) = Qk.rotated (fun e => x (ix4 b l h e)) (fun j => Ideal.cos (Qk.rowAngle l j)) (fun j => Ideal.sin (Qk.rowAngle l j))
      (fun j => Ideal.cos (Qk.colAngle l j)) (fun j => Ideal.sin (Qk.colAngle l j)) d := by
  pointwise [both2]
  unfold Qk.rotated
  by_cases h1 : d.val < 32
  · rw [dif_pos h1, turn2_apply]
    simp only [rowAngles_apply]
    by_cases h : d.val < 16
    · rw [dif_pos h, dif_pos h]
      pointwise
    · rw [dif_neg h, dif_neg h, dif_pos h1]
      pointwise
  · rw [dif_neg h1, turn2_apply]
    simp only [colAngles_apply]
    rw [dif_neg (by omega : ¬ d.val < 16), dif_neg h1]
    by_cases h : d.val - 32 < 16
    · rw [dif_pos h, dif_pos (by omega : d.val < 48)]
      pointwise
      simp only [show 32 + (d.val - 32) = d.val by omega, show 32 + (d.val - 32 + 16) = d.val + 16 by omega, Fin.eta]
    · rw [dif_neg h, dif_neg (by omega : ¬ d.val < 48)]
      pointwise
      simp only [show 32 + (d.val - 32) = d.val by omega, show d.val - 32 - 16 = d.val - 48 by omega,
        show 32 + (d.val - 48) = d.val - 16 by omega, Fin.eta]

end Key

/-- The queries: normalised, turned, scaled, heads before positions. -/
def query (u : FVec Ideal S8x4096x256 .f32) (g : FVec Ideal S64 .f32) : FVec Ideal S8x4x4096x64 .bf16 :=
  truncf .bf16 (transpose S8x4x4096x64 [0, 2, 1, 3]
    (mulf (both4 (norm4 u g)) (broadcastInDim S8x4096x4x64 ![] bcast_S_S8x4096x4x64 (constant S_ .f32 0x3E000000#32)))
    transposes_S8x4096x4x64_S8x4x4096x64_0_2_1_3) bitsLt_bf16_f32

/-- The keys, the same without the scale. -/
def key (u : FVec Ideal S8x4096x128 .f32) (g : FVec Ideal S64 .f32) : FVec Ideal S8x2x4096x64 .bf16 :=
  truncf .bf16 (transpose S8x2x4096x64 [0, 2, 1, 3] (both2 (norm2 u g)) transposes_S8x4096x2x64_S8x2x4096x64_0_2_1_3) bitsLt_bf16_f32

/-- The values, which only change their layout. -/
def value (u : FVec Ideal S8x4096x128 .f32) : FVec Ideal S8x2x4096x64 .bf16 :=
  truncf .bf16 (transpose S8x2x4096x64 [0, 2, 1, 3] (shapeCast _ u shapeCasts_S8x4096x128_S8x4096x2x64) transposes_S8x4096x2x64_S8x2x4096x64_0_2_1_3) bitsLt_bf16_f32

theorem query_apply (u : FVec Ideal S8x4096x256 .f32) (g : FVec Ideal S64 .f32) (b : Fin 8) (h : Fin 4) (l : Fin 4096) (d : Fin 64) :
    query u g (ix4 b h l d)
      = Qk.head (fun e => u (ix3 b l ⟨64 * h.val + e.val, by omega⟩)) (fun e => g (ix1 e)) l d * Ideal.ofBits .f32 0x3E000000#32 := by
  pointwise [query]
  rw [both4_apply]
  simp only [norm4_apply]
  rfl

theorem key_apply (u : FVec Ideal S8x4096x128 .f32) (g : FVec Ideal S64 .f32) (b : Fin 8) (h : Fin 2) (l : Fin 4096) (d : Fin 64) :
    key u g (ix4 b h l d) = Qk.head (fun e => u (ix3 b l ⟨64 * h.val + e.val, by omega⟩)) (fun e => g (ix1 e)) l d := by
  pointwise [key]
  rw [both2_apply]
  simp only [norm2_apply]
  rfl

theorem value_apply (u : FVec Ideal S8x4096x128 .f32) (b : Fin 8) (h : Fin 2) (l : Fin 4096) (d : Fin 64) :
    value u (ix4 b h l d) = u (ix3 b l ⟨64 * h.val + d.val, by omega⟩) := by
  pointwise [value]
  simp only [Nat.mul_comm h.val 64]

variable (m : (ℓ : Loc nD τ sig) → Buf (Elt Ideal) ℓ) (c : Dev nD)

/-- The reference's results are these. -/
theorem res_query : Value.res_main_v139 m c = query (m ((c.tc : Thread nD τ).loc main_arg0)) (m ((c.tc : Thread nD τ).loc main_arg3)) := by
  rfl
theorem res_key : Value.res_main_v141 m c = key (m ((c.tc : Thread nD τ).loc main_arg1)) (m ((c.tc : Thread nD τ).loc main_arg4)) := by
  rfl

end Cert.QkRefIdeal.Hand

end
-- ==== Proof.QkOut.lean ====
/- What the queries' and keys' norm and rotation leaves in its three result arrays. -/
module

public import proofs.«01_k».proof.Proof.QkTables
public import proofs.«01_k».proof.Proof.QkBlock
public import proofs.«01_k».proof.Proof.QkRef

@[expose] public section

set_option maxRecDepth 16384

noncomputable section

namespace Cert.QkIdeal.Hand

open Cert.QkIdeal Cert.QkIdeal.Gen Idealize.ShloMosaic Idealize.ShloMosaic.TcCoe Idealize.SL.Sem
open Idealize.ShloMosaic.Pipeline (Dat)
open Cert.Proof

variable (m : (ℓ : Loc nD τ sig) → Buf (Elt Ideal) ℓ)

theorem rowAngle_apply (l : Fin 4096) (j : Fin 16) : angles rowNo (ix2 l j) = Qk.rowAngle l j := by
  pointwise [angles, rowNo, rates]
  rfl
theorem colAngle_apply (l : Fin 4096) (j : Fin 16) : angles colNo (ix2 l j) = Qk.colAngle l j := by
  pointwise [angles, colNo, rates]
  rfl

/-- The tables at a lane. -/
theorem cos_apply (c : Dev nD) (l : Fin 4096) (n : Fin 256) :
    V m c main_v41 (ix2 l n) = Qk.cosines l ⟨n.val % 64, Nat.mod_lt _ (by decide)⟩ := by
  rw [entry_cos, tiled_apply, beside_apply, Qk.cosines, Qk.joined]
  pointwise
  simp only [rowAngle_apply, colAngle_apply]
theorem sin_apply (c : Dev nD) (l : Fin 4096) (n : Fin 256) :
    V m c main_v44 (ix2 l n) = Qk.sines l ⟨n.val % 64, Nat.mod_lt _ (by decide)⟩ := by
  rw [entry_sin, tiled_apply, beside_apply, Qk.sines, Qk.joined]
  pointwise
  simp only [rowAngle_apply, colAngle_apply]

/-- The windows' block indices at a point: batch the first coordinate, row block the second. -/
theorem idx : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![0, 0] ∧ win0_4.index t = ![0, 0]
    ∧ win0_5.index t = ![(grid0.coords t 1).val, 0] ∧ win0_6.index t = ![(grid0.coords t 1).val, 0]
    ∧ win0_7.index t = ![0, 0]
    ∧ win0_8.index t = ![(grid0.coords t 0).val, 0, (grid0.coords t 1).val, 0]
    ∧ win0_9.index t = ![(grid0.coords t 0).val, 0, (grid0.coords t 1).val, 0]
    ∧ win0_10.index t = ![(grid0.coords t 0).val, 0, (grid0.coords t 1).val, 0] := by decide +kernel

theorem read_gq (c : Dev nD) (t : Fin cfg0.N) (n : Fin 256) :
    iblk m c 3 t (ix2 0 n) = m ((c : Thread nD τ).loc main_arg3) (ix1 ⟨n.val % 64, Nat.mod_lt _ (by decide)⟩) := by
  refine Eq.trans (b := V m c main_v58 (ix2 0 n)) ?_ (entry_gq m c n)
  blk_ext [iblk, idx t]
theorem read_gk (c : Dev nD) (t : Fin cfg0.N) (n : Fin 256) :
    iblk m c 4 t (ix2 0 n) = m ((c : Thread nD τ).loc main_arg4) (ix1 ⟨n.val % 64, Nat.mod_lt _ (by decide)⟩) := by
  refine Eq.trans (b := V m c main_v62 (ix2 0 n)) ?_ (entry_gk m c n)
  blk_ext [iblk, idx t]
theorem read_seg (c : Dev nD) (t : Fin cfg0.N) (k n : Fin 256) :
    iblk m c 7 t (ix2 k n) = if k.val / 64 = n.val / 64 then (1 : EReal) else 0 := by
  refine Eq.trans (b := V m c main_v54 (ix2 k n)) ?_ (entry_seg m c k n)
  blk_ext [iblk, idx t]

section Point

variable (c : Dev nD) (t : Fin cfg0.N) (i : Fin 8) (l : Fin 4096) (r : Fin 512) (hi : (grid0.coords t 0).val = i.val)
  (hl : (grid0.coords t 1).val * 512 + r.val = l.val)

section Rows
include hi hl

theorem read_q (k : Fin 256) : iblk m c 0 t (ix3 0 r k) = m ((c : Thread nD τ).loc main_arg0) (ix3 i l k) := by
  have hi' := hi.symm
  blk_ext [iblk, V, idx t]
theorem read_k (k : Fin 128) : iblk m c 1 t (ix3 0 r k) = m ((c : Thread nD τ).loc main_arg1) (ix3 i l k) := by
  have hi' := hi.symm
  blk_ext [iblk, V, idx t]
theorem read_v (k : Fin 128) : iblk m c 2 t (ix3 0 r k) = m ((c : Thread nD τ).loc main_arg2) (ix3 i l k) := by
  have hi' := hi.symm
  blk_ext [iblk, V, idx t]
end Rows

section Positions
include hl

theorem read_cos (n : Fin 256) : iblk m c 5 t (ix2 r n) = Qk.cosines l ⟨n.val % 64, Nat.mod_lt _ (by decide)⟩ := by
  refine Eq.trans (b := V m c main_v41 (ix2 l n)) ?_ (cos_apply m c l n)
  blk_ext [iblk, idx t]
theorem read_sin (n : Fin 256) : iblk m c 6 t (ix2 r n) = Qk.sines l ⟨n.val % 64, Nat.mod_lt _ (by decide)⟩ := by
  refine Eq.trans (b := V m c main_v44 (ix2 l n)) ?_ (sin_apply m c l n)
  blk_ext [iblk, idx t]
end Positions

end Point

/-- The loads of the first 128 lanes. -/
theorem ld_gain (x : Vec Ideal S1x256 .f32) (n : Fin 128) : View.ld x r0_5 (ix2 0 n) = x (ix2 0 ⟨n.val, by omega⟩) := by
  refine congrArg x (funext fun a => ?_)
  match a with
  | ⟨0, _⟩ => rfl
  | ⟨1, _⟩ => exact Fin.ext (by show 0 + 1 * n.val = n.val; omega)
theorem ld_table (x : Vec Ideal S512x256 .f32) (r : Fin 512) (n : Fin 128) : View.ld x r0_6 (ix2 r n) = x (ix2 r ⟨n.val, by omega⟩) := by
  refine congrArg x (funext fun a => ?_)
  match a with
  | ⟨0, _⟩ => exact Fin.ext (by show 0 + 1 * r.val = r.val; omega)
  | ⟨1, _⟩ => exact Fin.ext (by show 0 + 1 * n.val = n.val; omega)

/-- The plain queries, keys and values of the launch. -/
abbrev query (c : Dev nD) : FVec Ideal S8x4x4096x64 .bf16 :=
  QkRefIdeal.Hand.query (m ((c : Thread nD τ).loc main_arg0)) (m ((c : Thread nD τ).loc main_arg3))
@[inherit_doc query]
abbrev key (c : Dev nD) : FVec Ideal S8x2x4096x64 .bf16 :=
  QkRefIdeal.Hand.key (m ((c : Thread nD τ).loc main_arg1)) (m ((c : Thread nD τ).loc main_arg4))
@[inherit_doc query]
abbrev value (c : Dev nD) : FVec Ideal S8x2x4096x64 .bf16 := QkRefIdeal.Hand.value (m ((c : Thread nD τ).loc main_arg2))

/-- The queries' block at an entry. -/
theorem block_query (s : Vec Ideal S256x256 .bf16) (x : Vec Ideal S1x512x256 .f32) (g : Vec Ideal S1x256 .f32) (a b : Vec Ideal S512x256 .f32)
    (y0 : Fin 1) (h : Fin 4) (r : Fin 512) (d : Fin 64) :
    Value.E8 s x g a b (ix4 y0 h r d) = k0_pay12 (k0_pay9 s x g) k0_pay10 k0_pay11 a b (ix2 r (lane4 h d)) := by
  show k0_pay12 (k0_pay9 s x g) k0_pay10 k0_pay11 a b (Value.ix8_0 (ix4 y0 h r d)) = _
  refine congrArg (k0_pay12 (k0_pay9 s x g) k0_pay10 k0_pay11 a b) (funext fun k => ?_)
  match k with
  | ⟨0, _⟩ => rfl
  | ⟨1, _⟩ => exact Fin.ext (by show h.val * 64 + d.val = 64 * h.val + d.val; omega)

/-- The first result, for real queries. -/
theorem out_query (c : Dev nD) (hq : ∀ i : S8x4096x256.Idx, ∃ x : ℝ, m ((c : Thread nD τ).loc main_arg0) i = (x : EReal)) :
    (dats m 0 c).arrAt 8 cfg0.N = query m c := by
  refine (dats m 0 c).arrAt_eq_of_covers 8 _ (by decide +kernel) fun t hf y => ?_
  blk_simp
  rw [after0_8, out0_8, k0_pay19]
  simp (discharger := decide) only [View.ld_unit_lit]
  rw [Value.canon8_eq]
  generalize hi : ((View.whole main_v63_0).slice (win0_8.rect t)).emb y = i
  have e0 := congrArg (fun i => (i 0).val) hi
  have e1 := congrArg (fun i => (i 1).val) hi
  have e2 := congrArg (fun i => (i 2).val) hi
  have e3 := congrArg (fun i => (i 3).val) hi
  blk_simp [idx t] at e0 e1 e2 e3
  idx_vars y
  idx_vars i
  obtain rfl : y1 = i1 := Fin.ext e1
  obtain rfl : y3 = i3 := Fin.ext e3
  rw [block_query]
  refine Eq.trans (blockq (iblk m c 7 t) y2 i2 (fun e => m ((c : Thread nD τ).loc main_arg3) (ix1 e)) (read_seg m c t)
    (iblk m c 0 t) (iblk m c 3 t) (iblk m c 5 t) (iblk m c 6 t)
    (fun k => by rw [read_q m c t i0 i2 y2 e0 e2]; exact hq _) (read_gq m c t) (read_cos m c t i2 y2 e2) (read_sin m c t i2 y2 e2) y1 y3) ?_
  simp only [read_q m c t i0 i2 y2 e0 e2]
  exact (QkRefIdeal.Hand.query_apply _ _ _ _ _ _).symm

/-- The second result, for real keys. -/
theorem out_key (c : Dev nD) (hk : ∀ i : S8x4096x128.Idx, ∃ x : ℝ, m ((c : Thread nD τ).loc main_arg1) i = (x : EReal)) :
    (dats m 0 c).arrAt 9 cfg0.N = key m c := by
  refine (dats m 0 c).arrAt_eq_of_covers 9 _ (by decide +kernel) fun t hf y => ?_
  blk_simp
  rw [after0_9, out0_9, canon2, k0_pay20]
  simp (discharger := decide) only [View.ld_unit_lit]
  generalize hi : ((View.whole main_v63_1).slice (win0_9.rect t)).emb y = i
  have e0 := congrArg (fun i => (i 0).val) hi
  have e1 := congrArg (fun i => (i 1).val) hi
  have e2 := congrArg (fun i => (i 2).val) hi
  have e3 := congrArg (fun i => (i 3).val) hi
  blk_simp [idx t] at e0 e1 e2 e3
  idx_vars y
  idx_vars i
  obtain rfl : y1 = i1 := Fin.ext e1
  obtain rfl : y3 = i3 := Fin.ext e3
  refine Eq.trans (blockk (iblk m c 7 t) y2 i2 (fun e => m ((c : Thread nD τ).loc main_arg4) (ix1 e)) (read_seg m c t)
    (iblk m c 1 t) (View.ld (iblk m c 4 t) r0_5) (View.ld (iblk m c 5 t) r0_6) (View.ld (iblk m c 6 t) r0_6)
    (fun k => by rw [read_k m c t i0 i2 y2 e0 e2]; exact hk _)
    (fun n => (ld_gain _ n).trans (read_gk m c t _))
    (fun n => (ld_table _ y2 n).trans (read_cos m c t i2 y2 e2 _))
    (fun n => (ld_table _ y2 n).trans (read_sin m c t i2 y2 e2 _)) y1 y3) ?_
  simp only [read_k m c t i0 i2 y2 e0 e2]
  exact (QkRefIdeal.Hand.key_apply _ _ _ _ _ _).symm

/-- The third result. -/
theorem out_value (c : Dev nD) : (dats m 0 c).arrAt 10 cfg0.N = value m c := by
  refine (dats m 0 c).arrAt_eq_of_covers 10 _ (by decide +kernel) fun t hf y => ?_
  blk_simp
  rw [after0_10, out0_10, k0_pay21]
  simp (discharger := decide) only [View.ld_unit_lit]
  rw [Value.canon10_eq]
  generalize hi : ((View.whole main_v63_2).slice (win0_10.rect t)).emb y = i
  have e0 := congrArg (fun i => (i 0).val) hi
  have e1 := congrArg (fun i => (i 1).val) hi
  have e2 := congrArg (fun i => (i 2).val) hi
  have e3 := congrArg (fun i => (i 3).val) hi
  blk_simp [idx t] at e0 e1 e2 e3
  idx_vars y
  idx_vars i
  obtain rfl : y1 = i1 := Fin.ext e1
  obtain rfl : y3 = i3 := Fin.ext e3
  refine Eq.trans ?_ (QkRefIdeal.Hand.value_apply _ i0 y1 i2 y3).symm
  rw [← read_v m c t i0 i2 y2 e0 e2]
  refine congrArg (iblk m c 2 t) (funext fun a => ?_)
  match a with
  | ⟨0, _⟩ => rfl
  | ⟨1, _⟩ => rfl
  | ⟨2, _⟩ => exact Fin.ext (by show y1.val * 64 + y3.val = 64 * y1.val + y3.val; omega)

end Cert.QkIdeal.Hand

end
-- ==== Proof.QkClaims.lean ====
/- The claims about the queries' and keys' norm and rotation: its frames, and that its three results are the plain ones. -/
module

public import proofs.«01_k».proof.Defs
public import proofs.«01_k».proof.Proof.QkOut
public import proofs.«01_k».proof.Proof.AttnRef
public import proofs.«01_k».proof.Pre_finite_u
public import proofs.«01_k».proof.Proof.Gen.Qk.Frame
public import proofs.«01_k».proof.Proof.Gen.QkIdeal.Frame
public import proofs.«01_k».proof.Proof.Gen.QkRefIdeal.Run
public import proofs.«01_k».proof.Proof.Gen.Pre_finite_u
public import Idealize.ShloMosaic.Adequacy
public import Idealize.ShloMosaic.Init

@[expose] public section

set_option maxRecDepth 16384

noncomputable section

namespace Cert.Proof.QkClaims

open Idealize.ShloMosaic Idealize.SL.Sem

/-- The call runs and leaves its semaphores at zero, at every instance of the floats. -/
theorem frame_p : Cert.quiescent_Qk := fun m ρ _ => Cert.Qk.Gen.frame m ρ
/-- The same of its ideal reading. -/
theorem frame_pi : Cert.quiescent_QkIdeal := fun m ρ _ => Cert.QkIdeal.Gen.frame m ρ
theorem frame_pi_pre : Cert.quiescent_QkIdeal_pre_finite_u := fun m ρ _ => Cert.QkIdeal.Gen.frame m ρ
/-- The same of the reference, which has no semaphores. -/
theorem frame_ri : Cert.quiescent_QkRefIdeal := fun m ρ _ =>
  (θ_run Cert.QkRefIdeal.defs _ _).mono (fun r h => ⟨fun c => (h c).2.2.2, sem_eq_zero_of_no_sems (by decide) r.2⟩)
    (Cert.QkRefIdeal.Value.run (F := Ideal) m ρ)
theorem frame_ri_pre : Cert.quiescent_QkRefIdeal_pre_finite_u := fun m ρ _ => frame_ri m ρ trivial

/-- The ideal reading rewrote nothing. -/
theorem preserves : Cert.preserves_Qk_QkIdeal := trivial

open Cert.AttnRefIdeal.Hand (AllReal real_of_abs_lt) in
/-- The precondition says that every entry the queries and keys are made of is a real number. -/
theorem finite_of_pre [Cert.Pre_finite_u.Facts] {q : FVec Ideal Cert.Pre_finite_u.S8x4096x256 .f32} {k v : FVec Ideal Cert.Pre_finite_u.S8x4096x128 .f32}
    {g g' : FVec Ideal Cert.Pre_finite_u.S64 .f32} (h : Cert.Pre_finite_u.fn (F := Ideal) q k v g g' = fun _ => 1#1) : AllReal q ∧ AllReal k := by
  have h0 := congrFun h ix0
  unfold Cert.Pre_finite_u.fn at h0
  haveI : Subsingleton Cert.Pre_finite_u.S_.Idx := ⟨fun a b => funext fun x => x.elim0⟩
  obtain ⟨ha, hb⟩ := IntOp.andi_eq_one.mp h0
  exact ⟨fun i => real_of_abs_lt _ (Host.reduce_andi_all _ _ _ _ _ ha i), fun i => real_of_abs_lt _ (Host.reduce_andi_all _ _ _ _ _ hb i)⟩

/-- From equal arguments, finite ones for the queries and keys, kernel and reference leave the same three results. -/
theorem algebraic : Cert.algebraic_QkIdeal_QkRefIdeal_pre_finite_u := by
  intro m ρ m' ρ' hpre hagree
  have hfin := fun c => finite_of_pre (hpre c)
  refine ⟨fun c => QkIdeal.Hand.query m c, fun c => QkIdeal.Hand.key m c, fun c => QkIdeal.Hand.value m c, ?_, ?_⟩
  · refine (θ_run Cert.QkIdeal.defs _ _).mono (fun _ h c => ?_) (Cert.QkIdeal.Value.run_blocks (F := Ideal) m ρ)
    obtain ⟨h0, h1, h2, hk⟩ := h c
    exact ⟨h0.trans (QkIdeal.Hand.out_query m c (hfin c).1), h1.trans (QkIdeal.Hand.out_key m c (hfin c).2),
      h2.trans (QkIdeal.Hand.out_value m c), hk⟩
  · refine (θ_run Cert.QkRefIdeal.defs _ _).mono (fun _ h c => ?_) (Cert.QkRefIdeal.Value.run (F := Ideal) m' ρ')
    obtain ⟨h0, h1, h2, hk⟩ := h c
    obtain ⟨a0, a1, a2, a3, a4⟩ := hagree c
    rw [QkRefIdeal.Hand.res_query, a0, a3] at h0
    rw [QkRefIdeal.Hand.res_key, a1, a4] at h1
    rw [a2] at h2
    exact ⟨h0, h1, h2, hk⟩

end Cert.Proof.QkClaims

end
-- ==== Proof.lean ====
/- The whole claim: the side conditions of the programs, then every program's claims, each proved in its own module. -/
module

public import proofs.«01_k».proof.Defs
public import proofs.«01_k».proof.Proof.AttnClaims
public import proofs.«01_k».proof.Proof.FfnClaims
public import proofs.«01_k».proof.Proof.ResidClaims
public import proofs.«01_k».proof.Proof.MergeClaims
public import proofs.«01_k».proof.Proof.TailClaims
public import proofs.«01_k».proof.Proof.InFirstClaims
public import proofs.«01_k».proof.Proof.InNextClaims
public import proofs.«01_k».proof.Proof.QkClaims
public import proofs.«01_k».proof.Proof.Gen.Attn
public import proofs.«01_k».proof.Proof.Gen.AttnIdeal
public import proofs.«01_k».proof.Proof.Gen.AttnRefIdeal
public import proofs.«01_k».proof.Proof.Gen.Ffn
public import proofs.«01_k».proof.Proof.Gen.FfnIdeal
public import proofs.«01_k».proof.Proof.Gen.FfnRefIdeal
public import proofs.«01_k».proof.Proof.Gen.Resid
public import proofs.«01_k».proof.Proof.Gen.ResidIdeal
public import proofs.«01_k».proof.Proof.Gen.ResidRefIdeal
public import proofs.«01_k».proof.Proof.Gen.Merge
public import proofs.«01_k».proof.Proof.Gen.MergeIdeal
public import proofs.«01_k».proof.Proof.Gen.MergeRefIdeal
public import proofs.«01_k».proof.Proof.Gen.Tail
public import proofs.«01_k».proof.Proof.Gen.TailIdeal
public import proofs.«01_k».proof.Proof.Gen.TailRefIdeal
public import proofs.«01_k».proof.Proof.Gen.InFirst
public import proofs.«01_k».proof.Proof.Gen.InFirstIdeal
public import proofs.«01_k».proof.Proof.Gen.InFirstRefIdeal
public import proofs.«01_k».proof.Proof.Gen.InNext
public import proofs.«01_k».proof.Proof.Gen.InNextIdeal
public import proofs.«01_k».proof.Proof.Gen.InNextRefIdeal
public import proofs.«01_k».proof.Proof.Gen.Qk
public import proofs.«01_k».proof.Proof.Gen.QkIdeal
public import proofs.«01_k».proof.Proof.Gen.QkRefIdeal
public import proofs.«01_k».proof.Proof.Gen.Pre_finite_qk
public import proofs.«01_k».proof.Proof.Gen.Pre_finite_u

@[expose] public section

namespace Cert.Proof

/-- Everything the statement claims. -/
theorem claim : Cert.Claim :=
  ⟨Cert.Attn.Gen.facts, Cert.AttnIdeal.Gen.facts, Cert.AttnRefIdeal.Gen.facts, Cert.Ffn.Gen.facts,
    Cert.FfnIdeal.Gen.facts, Cert.FfnRefIdeal.Gen.facts, Cert.Resid.Gen.facts, Cert.ResidIdeal.Gen.facts,
    Cert.ResidRefIdeal.Gen.facts, Cert.Merge.Gen.facts, Cert.MergeIdeal.Gen.facts, Cert.MergeRefIdeal.Gen.facts,
    Cert.Tail.Gen.facts, Cert.TailIdeal.Gen.facts, Cert.TailRefIdeal.Gen.facts, Cert.InFirst.Gen.facts,
    Cert.InFirstIdeal.Gen.facts, Cert.InFirstRefIdeal.Gen.facts, Cert.InNext.Gen.facts, Cert.InNextIdeal.Gen.facts,
    Cert.InNextRefIdeal.Gen.facts, Cert.Qk.Gen.facts, Cert.QkIdeal.Gen.facts, Cert.QkRefIdeal.Gen.facts,
    Cert.Pre_finite_qk.Gen.facts, Cert.Pre_finite_u.Gen.facts, AttnClaims.frame_p, AttnClaims.frame_pi,
    AttnClaims.frame_pi_pre, AttnClaims.frame_ri, AttnClaims.frame_ri_pre, FfnClaims.frame_p, FfnClaims.frame_pi,
    FfnClaims.frame_ri, ResidClaims.frame_p, ResidClaims.frame_pi, ResidClaims.frame_ri, MergeClaims.frame_p,
    MergeClaims.frame_pi, MergeClaims.frame_ri, TailClaims.frame_p, TailClaims.frame_pi, TailClaims.frame_ri,
    InFirstClaims.frame_p, InFirstClaims.frame_pi, InFirstClaims.frame_ri, InNextClaims.frame_p,
    InNextClaims.frame_pi, InNextClaims.frame_ri, QkClaims.frame_p, QkClaims.frame_pi, QkClaims.frame_pi_pre,
    QkClaims.frame_ri, QkClaims.frame_ri_pre, AttnClaims.preserves, AttnClaims.algebraic, FfnClaims.preserves,
    FfnClaims.algebraic, ResidClaims.preserves, ResidClaims.algebraic, MergeClaims.preserves, MergeClaims.algebraic,
    TailClaims.preserves, TailClaims.algebraic, InFirstClaims.preserves, InFirstClaims.algebraic,
    InNextClaims.preserves, InNextClaims.algebraic, QkClaims.preserves, QkClaims.algebraic⟩

end Cert.Proof

end
